-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "exp_scale" .f32 0x3D66D4CA#32 (((Real.log 2)⁻¹ * (5 / 128) : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1920x256 : Shape := ⟨3, ![12, 1920, 256]⟩
abbrev S12x1920 : Shape := ⟨2, ![12, 1920]⟩
abbrev S12x2016x256 : Shape := ⟨3, ![12, 2016, 256]⟩
abbrev S12x2016 : Shape := ⟨2, ![12, 2016]⟩
abbrev S12x1920x2016 : Shape := ⟨3, ![12, 1920, 2016]⟩
abbrev S1x1920x256 : Shape := ⟨3, ![1, 1920, 256]⟩
abbrev S1x2016x256 : Shape := ⟨3, ![1, 2016, 256]⟩
abbrev S1x1920x2016 : Shape := ⟨3, ![1, 1920, 2016]⟩
abbrev S1920x2048 : Shape := ⟨2, ![1920, 2048]⟩
abbrev S12x1x1920 : Shape := ⟨3, ![12, 1, 1920]⟩
abbrev S1920x128 : Shape := ⟨2, ![1920, 128]⟩
abbrev S12x8x2048 : Shape := ⟨3, ![12, 8, 2048]⟩
abbrev S8x2048 : Shape := ⟨2, ![8, 2048]⟩
abbrev S12x1x2048 : Shape := ⟨3, ![12, 1, 2048]⟩
abbrev S1x1920 : Shape := ⟨2, ![1, 1920]⟩
abbrev S1x1x1920 : Shape := ⟨3, ![1, 1, 1920]⟩
abbrev S1x128 : Shape := ⟨2, ![1, 128]⟩
abbrev S8x128 : Shape := ⟨2, ![8, 128]⟩
abbrev S1x8x128 : Shape := ⟨3, ![1, 8, 128]⟩
abbrev S1x96 : Shape := ⟨2, ![1, 96]⟩
abbrev S8x96 : Shape := ⟨2, ![8, 96]⟩
abbrev S1x8x96 : Shape := ⟨3, ![1, 8, 96]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩
abbrev S1x224x256 : Shape := ⟨3, ![1, 224, 256]⟩
abbrev S224x256 : Shape := ⟨2, ![224, 256]⟩
abbrev S128x224 : Shape := ⟨2, ![128, 224]⟩
abbrev S1x1x128 : Shape := ⟨3, ![1, 1, 128]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S16x128 : Shape := ⟨2, ![16, 128]⟩
abbrev S1x128x2016 : Shape := ⟨3, ![1, 128, 2016]⟩
abbrev S128x2016 : Shape := ⟨2, ![128, 2016]⟩
abbrev S1x16x128 : Shape := ⟨3, ![1, 16, 128]⟩
abbrev S16x96 : Shape := ⟨2, ![16, 96]⟩
abbrev S1x16x96 : Shape := ⟨3, ![1, 16, 96]⟩
abbrev S1x1x2016 : Shape := ⟨3, ![1, 1, 2016]⟩
abbrev S1x2016 : Shape := ⟨2, ![1, 2016]⟩

abbrev nBuf : Space → Nat
  | .hbm => 7
  | .vmem => 23
  | .smem => 0
  | _ => 0

abbrev bufTy : (tb : Table) → Fin (tcTables nBuf tb) → BufTy
  | .hbm, ⟨0, _⟩ => ⟨S12x1920x256, .fp8e4m3⟩
  | .hbm, ⟨1, _⟩ => ⟨S12x1920, .f32⟩
  | .hbm, ⟨2, _⟩ => ⟨S12x2016x256, .fp8e4m3⟩
  | .hbm, ⟨3, _⟩ => ⟨S12x2016, .f32⟩
  | .hbm, ⟨4, _⟩ => ⟨S12x1920x2016, .bf16⟩
  | .hbm, ⟨5, _⟩ => ⟨S12x1920, .f32⟩
  | .hbm, ⟨6, _⟩ => ⟨S12x2016, .f32⟩
  | .local _ .vmem, ⟨0, _⟩ => ⟨S1x1920x256, .fp8e4m3⟩
  | .local _ .vmem, ⟨1, _⟩ => ⟨S1x1920x256, .fp8e4m3⟩
  | .local _ .vmem, ⟨2, _⟩ => ⟨S12x1920, .f32⟩
  | .local _ .vmem, ⟨3, _⟩ => ⟨S1x2016x256, .fp8e4m3⟩
  | .local _ .vmem, ⟨4, _⟩ => ⟨S1x2016x256, .fp8e4m3⟩
  | .local _ .vmem, ⟨5, _⟩ => ⟨S12x2016, .f32⟩
  | .local _ .vmem, ⟨6, _⟩ => ⟨S1x1920x2016, .bf16⟩
  | .local _ .vmem, ⟨7, _⟩ => ⟨S1x1920x2016, .bf16⟩
  | .local _ .vmem, ⟨8, _⟩ => ⟨S12x1920, .f32⟩
  | .local _ .vmem, ⟨9, _⟩ => ⟨S12x2016, .f32⟩
  | .local _ .vmem, ⟨10, _⟩ => ⟨S1920x2048, .f32⟩
  | .local _ .vmem, ⟨11, _⟩ => ⟨S1920x2048, .f32⟩
  | .local _ .vmem, ⟨12, _⟩ => ⟨S12x1x1920, .f32⟩
  | .local _ .vmem, ⟨13, _⟩ => ⟨S1920x128, .f32⟩
  | .local _ .vmem, ⟨14, _⟩ => ⟨S12x8x2048, .f32⟩
  | .local _ .vmem, ⟨15, _⟩ => ⟨S1920x128, .f32⟩
  | .local _ .vmem, ⟨16, _⟩ => ⟨S1920x128, .f32⟩
  | .local _ .vmem, ⟨17, _⟩ => ⟨S1920x128, .f32⟩
  | .local _ .vmem, ⟨18, _⟩ => ⟨S1920x128, .f32⟩
  | .local _ .vmem, ⟨19, _⟩ => ⟨S8x2048, .f32⟩
  | .local _ .vmem, ⟨20, _⟩ => ⟨S8x2048, .f32⟩
  | .local _ .vmem, ⟨21, _⟩ => ⟨S12x1x1920, .f32⟩
  | .local _ .vmem, ⟨22, _⟩ => ⟨S12x1x2048, .f32⟩
  | _, _ => ⟨S12x1920x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1008 : BitVec 32 := 0#32
  let c15_i32 : BitVec 32 := 15#32
  let v1233 : BitVec 32 := Scalar.addi c0_i32_1008 c15_i32
  let c1_i32 : BitVec 32 := 1#32
  ⟨c0_i32_1008, v1233, c1_i32⟩
def k0_mult1 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32 : BitVec 32 := 128#32
  let v1234 : BitVec 32 := Scalar.muli arg21 c128_i32
  v1234
def k0_off1 (k0_t1 : Fin k0_t1_loop.trips) : Fin 3 → Nat :=
  let c0_1010 : Index := 0#32
  let c0_i32_1008 : BitVec 32 := 0#32
  let c1_i32 : BitVec 32 := 1#32
  let arg21 : BitVec 32 := Scf.iv c0_i32_1008 c1_i32 k0_t1
  let c128_i32 : BitVec 32 := 128#32
  let v1234 : BitVec 32 := Scalar.muli arg21 c128_i32
  let v1235 : BitVec 32 := v1234
  let v1236 : Index := Scalar.indexCast v1235
  let c0_1011 : Index := 0#32
  ![0, v1236.toNat, 0]
def k0_mult2 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1016 : BitVec 32 := 128#32
  let v1242 : BitVec 32 := Scalar.muli arg21 c128_i32_1016
  v1242
def k0_off2 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1016 : BitVec 32 := 128#32
  let v1242 : BitVec 32 := Scalar.muli arg21 c128_i32_1016
  let v1243 : BitVec 32 := v1242
  let v1244 : Index := Scalar.indexCast v1243
  let c0_1017 : Index := 0#32
  ![v1244.toNat, 0]
def k0_mult3 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1022 : BitVec 32 := 128#32
  let v1251 : BitVec 32 := Scalar.muli arg21 c128_i32_1022
  v1251
def k0_off3 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1022 : BitVec 32 := 128#32
  let v1251 : BitVec 32 := Scalar.muli arg21 c128_i32_1022
  let v1252 : BitVec 32 := v1251
  let v1253 : Index := Scalar.indexCast v1252
  let c256_1023 : Index := 256#32
  ![v1253.toNat, 256]
def k0_mult4 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1028 : BitVec 32 := 128#32
  let v1260 : BitVec 32 := Scalar.muli arg21 c128_i32_1028
  v1260
def k0_off4 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1028 : BitVec 32 := 128#32
  let v1260 : BitVec 32 := Scalar.muli arg21 c128_i32_1028
  let v1261 : BitVec 32 := v1260
  let v1262 : Index := Scalar.indexCast v1261
  let c512_1029 : Index := 512#32
  ![v1262.toNat, 512]
def k0_mult5 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1034 : BitVec 32 := 128#32
  let v1269 : BitVec 32 := Scalar.muli arg21 c128_i32_1034
  v1269
def k0_off5 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1034 : BitVec 32 := 128#32
  let v1269 : BitVec 32 := Scalar.muli arg21 c128_i32_1034
  let v1270 : BitVec 32 := v1269
  let v1271 : Index := Scalar.indexCast v1270
  let c768_1035 : Index := 768#32
  ![v1271.toNat, 768]
def k0_mult6 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1040 : BitVec 32 := 128#32
  let v1278 : BitVec 32 := Scalar.muli arg21 c128_i32_1040
  v1278
def k0_off6 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1040 : BitVec 32 := 128#32
  let v1278 : BitVec 32 := Scalar.muli arg21 c128_i32_1040
  let v1279 : BitVec 32 := v1278
  let v1280 : Index := Scalar.indexCast v1279
  let c1024_1041 : Index := 1024#32
  ![v1280.toNat, 1024]
def k0_mult7 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1046 : BitVec 32 := 128#32
  let v1287 : BitVec 32 := Scalar.muli arg21 c128_i32_1046
  v1287
def k0_off7 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1046 : BitVec 32 := 128#32
  let v1287 : BitVec 32 := Scalar.muli arg21 c128_i32_1046
  let v1288 : BitVec 32 := v1287
  let v1289 : Index := Scalar.indexCast v1288
  let c1280_1047 : Index := 1280#32
  ![v1289.toNat, 1280]
def k0_mult8 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1052 : BitVec 32 := 128#32
  let v1296 : BitVec 32 := Scalar.muli arg21 c128_i32_1052
  v1296
def k0_off8 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1052 : BitVec 32 := 128#32
  let v1296 : BitVec 32 := Scalar.muli arg21 c128_i32_1052
  let v1297 : BitVec 32 := v1296
  let v1298 : Index := Scalar.indexCast v1297
  let c1536_1053 : Index := 1536#32
  ![v1298.toNat, 1536]
def k0_mult9 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1058 : BitVec 32 := 128#32
  let v1305 : BitVec 32 := Scalar.muli arg21 c128_i32_1058
  v1305
def k0_off9 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1058 : BitVec 32 := 128#32
  let v1305 : BitVec 32 := Scalar.muli arg21 c128_i32_1058
  let v1306 : BitVec 32 := v1305
  let v1307 : Index := Scalar.indexCast v1306
  let c1792_1059 : Index := 1792#32
  ![v1307.toNat, 1792]
def k0_mult10 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1060 : BitVec 32 := 128#32
  let v1311 : BitVec 32 := Scalar.muli arg21 c128_i32_1060
  v1311
def k0_off10 (k0_t1 : Fin k0_t1_loop.trips) : Fin 3 → Nat :=
  let c0_1061 : Index := 0#32
  let c0_1062 : Index := 0#32
  let c0_i32_1008 : BitVec 32 := 0#32
  let c1_i32 : BitVec 32 := 1#32
  let arg21 : BitVec 32 := Scf.iv c0_i32_1008 c1_i32 k0_t1
  let c128_i32_1060 : BitVec 32 := 128#32
  let v1311 : BitVec 32 := Scalar.muli arg21 c128_i32_1060
  let v1312 : BitVec 32 := v1311
  let v1313 : Index := Scalar.indexCast v1312
  ![0, 0, v1313.toNat]
def k0_mult11 (k0_t1 : Fin k0_t1_loop.trips) : BitVec 32 :=
  let c0_i32_1008 : BitVec 32 := 0#32
  let c1_i32 : BitVec 32 := 1#32
  let arg21 : BitVec 32 := Scf.iv c0_i32_1008 c1_i32 k0_t1
  let c128_i32_1063 : BitVec 32 := 128#32
  let v1319 : BitVec 32 := Scalar.muli arg21 c128_i32_1063
  v1319
def k0_off11 (k0_t1 : Fin k0_t1_loop.trips) : Fin 2 → Nat :=
  let c0_i32_1008 : BitVec 32 := 0#32
  let c1_i32 : BitVec 32 := 1#32
  let arg21 : BitVec 32 := Scf.iv c0_i32_1008 c1_i32 k0_t1
  let c128_i32_1063 : BitVec 32 := 128#32
  let v1319 : BitVec 32 := Scalar.muli arg21 c128_i32_1063
  let v1320 : BitVec 32 := v1319
  let v1321 : Index := Scalar.indexCast v1320
  let c0_1064 : Index := 0#32
  ![v1321.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_8 : BitVec 32 := 0#32
  let c15_i32 : BitVec 32 := 15#32
  let v19 : BitVec 32 := Scalar.addi c0_i32_8 c15_i32
  let c1_i32_9 : BitVec 32 := 1#32
  ⟨c0_i32_8, v19, c1_i32_9⟩
def k0_mult12 (k0_t2 : Fin k0_t2_loop.trips) : BitVec 32 :=
  let c0_i32_8 : BitVec 32 := 0#32
  let c1_i32_9 : BitVec 32 := 1#32
  let arg21 : BitVec 32 := Scf.iv c0_i32_8 c1_i32_9 k0_t2
  let c128_i32 : BitVec 32 := 128#32
  let v452 : BitVec 32 := Scalar.muli arg21 c128_i32
  v452
def k0_mult13 (k0_t2 : Fin k0_t2_loop.trips) : BitVec 32 :=
  let c0_i32_8 : BitVec 32 := 0#32
  let c1_i32_9 : BitVec 32 := 1#32
  let arg21 : BitVec 32 := Scf.iv c0_i32_8 c1_i32_9 k0_t2
  let c128_i32_274 : BitVec 32 := 128#32
  let v454 : BitVec 32 := Scalar.muli arg21 c128_i32_274
  v454
def k0_mult14 (k0_t2 : Fin k0_t2_loop.trips) : BitVec 32 :=
  let c0_i32_8 : BitVec 32 := 0#32
  let c1_i32_9 : BitVec 32 := 1#32
  let arg21 : BitVec 32 := Scf.iv c0_i32_8 c1_i32_9 k0_t2
  let c128_i32_275 : BitVec 32 := 128#32
  let v456 : BitVec 32 := Scalar.muli arg21 c128_i32_275
  v456
def k0_mult15 (k0_t2 : Fin k0_t2_loop.trips) : BitVec 32 :=
  let c0_i32_8 : BitVec 32 := 0#32
  let c1_i32_9 : BitVec 32 := 1#32
  let arg21 : BitVec 32 := Scf.iv c0_i32_8 c1_i32_9 k0_t2
  let c128_i32_276 : BitVec 32 := 128#32
  let v458 : BitVec 32 := Scalar.muli arg21 c128_i32_276
  v458
def k0_off12 (k0_t2 : Fin k0_t2_loop.trips) : Fin 2 → Nat :=
  let c0_i32_8 : BitVec 32 := 0#32
  let c1_i32_9 : BitVec 32 := 1#32
  let arg21 : BitVec 32 := Scf.iv c0_i32_8 c1_i32_9 k0_t2
  let c128_i32_275 : BitVec 32 := 128#32
  let v456 : BitVec 32 := Scalar.muli arg21 c128_i32_275
  let v457 : BitVec 32 := v456
  let c0_i32_277 : BitVec 32 := 0#32
  ![v457.toNat, 0]
def k0_off13 (i : grid0.Coords) : Fin 3 → Nat :=
  let arg0 : BitVec 32 := BitVec.ofNat 32 (i 0).val
  let c1_i32 : BitVec 32 := 1#32
  let v9 : BitVec 32 := Scalar.subi arg0 c1_i32
  let v476 : Index := Scalar.indexCast v9
  let c0_294 : Index := 0#32
  let c0_295 : Index := 0#32
  ![v476.toNat, 0, 0]
def k0_off14 (k0_t2 : Fin k0_t2_loop.trips) : Fin 2 → Nat :=
  let c0_i32_8 : BitVec 32 := 0#32
  let c1_i32_9 : BitVec 32 := 1#32
  let arg21 : BitVec 32 := Scf.iv c0_i32_8 c1_i32_9 k0_t2
  let c128_i32 : BitVec 32 := 128#32
  let v452 : BitVec 32 := Scalar.muli arg21 c128_i32
  let v453 : BitVec 32 := v452
  let c0_i32_298 : BitVec 32 := 0#32
  ![v453.toNat, 0]
def k0_off15 (i : grid0.Coords) : Fin 3 → Nat :=
  let arg0 : BitVec 32 := BitVec.ofNat 32 (i 0).val
  let c1_i32 : BitVec 32 := 1#32
  let v9 : BitVec 32 := Scalar.subi arg0 c1_i32
  let v555 : Index := Scalar.indexCast v9
  let c0_348 : Index := 0#32
  let c128_349 : Index := 128#32
  ![v555.toNat, 0, 128]
def k0_off16 (i : grid0.Coords) : Fin 3 → Nat :=
  let arg0 : BitVec 32 := BitVec.ofNat 32 (i 0).val
  let c1_i32 : BitVec 32 := 1#32
  let v9 : BitVec 32 := Scalar.subi arg0 c1_i32
  let v642 : Index := Scalar.indexCast v9
  let c0_402 : Index := 0#32
  let c256_403 : Index := 256#32
  ![v642.toNat, 0, 256]
def k0_off17 (i : grid0.Coords) : Fin 3 → Nat :=
  let arg0 : BitVec 32 := BitVec.ofNat 32 (i 0).val
  let c1_i32 : BitVec 32 := 1#32
  let v9 : BitVec 32 := Scalar.subi arg0 c1_i32
  let v729 : Index := Scalar.indexCast v9
  let c0_456 : Index := 0#32
  let c384_457 : Index := 384#32
  ![v729.toNat, 0, 384]
def k0_off18 (i : grid0.Coords) : Fin 3 → Nat :=
  let arg0 : BitVec 32 := BitVec.ofNat 32 (i 0).val
  let c1_i32 : BitVec 32 := 1#32
  let v9 : BitVec 32 := Scalar.subi arg0 c1_i32
  let v816 : Index := Scalar.indexCast v9
  let c0_510 : Index := 0#32
  let c512_511 : Index := 512#32
  ![v816.toNat, 0, 512]
def k0_off19 (i : grid0.Coords) : Fin 3 → Nat :=
  let arg0 : BitVec 32 := BitVec.ofNat 32 (i 0).val
  let c1_i32 : BitVec 32 := 1#32
  let v9 : BitVec 32 := Scalar.subi arg0 c1_i32
  let v903 : Index := Scalar.indexCast v9
  let c0_564 : Index := 0#32
  let c640_565 : Index := 640#32
  ![v903.toNat, 0, 640]
def k0_off20 (i : grid0.Coords) : Fin 3 → Nat :=
  let arg0 : BitVec 32 := BitVec.ofNat 32 (i 0).val
  let c1_i32 : BitVec 32 := 1#32
  let v9 : BitVec 32 := Scalar.subi arg0 c1_i32
  let v990 : Index := Scalar.indexCast v9
  let c0_618 : Index := 0#32
  let c768_619 : Index := 768#32
  ![v990.toNat, 0, 768]
def k0_off21 (i : grid0.Coords) : Fin 3 → Nat :=
  let arg0 : BitVec 32 := BitVec.ofNat 32 (i 0).val
  let c1_i32 : BitVec 32 := 1#32
  let v9 : BitVec 32 := Scalar.subi arg0 c1_i32
  let v1077 : Index := Scalar.indexCast v9
  let c0_672 : Index := 0#32
  let c896_673 : Index := 896#32
  ![v1077.toNat, 0, 896]
def k0_off22 (i : grid0.Coords) : Fin 3 → Nat :=
  let arg0 : BitVec 32 := BitVec.ofNat 32 (i 0).val
  let c1_i32 : BitVec 32 := 1#32
  let v9 : BitVec 32 := Scalar.subi arg0 c1_i32
  let v1164 : Index := Scalar.indexCast v9
  let c0_726 : Index := 0#32
  let c1024_727 : Index := 1024#32
  ![v1164.toNat, 0, 1024]
def k0_off23 (i : grid0.Coords) : Fin 3 → Nat :=
  let arg0 : BitVec 32 := BitVec.ofNat 32 (i 0).val
  let c1_i32 : BitVec 32 := 1#32
  let v9 : BitVec 32 := Scalar.subi arg0 c1_i32
  let v1251 : Index := Scalar.indexCast v9
  let c0_780 : Index := 0#32
  let c1152_781 : Index := 1152#32
  ![v1251.toNat, 0, 1152]
def k0_off24 (i : grid0.Coords) : Fin 3 → Nat :=
  let arg0 : BitVec 32 := BitVec.ofNat 32 (i 0).val
  let c1_i32 : BitVec 32 := 1#32
  let v9 : BitVec 32 := Scalar.subi arg0 c1_i32
  let v1338 : Index := Scalar.indexCast v9
  let c0_834 : Index := 0#32
  let c1280_835 : Index := 1280#32
  ![v1338.toNat, 0, 1280]
def k0_off25 (i : grid0.Coords) : Fin 3 → Nat :=
  let arg0 : BitVec 32 := BitVec.ofNat 32 (i 0).val
  let c1_i32 : BitVec 32 := 1#32
  let v9 : BitVec 32 := Scalar.subi arg0 c1_i32
  let v1425 : Index := Scalar.indexCast v9
  let c0_888 : Index := 0#32
  let c1408_889 : Index := 1408#32
  ![v1425.toNat, 0, 1408]
def k0_off26 (i : grid0.Coords) : Fin 3 → Nat :=
  let arg0 : BitVec 32 := BitVec.ofNat 32 (i 0).val
  let c1_i32 : BitVec 32 := 1#32
  let v9 : BitVec 32 := Scalar.subi arg0 c1_i32
  let v1512 : Index := Scalar.indexCast v9
  let c0_942 : Index := 0#32
  let c1536_943 : Index := 1536#32
  ![v1512.toNat, 0, 1536]
def k0_off27 (i : grid0.Coords) : Fin 3 → Nat :=
  let arg0 : BitVec 32 := BitVec.ofNat 32 (i 0).val
  let c1_i32 : BitVec 32 := 1#32
  let v9 : BitVec 32 := Scalar.subi arg0 c1_i32
  let v1599 : Index := Scalar.indexCast v9
  let c0_996 : Index := 0#32
  let c1664_997 : Index := 1664#32
  ![v1599.toNat, 0, 1664]
def k0_off28 (i : grid0.Coords) : Fin 3 → Nat :=
  let arg0 : BitVec 32 := BitVec.ofNat 32 (i 0).val
  let c1_i32 : BitVec 32 := 1#32
  let v9 : BitVec 32 := Scalar.subi arg0 c1_i32
  let v1686 : Index := Scalar.indexCast v9
  let c0_1050 : Index := 0#32
  let c1792_1051 : Index := 1792#32
  ![v1686.toNat, 0, 1792]
def k0_off29 (i : grid0.Coords) : Fin 3 → Nat :=
  let arg0 : BitVec 32 := BitVec.ofNat 32 (i 0).val
  let c1_i32 : BitVec 32 := 1#32
  let v9 : BitVec 32 := Scalar.subi arg0 c1_i32
  let v1773 : Index := Scalar.indexCast v9
  let c0_1104 : Index := 0#32
  let c1920_1105 : Index := 1920#32
  ![v1773.toNat, 0, 1920]
def k0_mult16 : BitVec 32 :=
  let c0_i32_11 : BitVec 32 := 0#32
  c0_i32_11
def k0_mult17 : BitVec 32 :=
  let c0_i32_14 : BitVec 32 := 0#32
  c0_i32_14
@[reducible] def k0_t3_loop : Scf.Loop 32 :=
  let c0_i32_81 : BitVec 32 := 0#32
  let c15_i32_82 : BitVec 32 := 15#32
  let v160 : BitVec 32 := Scalar.addi c0_i32_81 c15_i32_82
  let c1_i32_83 : BitVec 32 := 1#32
  ⟨c0_i32_81, v160, c1_i32_83⟩
def k0_mult18 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32 : BitVec 32 := 128#32
  let v452 : BitVec 32 := Scalar.muli arg21 c128_i32
  v452
def k0_mult19 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_274 : BitVec 32 := 128#32
  let v454 : BitVec 32 := Scalar.muli arg21 c128_i32_274
  v454
def k0_mult20 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_275 : BitVec 32 := 128#32
  let v456 : BitVec 32 := Scalar.muli arg21 c128_i32_275
  v456
def k0_mult21 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_276 : BitVec 32 := 128#32
  let v458 : BitVec 32 := Scalar.muli arg21 c128_i32_276
  v458
def k0_off30 (k0_t3 : Fin k0_t3_loop.trips) : Fin 3 → Nat :=
  let c0_277 : Index := 0#32
  let c0_i32_81 : BitVec 32 := 0#32
  let c1_i32_83 : BitVec 32 := 1#32
  let arg21 : BitVec 32 := Scf.iv c0_i32_81 c1_i32_83 k0_t3
  let c128_i32_276 : BitVec 32 := 128#32
  let v458 : BitVec 32 := Scalar.muli arg21 c128_i32_276
  let v459 : BitVec 32 := v458
  let v460 : Index := Scalar.indexCast v459
  let c0_278 : Index := 0#32
  ![0, v460.toNat, 0]
def k0_mult22 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_283 : BitVec 32 := 128#32
  let v466 : BitVec 32 := Scalar.muli arg21 c128_i32_283
  v466
def k0_off31 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_283 : BitVec 32 := 128#32
  let v466 : BitVec 32 := Scalar.muli arg21 c128_i32_283
  let v467 : BitVec 32 := v466
  let v468 : Index := Scalar.indexCast v467
  let c0_284 : Index := 0#32
  ![v468.toNat, 0]
def k0_mult23 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_289 : BitVec 32 := 128#32
  let v475 : BitVec 32 := Scalar.muli arg21 c128_i32_289
  v475
def k0_off32 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_289 : BitVec 32 := 128#32
  let v475 : BitVec 32 := Scalar.muli arg21 c128_i32_289
  let v476 : BitVec 32 := v475
  let v477 : Index := Scalar.indexCast v476
  let c256_290 : Index := 256#32
  ![v477.toNat, 256]
def k0_mult24 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_295 : BitVec 32 := 128#32
  let v484 : BitVec 32 := Scalar.muli arg21 c128_i32_295
  v484
def k0_off33 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_295 : BitVec 32 := 128#32
  let v484 : BitVec 32 := Scalar.muli arg21 c128_i32_295
  let v485 : BitVec 32 := v484
  let v486 : Index := Scalar.indexCast v485
  let c512_296 : Index := 512#32
  ![v486.toNat, 512]
def k0_mult25 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_301 : BitVec 32 := 128#32
  let v493 : BitVec 32 := Scalar.muli arg21 c128_i32_301
  v493
def k0_off34 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_301 : BitVec 32 := 128#32
  let v493 : BitVec 32 := Scalar.muli arg21 c128_i32_301
  let v494 : BitVec 32 := v493
  let v495 : Index := Scalar.indexCast v494
  let c768_302 : Index := 768#32
  ![v495.toNat, 768]
def k0_mult26 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_307 : BitVec 32 := 128#32
  let v502 : BitVec 32 := Scalar.muli arg21 c128_i32_307
  v502
def k0_off35 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_307 : BitVec 32 := 128#32
  let v502 : BitVec 32 := Scalar.muli arg21 c128_i32_307
  let v503 : BitVec 32 := v502
  let v504 : Index := Scalar.indexCast v503
  let c1024_308 : Index := 1024#32
  ![v504.toNat, 1024]
def k0_mult27 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_313 : BitVec 32 := 128#32
  let v511 : BitVec 32 := Scalar.muli arg21 c128_i32_313
  v511
def k0_off36 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_313 : BitVec 32 := 128#32
  let v511 : BitVec 32 := Scalar.muli arg21 c128_i32_313
  let v512 : BitVec 32 := v511
  let v513 : Index := Scalar.indexCast v512
  let c1280_314 : Index := 1280#32
  ![v513.toNat, 1280]
def k0_mult28 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_319 : BitVec 32 := 128#32
  let v520 : BitVec 32 := Scalar.muli arg21 c128_i32_319
  v520
def k0_off37 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_319 : BitVec 32 := 128#32
  let v520 : BitVec 32 := Scalar.muli arg21 c128_i32_319
  let v521 : BitVec 32 := v520
  let v522 : Index := Scalar.indexCast v521
  let c1536_320 : Index := 1536#32
  ![v522.toNat, 1536]
def k0_mult29 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_325 : BitVec 32 := 128#32
  let v529 : BitVec 32 := Scalar.muli arg21 c128_i32_325
  v529
def k0_off38 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_325 : BitVec 32 := 128#32
  let v529 : BitVec 32 := Scalar.muli arg21 c128_i32_325
  let v530 : BitVec 32 := v529
  let v531 : Index := Scalar.indexCast v530
  let c1792_326 : Index := 1792#32
  ![v531.toNat, 1792]
def k0_mult30 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_327 : BitVec 32 := 128#32
  let v535 : BitVec 32 := Scalar.muli arg21 c128_i32_327
  v535
def k0_off39 (i : grid0.Coords) (k0_t3 : Fin k0_t3_loop.trips) : Fin 3 → Nat :=
  let arg0 : BitVec 32 := BitVec.ofNat 32 (i 0).val
  let c11_i32 : BitVec 32 := 11#32
  let v10 : BitVec 32 := Scalar.minsi arg0 c11_i32
  let v537 : Index := Scalar.indexCast v10
  let c0_328 : Index := 0#32
  let c0_i32_81 : BitVec 32 := 0#32
  let c1_i32_83 : BitVec 32 := 1#32
  let arg21 : BitVec 32 := Scf.iv c0_i32_81 c1_i32_83 k0_t3
  let c128_i32_327 : BitVec 32 := 128#32
  let v535 : BitVec 32 := Scalar.muli arg21 c128_i32_327
  let v536 : BitVec 32 := v535
  let v538 : Index := Scalar.indexCast v536
  ![v537.toNat, 0, v538.toNat]
def k0_mult31 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c128_i32_329 : BitVec 32 := 128#32
  let v544 : BitVec 32 := Scalar.muli arg21 c128_i32_329
  v544
def k0_off40 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_329 : BitVec 32 := 128#32
  let v544 : BitVec 32 := Scalar.muli arg21 c128_i32_329
  let v545 : BitVec 32 := v544
  let v546 : Index := Scalar.indexCast v545
  let c0_330 : Index := 0#32
  ![v546.toNat, 0]
def k0_off41 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32_274 : BitVec 32 := 128#32
  let v454 : BitVec 32 := Scalar.muli arg21 c128_i32_274
  let v455 : BitVec 32 := v454
  let c0_i32_331 : BitVec 32 := 0#32
  ![v455.toNat, 0]
def k0_off42 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c128_i32 : BitVec 32 := 128#32
  let v452 : BitVec 32 := Scalar.muli arg21 c128_i32
  let v453 : BitVec 32 := v452
  let c0_i32_352 : BitVec 32 := 0#32
  ![v453.toNat, 0]
def k0_mult32 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c1_i32_2140 : BitVec 32 := 1#32
  let v4118 : BitVec 32 := Scalar.addi arg21 c1_i32_2140
  let c14_i32 : BitVec 32 := 14#32
  let v4119 : BitVec 32 := Scalar.minsi v4118 c14_i32
  let c128_i32_2141 : BitVec 32 := 128#32
  let v4120 : BitVec 32 := Scalar.muli v4119 c128_i32_2141
  v4120
def k0_off43 (k0_t3 : Fin k0_t3_loop.trips) : Fin 2 → Nat :=
  let c0_i32_81 : BitVec 32 := 0#32
  let c1_i32_83 : BitVec 32 := 1#32
  let arg21 : BitVec 32 := Scf.iv c0_i32_81 c1_i32_83 k0_t3
  let c1_i32_2140 : BitVec 32 := 1#32
  let v4118 : BitVec 32 := Scalar.addi arg21 c1_i32_2140
  let c14_i32 : BitVec 32 := 14#32
  let v4119 : BitVec 32 := Scalar.minsi v4118 c14_i32
  let c128_i32_2141 : BitVec 32 := 128#32
  let v4120 : BitVec 32 := Scalar.muli v4119 c128_i32_2141
  let v4121 : BitVec 32 := v4120
  let v4122 : Index := Scalar.indexCast v4121
  let c0_2142 : Index := 0#32
  ![v4122.toNat, 0]
def k0_mult33 (k0_t3 : Fin k0_t3_loop.trips) : BitVec 32 :=
  let c0_i32_81 : BitVec 32 := 0#32
  let c1_i32_83 : BitVec 32 := 1#32
  let arg21 : BitVec 32 := Scf.iv c0_i32_81 c1_i32_83 k0_t3
  let c1_i32_2140 : BitVec 32 := 1#32
  let v4118 : BitVec 32 := Scalar.addi arg21 c1_i32_2140
  let c14_i32 : BitVec 32 := 14#32
  let v4119 : BitVec 32 := Scalar.minsi v4118 c14_i32
  let c128_i32_2144 : BitVec 32 := 128#32
  let v4128 : BitVec 32 := Scalar.muli v4119 c128_i32_2144
  v4128
def k0_mult34 : BitVec 32 :=
  let c0_i32_85 : BitVec 32 := 0#32
  c0_i32_85
def k0_mult35 : BitVec 32 :=
  let c0_i32_89 : BitVec 32 := 0#32
  c0_i32_89
@[reducible] def k0_t4_loop : Scf.Loop 32 :=
  let c0_i32_190 : BitVec 32 := 0#32
  let c15_i32_191 : BitVec 32 := 15#32
  let v339 : BitVec 32 := Scalar.addi c0_i32_190 c15_i32_191
  let c1_i32_192 : BitVec 32 := 1#32
  ⟨c0_i32_190, v339, c1_i32_192⟩
def k0_mult36 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c128_i32 : BitVec 32 := 128#32
  let v452 : BitVec 32 := Scalar.muli arg21 c128_i32
  v452
def k0_mult37 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c128_i32_274 : BitVec 32 := 128#32
  let v454 : BitVec 32 := Scalar.muli arg21 c128_i32_274
  v454
def k0_mult38 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c128_i32_275 : BitVec 32 := 128#32
  let v456 : BitVec 32 := Scalar.muli arg21 c128_i32_275
  v456
def k0_mult39 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  v458
def k0_off44 (k0_t4 : Fin k0_t4_loop.trips) : Fin 2 → Nat :=
  let c0_i32_190 : BitVec 32 := 0#32
  let c1_i32_192 : BitVec 32 := 1#32
  let arg21 : BitVec 32 := Scf.iv c0_i32_190 c1_i32_192 k0_t4
  let c128_i32_274 : BitVec 32 := 128#32
  let v454 : BitVec 32 := Scalar.muli arg21 c128_i32_274
  let v455 : BitVec 32 := v454
  let c0_i32_277 : BitVec 32 := 0#32
  ![v455.toNat, 0]
def k0_off45 (k0_t4 : Fin k0_t4_loop.trips) : Fin 2 → Nat :=
  let c0_i32_190 : BitVec 32 := 0#32
  let c1_i32_192 : BitVec 32 := 1#32
  let arg21 : BitVec 32 := Scf.iv c0_i32_190 c1_i32_192 k0_t4
  let c128_i32 : BitVec 32 := 128#32
  let v452 : BitVec 32 := Scalar.muli arg21 c128_i32
  let v453 : BitVec 32 := v452
  let c0_i32_298 : BitVec 32 := 0#32
  ![v453.toNat, 0]
def k0_off46 (k0_t4 : Fin k0_t4_loop.trips) : Fin 3 → Nat :=
  let c0_i32_304 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_305 : BitVec 32 := 0#32
  ![0, v459.toNat, 0]
def k0_off47 (k0_t4 : Fin k0_t4_loop.trips) : Fin 3 → Nat :=
  let c0_i32_304 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_305 : BitVec 32 := 0#32
  ![0, v459.toNat, 0]
def k0_off48 (k0_t4 : Fin k0_t4_loop.trips) : Fin 3 → Nat :=
  let c0_i32_314 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_315 : BitVec 32 := 0#32
  ![0, Nat.add v459.toNat 16, 0]
def k0_off49 (k0_t4 : Fin k0_t4_loop.trips) : Fin 3 → Nat :=
  let c0_i32_324 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_325 : BitVec 32 := 0#32
  ![0, Nat.add v459.toNat 32, 0]
def k0_off50 (k0_t4 : Fin k0_t4_loop.trips) : Fin 3 → Nat :=
  let c0_i32_334 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_335 : BitVec 32 := 0#32
  ![0, Nat.add v459.toNat 48, 0]
def k0_off51 (k0_t4 : Fin k0_t4_loop.trips) : Fin 3 → Nat :=
  let c0_i32_350 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 128]
def k0_off52 (k0_t4 : Fin k0_t4_loop.trips) : Fin 3 → Nat :=
  let c0_i32_360 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 128]
def k0_off53 (k0_t4 : Fin k0_t4_loop.trips) : Fin 3 → Nat :=
  let c0_i32_370 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 128]
def k0_off54 (k0_t4 : Fin k0_t4_loop.trips) : Fin 3 → Nat :=
  let c0_i32_380 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 128]
def k0_off55 (k0_t4 : Fin k0_t4_loop.trips) : Fin 3 → Nat :=
  let c0_i32_396 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 256]
def k0_off56 (k0_t4 : Fin k0_t4_loop.trips) : Fin 3 → Nat :=
  let c0_i32_406 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 256]
def k0_off57 (k0_t4 : Fin k0_t4_loop.trips) : Fin 3 → Nat :=
  let c0_i32_416 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 256]
def k0_off58 (k0_t4 : Fin k0_t4_loop.trips) : Fin 3 → Nat :=
  let c0_i32_426 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 256]
def k0_off59 (k0_t4 : Fin k0_t4_loop.trips) : Fin 3 → Nat :=
  let c0_i32_442 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 384]
def k0_off60 (k0_t4 : Fin k0_t4_loop.trips) : Fin 3 → Nat :=
  let c0_i32_452 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 384]
def k0_off61 (k0_t4 : Fin k0_t4_loop.trips) : Fin 3 → Nat :=
  let c0_i32_462 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 384]
def k0_off62 (k0_t4 : Fin k0_t4_loop.trips) : Fin 3 → Nat :=
  let c0_i32_472 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 384]
def k0_off63 (k0_t4 : Fin k0_t4_loop.trips) : Fin 3 → Nat :=
  let c0_i32_488 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 512]
def k0_off64 (k0_t4 : Fin k0_t4_loop.trips) : Fin 3 → Nat :=
  let c0_i32_498 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 512]
def k0_off65 (k0_t4 : Fin k0_t4_loop.trips) : Fin 3 → Nat :=
  let c0_i32_508 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 512]
def k0_off66 (k0_t4 : Fin k0_t4_loop.trips) : Fin 3 → Nat :=
  let c0_i32_518 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 512]
def k0_off67 (k0_t4 : Fin k0_t4_loop.trips) : Fin 3 → Nat :=
  let c0_i32_534 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 640]
def k0_off68 (k0_t4 : Fin k0_t4_loop.trips) : Fin 3 → Nat :=
  let c0_i32_544 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 640]
def k0_off69 (k0_t4 : Fin k0_t4_loop.trips) : Fin 3 → Nat :=
  let c0_i32_554 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 640]
def k0_off70 (k0_t4 : Fin k0_t4_loop.trips) : Fin 3 → Nat :=
  let c0_i32_564 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 640]
def k0_off71 (k0_t4 : Fin k0_t4_loop.trips) : Fin 3 → Nat :=
  let c0_i32_580 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 768]
def k0_off72 (k0_t4 : Fin k0_t4_loop.trips) : Fin 3 → Nat :=
  let c0_i32_590 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 768]
def k0_off73 (k0_t4 : Fin k0_t4_loop.trips) : Fin 3 → Nat :=
  let c0_i32_600 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 768]
def k0_off74 (k0_t4 : Fin k0_t4_loop.trips) : Fin 3 → Nat :=
  let c0_i32_610 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 768]
def k0_off75 (k0_t4 : Fin k0_t4_loop.trips) : Fin 3 → Nat :=
  let c0_i32_626 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 896]
def k0_off76 (k0_t4 : Fin k0_t4_loop.trips) : Fin 3 → Nat :=
  let c0_i32_636 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 896]
def k0_off77 (k0_t4 : Fin k0_t4_loop.trips) : Fin 3 → Nat :=
  let c0_i32_646 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 896]
def k0_off78 (k0_t4 : Fin k0_t4_loop.trips) : Fin 3 → Nat :=
  let c0_i32_656 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 896]
def k0_off79 (k0_t4 : Fin k0_t4_loop.trips) : Fin 3 → Nat :=
  let c0_i32_672 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1024]
def k0_off80 (k0_t4 : Fin k0_t4_loop.trips) : Fin 3 → Nat :=
  let c0_i32_682 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1024]
def k0_off81 (k0_t4 : Fin k0_t4_loop.trips) : Fin 3 → Nat :=
  let c0_i32_692 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1024]
def k0_off82 (k0_t4 : Fin k0_t4_loop.trips) : Fin 3 → Nat :=
  let c0_i32_702 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1024]
def k0_off83 (k0_t4 : Fin k0_t4_loop.trips) : Fin 3 → Nat :=
  let c0_i32_718 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1152]
def k0_off84 (k0_t4 : Fin k0_t4_loop.trips) : Fin 3 → Nat :=
  let c0_i32_728 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1152]
def k0_off85 (k0_t4 : Fin k0_t4_loop.trips) : Fin 3 → Nat :=
  let c0_i32_738 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1152]
def k0_off86 (k0_t4 : Fin k0_t4_loop.trips) : Fin 3 → Nat :=
  let c0_i32_748 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1152]
def k0_off87 (k0_t4 : Fin k0_t4_loop.trips) : Fin 3 → Nat :=
  let c0_i32_764 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1280]
def k0_off88 (k0_t4 : Fin k0_t4_loop.trips) : Fin 3 → Nat :=
  let c0_i32_774 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1280]
def k0_off89 (k0_t4 : Fin k0_t4_loop.trips) : Fin 3 → Nat :=
  let c0_i32_784 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1280]
def k0_off90 (k0_t4 : Fin k0_t4_loop.trips) : Fin 3 → Nat :=
  let c0_i32_794 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1280]
def k0_off91 (k0_t4 : Fin k0_t4_loop.trips) : Fin 3 → Nat :=
  let c0_i32_810 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1408]
def k0_off92 (k0_t4 : Fin k0_t4_loop.trips) : Fin 3 → Nat :=
  let c0_i32_820 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1408]
def k0_off93 (k0_t4 : Fin k0_t4_loop.trips) : Fin 3 → Nat :=
  let c0_i32_830 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1408]
def k0_off94 (k0_t4 : Fin k0_t4_loop.trips) : Fin 3 → Nat :=
  let c0_i32_840 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1408]
def k0_off95 (k0_t4 : Fin k0_t4_loop.trips) : Fin 3 → Nat :=
  let c0_i32_856 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1536]
def k0_off96 (k0_t4 : Fin k0_t4_loop.trips) : Fin 3 → Nat :=
  let c0_i32_866 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1536]
def k0_off97 (k0_t4 : Fin k0_t4_loop.trips) : Fin 3 → Nat :=
  let c0_i32_876 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1536]
def k0_off98 (k0_t4 : Fin k0_t4_loop.trips) : Fin 3 → Nat :=
  let c0_i32_886 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1536]
def k0_off99 (k0_t4 : Fin k0_t4_loop.trips) : Fin 3 → Nat :=
  let c0_i32_902 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1664]
def k0_off100 (k0_t4 : Fin k0_t4_loop.trips) : Fin 3 → Nat :=
  let c0_i32_912 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1664]
def k0_off101 (k0_t4 : Fin k0_t4_loop.trips) : Fin 3 → Nat :=
  let c0_i32_922 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1664]
def k0_off102 (k0_t4 : Fin k0_t4_loop.trips) : Fin 3 → Nat :=
  let c0_i32_932 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1664]
def k0_off103 (k0_t4 : Fin k0_t4_loop.trips) : Fin 3 → Nat :=
  let c0_i32_948 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1792]
def k0_off104 (k0_t4 : Fin k0_t4_loop.trips) : Fin 3 → Nat :=
  let c0_i32_958 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1792]
def k0_off105 (k0_t4 : Fin k0_t4_loop.trips) : Fin 3 → Nat :=
  let c0_i32_968 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1792]
def k0_off106 (k0_t4 : Fin k0_t4_loop.trips) : Fin 3 → Nat :=
  let c0_i32_978 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1792]
def k0_off107 (k0_t4 : Fin k0_t4_loop.trips) : Fin 3 → Nat :=
  let c0_i32_994 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, v459.toNat, 1920]
def k0_off108 (k0_t4 : Fin k0_t4_loop.trips) : Fin 3 → Nat :=
  let c0_i32_1004 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 16, 1920]
def k0_off109 (k0_t4 : Fin k0_t4_loop.trips) : Fin 3 → Nat :=
  let c0_i32_1014 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 32, 1920]
def k0_off110 (k0_t4 : Fin k0_t4_loop.trips) : Fin 3 → Nat :=
  let c0_i32_1024 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 48, 1920]
def k0_off111 (k0_t4 : Fin k0_t4_loop.trips) : Fin 3 → Nat :=
  let c0_i32_1080 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_1081 : BitVec 32 := 0#32
  ![0, Nat.add v459.toNat 64, 0]
def k0_off112 (k0_t4 : Fin k0_t4_loop.trips) : Fin 3 → Nat :=
  let c0_i32_1090 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_1091 : BitVec 32 := 0#32
  ![0, Nat.add v459.toNat 80, 0]
def k0_off113 (k0_t4 : Fin k0_t4_loop.trips) : Fin 3 → Nat :=
  let c0_i32_1100 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_1101 : BitVec 32 := 0#32
  ![0, Nat.add v459.toNat 96, 0]
def k0_off114 (k0_t4 : Fin k0_t4_loop.trips) : Fin 3 → Nat :=
  let c0_i32_1110 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  let c0_i32_1111 : BitVec 32 := 0#32
  ![0, Nat.add v459.toNat 112, 0]
def k0_off115 (k0_t4 : Fin k0_t4_loop.trips) : Fin 3 → Nat :=
  let c0_i32_1126 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 128]
def k0_off116 (k0_t4 : Fin k0_t4_loop.trips) : Fin 3 → Nat :=
  let c0_i32_1136 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 128]
def k0_off117 (k0_t4 : Fin k0_t4_loop.trips) : Fin 3 → Nat :=
  let c0_i32_1146 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 128]
def k0_off118 (k0_t4 : Fin k0_t4_loop.trips) : Fin 3 → Nat :=
  let c0_i32_1156 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 128]
def k0_off119 (k0_t4 : Fin k0_t4_loop.trips) : Fin 3 → Nat :=
  let c0_i32_1172 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 256]
def k0_off120 (k0_t4 : Fin k0_t4_loop.trips) : Fin 3 → Nat :=
  let c0_i32_1182 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 256]
def k0_off121 (k0_t4 : Fin k0_t4_loop.trips) : Fin 3 → Nat :=
  let c0_i32_1192 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 256]
def k0_off122 (k0_t4 : Fin k0_t4_loop.trips) : Fin 3 → Nat :=
  let c0_i32_1202 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 256]
def k0_off123 (k0_t4 : Fin k0_t4_loop.trips) : Fin 3 → Nat :=
  let c0_i32_1218 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 384]
def k0_off124 (k0_t4 : Fin k0_t4_loop.trips) : Fin 3 → Nat :=
  let c0_i32_1228 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 384]
def k0_off125 (k0_t4 : Fin k0_t4_loop.trips) : Fin 3 → Nat :=
  let c0_i32_1238 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 384]
def k0_off126 (k0_t4 : Fin k0_t4_loop.trips) : Fin 3 → Nat :=
  let c0_i32_1248 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 384]
def k0_off127 (k0_t4 : Fin k0_t4_loop.trips) : Fin 3 → Nat :=
  let c0_i32_1264 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 512]
def k0_off128 (k0_t4 : Fin k0_t4_loop.trips) : Fin 3 → Nat :=
  let c0_i32_1274 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 512]
def k0_off129 (k0_t4 : Fin k0_t4_loop.trips) : Fin 3 → Nat :=
  let c0_i32_1284 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 512]
def k0_off130 (k0_t4 : Fin k0_t4_loop.trips) : Fin 3 → Nat :=
  let c0_i32_1294 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 512]
def k0_off131 (k0_t4 : Fin k0_t4_loop.trips) : Fin 3 → Nat :=
  let c0_i32_1310 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 640]
def k0_off132 (k0_t4 : Fin k0_t4_loop.trips) : Fin 3 → Nat :=
  let c0_i32_1320 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 640]
def k0_off133 (k0_t4 : Fin k0_t4_loop.trips) : Fin 3 → Nat :=
  let c0_i32_1330 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 640]
def k0_off134 (k0_t4 : Fin k0_t4_loop.trips) : Fin 3 → Nat :=
  let c0_i32_1340 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 640]
def k0_off135 (k0_t4 : Fin k0_t4_loop.trips) : Fin 3 → Nat :=
  let c0_i32_1356 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 768]
def k0_off136 (k0_t4 : Fin k0_t4_loop.trips) : Fin 3 → Nat :=
  let c0_i32_1366 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 768]
def k0_off137 (k0_t4 : Fin k0_t4_loop.trips) : Fin 3 → Nat :=
  let c0_i32_1376 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 768]
def k0_off138 (k0_t4 : Fin k0_t4_loop.trips) : Fin 3 → Nat :=
  let c0_i32_1386 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 768]
def k0_off139 (k0_t4 : Fin k0_t4_loop.trips) : Fin 3 → Nat :=
  let c0_i32_1402 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 896]
def k0_off140 (k0_t4 : Fin k0_t4_loop.trips) : Fin 3 → Nat :=
  let c0_i32_1412 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 896]
def k0_off141 (k0_t4 : Fin k0_t4_loop.trips) : Fin 3 → Nat :=
  let c0_i32_1422 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 896]
def k0_off142 (k0_t4 : Fin k0_t4_loop.trips) : Fin 3 → Nat :=
  let c0_i32_1432 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 896]
def k0_off143 (k0_t4 : Fin k0_t4_loop.trips) : Fin 3 → Nat :=
  let c0_i32_1448 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1024]
def k0_off144 (k0_t4 : Fin k0_t4_loop.trips) : Fin 3 → Nat :=
  let c0_i32_1458 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1024]
def k0_off145 (k0_t4 : Fin k0_t4_loop.trips) : Fin 3 → Nat :=
  let c0_i32_1468 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1024]
def k0_off146 (k0_t4 : Fin k0_t4_loop.trips) : Fin 3 → Nat :=
  let c0_i32_1478 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1024]
def k0_off147 (k0_t4 : Fin k0_t4_loop.trips) : Fin 3 → Nat :=
  let c0_i32_1494 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1152]
def k0_off148 (k0_t4 : Fin k0_t4_loop.trips) : Fin 3 → Nat :=
  let c0_i32_1504 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1152]
def k0_off149 (k0_t4 : Fin k0_t4_loop.trips) : Fin 3 → Nat :=
  let c0_i32_1514 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1152]
def k0_off150 (k0_t4 : Fin k0_t4_loop.trips) : Fin 3 → Nat :=
  let c0_i32_1524 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1152]
def k0_off151 (k0_t4 : Fin k0_t4_loop.trips) : Fin 3 → Nat :=
  let c0_i32_1540 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1280]
def k0_off152 (k0_t4 : Fin k0_t4_loop.trips) : Fin 3 → Nat :=
  let c0_i32_1550 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1280]
def k0_off153 (k0_t4 : Fin k0_t4_loop.trips) : Fin 3 → Nat :=
  let c0_i32_1560 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1280]
def k0_off154 (k0_t4 : Fin k0_t4_loop.trips) : Fin 3 → Nat :=
  let c0_i32_1570 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1280]
def k0_off155 (k0_t4 : Fin k0_t4_loop.trips) : Fin 3 → Nat :=
  let c0_i32_1586 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1408]
def k0_off156 (k0_t4 : Fin k0_t4_loop.trips) : Fin 3 → Nat :=
  let c0_i32_1596 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1408]
def k0_off157 (k0_t4 : Fin k0_t4_loop.trips) : Fin 3 → Nat :=
  let c0_i32_1606 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1408]
def k0_off158 (k0_t4 : Fin k0_t4_loop.trips) : Fin 3 → Nat :=
  let c0_i32_1616 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1408]
def k0_off159 (k0_t4 : Fin k0_t4_loop.trips) : Fin 3 → Nat :=
  let c0_i32_1632 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1536]
def k0_off160 (k0_t4 : Fin k0_t4_loop.trips) : Fin 3 → Nat :=
  let c0_i32_1642 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1536]
def k0_off161 (k0_t4 : Fin k0_t4_loop.trips) : Fin 3 → Nat :=
  let c0_i32_1652 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1536]
def k0_off162 (k0_t4 : Fin k0_t4_loop.trips) : Fin 3 → Nat :=
  let c0_i32_1662 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1536]
def k0_off163 (k0_t4 : Fin k0_t4_loop.trips) : Fin 3 → Nat :=
  let c0_i32_1678 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1664]
def k0_off164 (k0_t4 : Fin k0_t4_loop.trips) : Fin 3 → Nat :=
  let c0_i32_1688 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1664]
def k0_off165 (k0_t4 : Fin k0_t4_loop.trips) : Fin 3 → Nat :=
  let c0_i32_1698 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1664]
def k0_off166 (k0_t4 : Fin k0_t4_loop.trips) : Fin 3 → Nat :=
  let c0_i32_1708 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1664]
def k0_off167 (k0_t4 : Fin k0_t4_loop.trips) : Fin 3 → Nat :=
  let c0_i32_1724 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1792]
def k0_off168 (k0_t4 : Fin k0_t4_loop.trips) : Fin 3 → Nat :=
  let c0_i32_1734 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1792]
def k0_off169 (k0_t4 : Fin k0_t4_loop.trips) : Fin 3 → Nat :=
  let c0_i32_1744 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1792]
def k0_off170 (k0_t4 : Fin k0_t4_loop.trips) : Fin 3 → Nat :=
  let c0_i32_1754 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1792]
def k0_off171 (k0_t4 : Fin k0_t4_loop.trips) : Fin 3 → Nat :=
  let c0_i32_1770 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 64, 1920]
def k0_off172 (k0_t4 : Fin k0_t4_loop.trips) : Fin 3 → Nat :=
  let c0_i32_1780 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 80, 1920]
def k0_off173 (k0_t4 : Fin k0_t4_loop.trips) : Fin 3 → Nat :=
  let c0_i32_1790 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 96, 1920]
def k0_off174 (k0_t4 : Fin k0_t4_loop.trips) : Fin 3 → Nat :=
  let c0_i32_1800 : BitVec 32 := 0#32
  let c0_i32_190 : BitVec 32 := 0#32
  let c1_i32_192 : BitVec 32 := 1#32
  let arg21 : BitVec 32 := Scf.iv c0_i32_190 c1_i32_192 k0_t4
  let c128_i32_276 : BitVec 32 := 128#32
  let v458 : BitVec 32 := Scalar.muli arg21 c128_i32_276
  let v459 : BitVec 32 := v458
  ![0, Nat.add v459.toNat 112, 1920]
def k0_mult40 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c1_i32_1830 : BitVec 32 := 1#32
  let v2900 : BitVec 32 := Scalar.addi arg21 c1_i32_1830
  let c14_i32 : BitVec 32 := 14#32
  let v2901 : BitVec 32 := Scalar.minsi v2900 c14_i32
  let c128_i32_1831 : BitVec 32 := 128#32
  let v2902 : BitVec 32 := Scalar.muli v2901 c128_i32_1831
  v2902
def k0_off175 (k0_t4 : Fin k0_t4_loop.trips) : Fin 2 → Nat :=
  let c0_i32_190 : BitVec 32 := 0#32
  let c1_i32_192 : BitVec 32 := 1#32
  let arg21 : BitVec 32 := Scf.iv c0_i32_190 c1_i32_192 k0_t4
  let c1_i32_1830 : BitVec 32 := 1#32
  let v2900 : BitVec 32 := Scalar.addi arg21 c1_i32_1830
  let c14_i32 : BitVec 32 := 14#32
  let v2901 : BitVec 32 := Scalar.minsi v2900 c14_i32
  let c128_i32_1831 : BitVec 32 := 128#32
  let v2902 : BitVec 32 := Scalar.muli v2901 c128_i32_1831
  let v2903 : BitVec 32 := v2902
  let v2904 : Index := Scalar.indexCast v2903
  let c0_1832 : Index := 0#32
  ![v2904.toNat, 0]
def k0_mult41 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c1_i32_1830 : BitVec 32 := 1#32
  let v2900 : BitVec 32 := Scalar.addi arg21 c1_i32_1830
  let c14_i32 : BitVec 32 := 14#32
  let v2901 : BitVec 32 := Scalar.minsi v2900 c14_i32
  let c128_i32_1835 : BitVec 32 := 128#32
  let v2912 : BitVec 32 := Scalar.muli v2901 c128_i32_1835
  v2912
def k0_off176 (k0_t4 : Fin k0_t4_loop.trips) : Fin 2 → Nat :=
  let c0_i32_190 : BitVec 32 := 0#32
  let c1_i32_192 : BitVec 32 := 1#32
  let arg21 : BitVec 32 := Scf.iv c0_i32_190 c1_i32_192 k0_t4
  let c128_i32_275 : BitVec 32 := 128#32
  let v456 : BitVec 32 := Scalar.muli arg21 c128_i32_275
  let v457 : BitVec 32 := v456
  let v2918 : Index := Scalar.indexCast v457
  let c0_1837 : Index := 0#32
  ![v2918.toNat, 0]
def k0_mult42 (k0_t4 : Fin k0_t4_loop.trips) : BitVec 32 :=
  let c0_i32_190 : BitVec 32 := 0#32
  let c1_i32_192 : BitVec 32 := 1#32
  let arg21 : BitVec 32 := Scf.iv c0_i32_190 c1_i32_192 k0_t4
  let c128_i32_1839 : BitVec 32 := 128#32
  let v2923 : BitVec 32 := Scalar.muli arg21 c128_i32_1839
  v2923
def k0_off177 (i : grid0.Coords) (k0_t4 : Fin k0_t4_loop.trips) : Fin 3 → Nat :=
  let arg0 : BitVec 32 := BitVec.ofNat 32 (i 0).val
  let c1_i32 : BitVec 32 := 1#32
  let v9 : BitVec 32 := Scalar.subi arg0 c1_i32
  let v2925 : Index := Scalar.indexCast v9
  let c0_1840 : Index := 0#32
  let c0_i32_190 : BitVec 32 := 0#32
  let c1_i32_192 : BitVec 32 := 1#32
  let arg21 : BitVec 32 := Scf.iv c0_i32_190 c1_i32_192 k0_t4
  let c128_i32_1839 : BitVec 32 := 128#32
  let v2923 : BitVec 32 := Scalar.muli arg21 c128_i32_1839
  let v2924 : BitVec 32 := v2923
  let v2926 : Index := Scalar.indexCast v2924
  ![v2925.toNat, 0, v2926.toNat]
def k0_off178 (i : grid0.Coords) : Fin 3 → Nat :=
  let arg0 : BitVec 32 := BitVec.ofNat 32 (i 0).val
  let c1_i32 : BitVec 32 := 1#32
  let v9 : BitVec 32 := Scalar.subi arg0 c1_i32
  let v343 : Index := Scalar.indexCast v9
  let c0_197 : Index := 0#32
  let c0_198 : Index := 0#32
  ![v343.toNat, 0, 0]
def k0_off179 (i : grid0.Coords) : Fin 3 → Nat :=
  let arg0 : BitVec 32 := BitVec.ofNat 32 (i 0).val
  let c1_i32 : BitVec 32 := 1#32
  let v9 : BitVec 32 := Scalar.subi arg0 c1_i32
  let v350 : Index := Scalar.indexCast v9
  let c0_202 : Index := 0#32
  let c128_203 : Index := 128#32
  ![v350.toNat, 0, 128]
def k0_off180 (i : grid0.Coords) : Fin 3 → Nat :=
  let arg0 : BitVec 32 := BitVec.ofNat 32 (i 0).val
  let c1_i32 : BitVec 32 := 1#32
  let v9 : BitVec 32 := Scalar.subi arg0 c1_i32
  let v357 : Index := Scalar.indexCast v9
  let c0_207 : Index := 0#32
  let c256_208 : Index := 256#32
  ![v357.toNat, 0, 256]
def k0_off181 (i : grid0.Coords) : Fin 3 → Nat :=
  let arg0 : BitVec 32 := BitVec.ofNat 32 (i 0).val
  let c1_i32 : BitVec 32 := 1#32
  let v9 : BitVec 32 := Scalar.subi arg0 c1_i32
  let v364 : Index := Scalar.indexCast v9
  let c0_212 : Index := 0#32
  let c384_213 : Index := 384#32
  ![v364.toNat, 0, 384]
def k0_off182 (i : grid0.Coords) : Fin 3 → Nat :=
  let arg0 : BitVec 32 := BitVec.ofNat 32 (i 0).val
  let c1_i32 : BitVec 32 := 1#32
  let v9 : BitVec 32 := Scalar.subi arg0 c1_i32
  let v371 : Index := Scalar.indexCast v9
  let c0_217 : Index := 0#32
  let c512_218 : Index := 512#32
  ![v371.toNat, 0, 512]
def k0_off183 (i : grid0.Coords) : Fin 3 → Nat :=
  let arg0 : BitVec 32 := BitVec.ofNat 32 (i 0).val
  let c1_i32 : BitVec 32 := 1#32
  let v9 : BitVec 32 := Scalar.subi arg0 c1_i32
  let v378 : Index := Scalar.indexCast v9
  let c0_222 : Index := 0#32
  let c640_223 : Index := 640#32
  ![v378.toNat, 0, 640]
def k0_off184 (i : grid0.Coords) : Fin 3 → Nat :=
  let arg0 : BitVec 32 := BitVec.ofNat 32 (i 0).val
  let c1_i32 : BitVec 32 := 1#32
  let v9 : BitVec 32 := Scalar.subi arg0 c1_i32
  let v385 : Index := Scalar.indexCast v9
  let c0_227 : Index := 0#32
  let c768_228 : Index := 768#32
  ![v385.toNat, 0, 768]
def k0_off185 (i : grid0.Coords) : Fin 3 → Nat :=
  let arg0 : BitVec 32 := BitVec.ofNat 32 (i 0).val
  let c1_i32 : BitVec 32 := 1#32
  let v9 : BitVec 32 := Scalar.subi arg0 c1_i32
  let v392 : Index := Scalar.indexCast v9
  let c0_232 : Index := 0#32
  let c896_233 : Index := 896#32
  ![v392.toNat, 0, 896]
def k0_off186 (i : grid0.Coords) : Fin 3 → Nat :=
  let arg0 : BitVec 32 := BitVec.ofNat 32 (i 0).val
  let c1_i32 : BitVec 32 := 1#32
  let v9 : BitVec 32 := Scalar.subi arg0 c1_i32
  let v399 : Index := Scalar.indexCast v9
  let c0_237 : Index := 0#32
  let c1024_238 : Index := 1024#32
  ![v399.toNat, 0, 1024]
def k0_off187 (i : grid0.Coords) : Fin 3 → Nat :=
  let arg0 : BitVec 32 := BitVec.ofNat 32 (i 0).val
  let c1_i32 : BitVec 32 := 1#32
  let v9 : BitVec 32 := Scalar.subi arg0 c1_i32
  let v406 : Index := Scalar.indexCast v9
  let c0_242 : Index := 0#32
  let c1152_243 : Index := 1152#32
  ![v406.toNat, 0, 1152]
def k0_off188 (i : grid0.Coords) : Fin 3 → Nat :=
  let arg0 : BitVec 32 := BitVec.ofNat 32 (i 0).val
  let c1_i32 : BitVec 32 := 1#32
  let v9 : BitVec 32 := Scalar.subi arg0 c1_i32
  let v413 : Index := Scalar.indexCast v9
  let c0_247 : Index := 0#32
  let c1280_248 : Index := 1280#32
  ![v413.toNat, 0, 1280]
def k0_off189 (i : grid0.Coords) : Fin 3 → Nat :=
  let arg0 : BitVec 32 := BitVec.ofNat 32 (i 0).val
  let c1_i32 : BitVec 32 := 1#32
  let v9 : BitVec 32 := Scalar.subi arg0 c1_i32
  let v420 : Index := Scalar.indexCast v9
  let c0_252 : Index := 0#32
  let c1408_253 : Index := 1408#32
  ![v420.toNat, 0, 1408]
def k0_off190 (i : grid0.Coords) : Fin 3 → Nat :=
  let arg0 : BitVec 32 := BitVec.ofNat 32 (i 0).val
  let c1_i32 : BitVec 32 := 1#32
  let v9 : BitVec 32 := Scalar.subi arg0 c1_i32
  let v427 : Index := Scalar.indexCast v9
  let c0_257 : Index := 0#32
  let c1536_258 : Index := 1536#32
  ![v427.toNat, 0, 1536]
def k0_off191 (i : grid0.Coords) : Fin 3 → Nat :=
  let arg0 : BitVec 32 := BitVec.ofNat 32 (i 0).val
  let c1_i32 : BitVec 32 := 1#32
  let v9 : BitVec 32 := Scalar.subi arg0 c1_i32
  let v434 : Index := Scalar.indexCast v9
  let c0_262 : Index := 0#32
  let c1664_263 : Index := 1664#32
  ![v434.toNat, 0, 1664]
def k0_off192 (i : grid0.Coords) : Fin 3 → Nat :=
  let arg0 : BitVec 32 := BitVec.ofNat 32 (i 0).val
  let c1_i32 : BitVec 32 := 1#32
  let v9 : BitVec 32 := Scalar.subi arg0 c1_i32
  let v441 : Index := Scalar.indexCast v9
  let c0_267 : Index := 0#32
  let c1792_268 : Index := 1792#32
  ![v441.toNat, 0, 1792]
def k0_off193 (i : grid0.Coords) : Fin 3 → Nat :=
  let arg0 : BitVec 32 := BitVec.ofNat 32 (i 0).val
  let c1_i32 : BitVec 32 := 1#32
  let v9 : BitVec 32 := Scalar.subi arg0 c1_i32
  let v448 : Index := Scalar.indexCast v9
  let c0_272 : Index := 0#32
  let c1920_273 : Index := 1920#32
  ![v448.toNat, 0, 1920]
def k0_cond3 (i : grid0.Coords) : BitVec 1 :=
  let arg0 : BitVec 32 := BitVec.ofNat 32 (i 0).val
  let c12_i32 : BitVec 32 := 12#32
  let v6 : BitVec 1 := Scalar.cmpi .eq arg0 c12_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1920x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2016x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x2016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1920x2016 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S12x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x2016 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "exp_scale" => some (((Real.log 2)⁻¹ * (5 / 128) : ℝ) : EReal)
  | "mask" => some ⊥
  | _ => none
-- ==== ReferenceIdeal.lean ====
abbrev S12x1920x256 : Shape := ⟨3, ![12, 1920, 256]⟩
abbrev S12x1920 : Shape := ⟨2, ![12, 1920]⟩
abbrev S12x2016x256 : Shape := ⟨3, ![12, 2016, 256]⟩
abbrev S12x2016 : Shape := ⟨2, ![12, 2016]⟩
abbrev S12x1920x2016 : Shape := ⟨3, ![12, 1920, 2016]⟩
abbrev S12x1920x1 : Shape := ⟨3, ![12, 1920, 1]⟩
abbrev S12x1x2016 : Shape := ⟨3, ![12, 1, 2016]⟩

abbrev nBuf : Space → Nat
  | .hbm => 7
  | .vmem => 7
  | .smem => 0
  | _ => 0

abbrev bufTy : (tb : Table) → Fin (tcTables nBuf tb) → BufTy
  | .hbm, ⟨0, _⟩ => ⟨S12x1920x256, .fp8e4m3⟩
  | .hbm, ⟨1, _⟩ => ⟨S12x1920, .f32⟩
  | .hbm, ⟨2, _⟩ => ⟨S12x2016x256, .fp8e4m3⟩
  | .hbm, ⟨3, _⟩ => ⟨S12x2016, .f32⟩
  | .hbm, ⟨4, _⟩ => ⟨S12x1920x2016, .bf16⟩
  | .hbm, ⟨5, _⟩ => ⟨S12x1920, .f32⟩
  | .hbm, ⟨6, _⟩ => ⟨S12x2016, .f32⟩
  | .local _ .vmem, ⟨0, _⟩ => ⟨S12x1920x256, .fp8e4m3⟩
  | .local _ .vmem, ⟨1, _⟩ => ⟨S12x1920, .f32⟩
  | .local _ .vmem, ⟨2, _⟩ => ⟨S12x2016x256, .fp8e4m3⟩
  | .local _ .vmem, ⟨3, _⟩ => ⟨S12x2016, .f32⟩
  | .local _ .vmem, ⟨4, _⟩ => ⟨S12x1920x2016, .bf16⟩
  | .local _ .vmem, ⟨5, _⟩ => ⟨S12x1920, .f32⟩
  | .local _ .vmem, ⟨6, _⟩ => ⟨S12x2016, .f32⟩
  | _, _ => ⟨S12x1920x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x1920x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2016x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x1920x2016 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2016 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Base.lean ====
/- A small deep embedding of straight-line buffer programs with counted loops: twenty buffers, loads and
   covering stores through rectangles of them. Its run on plain contents, and its translation to the core's
   programs. -/
module

public import Idealize.ShloMosaic.Lib.Memref
public import Idealize.ShloMosaic.Lib.Scf
public import Idealize.ShloMosaic.Lib.Tactic
public import Idealize.ShloMosaic.Lib.Pipeline.FrameBody

@[expose] public section

namespace Cert.Dual

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The kernel's twenty buffers: the four inputs' blocks, the three outputs' blocks, and the scratch. -/
inductive B where
  | f0 | f0s | f1 | f1s | conf | rmax | cmax | tp | d | arow | a | b
  | rraw | rred | rsum | rinv | c | csum | rout | cout
  deriving DecidableEq

/-- A buffer's shape. -/
@[reducible] def B.sh : B → Shape
  | .f0 => ⟨3, ![1, 1920, 256]⟩ | .f0s => ⟨2, ![12, 1920]⟩
  | .f1 => ⟨3, ![1, 2016, 256]⟩ | .f1s => ⟨2, ![12, 2016]⟩
  | .conf => ⟨3, ![1, 1920, 2016]⟩ | .rmax => ⟨2, ![12, 1920]⟩ | .cmax => ⟨2, ![12, 2016]⟩
  | .tp => ⟨2, ![1920, 2048]⟩ | .d => ⟨2, ![1920, 2048]⟩
  | .arow => ⟨3, ![12, 1, 1920]⟩ | .a => ⟨2, ![1920, 128]⟩ | .b => ⟨3, ![12, 8, 2048]⟩
  | .rraw => ⟨2, ![1920, 128]⟩ | .rred => ⟨2, ![1920, 128]⟩ | .rsum => ⟨2, ![1920, 128]⟩
  | .rinv => ⟨2, ![1920, 128]⟩
  | .c => ⟨2, ![8, 2048]⟩ | .csum => ⟨2, ![8, 2048]⟩
  | .rout => ⟨3, ![12, 1, 1920]⟩ | .cout => ⟨3, ![12, 1, 2048]⟩

/-- A buffer's element type. -/
@[reducible] def B.el : B → EltTy
  | .f0 | .f1 => .fp8e4m3
  | .conf => .bf16
  | .f0s | .f1s | .rmax | .cmax | .tp | .d | .arow | .a | .b | .rraw | .rred | .rsum | .rinv
  | .c | .csum | .rout | .cout => .f32

/-- Every buffer. -/
def B.all : List B :=
  [.f0, .f0s, .f1, .f1s, .conf, .rmax, .cmax, .tp, .d, .arow, .a, .b, .rraw, .rred, .rsum, .rinv, .c, .csum,
    .rout, .cout]

theorem B.mem_all (x : B) : x ∈ B.all := by cases x <;> decide

theorem B.nodup_all : B.all.Nodup := by decide

/-- Straight-line programs on the buffers, with counted loops. -/
inductive M (sig : RefSig) (Val : EltTy → Type) : Type where
  | ret : M sig Val
  | load (b : B) (r : Rect b.sh) (h : 0 < r.shape.numel) (k : (r.shape.Idx → Val b.el) → M sig Val) : M sig Val
  | loadS (b : B) (r : Rect b.sh) (hr : ∀ a, r.stride a = 1) (r' : Rect r.shape) (h : 0 < r'.shape.numel)
      (k : (r'.shape.Idx → Val b.el) → M sig Val) : M sig Val
  | dead (b : B) (r : Rect b.sh) (hr : ∀ a, r.stride a = 1) (s : Shape) (hs : r.shape.Squeezes s) (r' : Rect s)
      (h : 0 < r'.shape.numel) (k : M sig Val) : M sig Val
  | store (b : B) (r : Rect b.sh) (w : r.shape.Idx → Val b.el)
      (h : ∀ m : Memref sig .tc .vmem b.sh b.el, m.IsWhole → (m.access r).Stores Finset.univ)
      (k : M sig Val) : M sig Val
  | storeS (b : B) (r : Rect b.sh) (hr : ∀ a, r.stride a = 1) (r' : Rect r.shape) (w : r'.shape.Idx → Val b.el)
      (h : ∀ m : Memref sig .tc .vmem b.sh b.el, m.IsWhole → ((m.slice r hr).access r').Stores Finset.univ)
      (k : M sig Val) : M sig Val
  | loop (lp : Scf.Loop 32) (ok : lp.OK) (body : Fin lp.trips → M sig Val) (k : M sig Val) : M sig Val

/-- The buffers' contents. -/
abbrev State (Val : EltTy → Type) := (b : B) → b.sh.Idx → Val b.el

section Prog

variable {sig : RefSig} {Val : EltTy → Type} {nD : Nat} {τ : Topo} {Λ : Labels}

/-- The program as the core runs it, its buffers at the memrefs `arg`. -/
def toProg (arg : (b : B) → Memref sig .tc .vmem b.sh b.el) (harg : ∀ b, (arg b).IsWhole) :
    M sig Val → Prog (TpuEff nD τ sig Val Λ .tc) PUnit
  | .ret => .ret ⟨⟩
  | .load b r h k => .op (.load (arg b) r.toLoadRect (View.loadsAt_vmem h)) fun v => toProg arg harg (k v)
  | .loadS b r hr r' h k =>
    .op (.load ((arg b).slice r hr) r'.toLoadRect (View.loadsAt_vmem h)) fun v => toProg arg harg (k v)
  | .dead b r hr s hs r' h k =>
    .op (.load (((arg b).slice r hr).squeeze s hs) r'.toLoadRect (View.loadsAt_vmem h)) fun _ => toProg arg harg k
  | .store b r w h k =>
    .op (.store (arg b) r w Finset.univ (h _ (harg b)) (.inl rfl)) fun _ => toProg arg harg k
  | .storeS b r hr r' w h k =>
    .op (.store ((arg b).slice r hr) r' w Finset.univ (h _ (harg b)) (.inl rfl)) fun _ => toProg arg harg k
  | .loop lp ok body k =>
    Scf.Loop.for lp ok PUnit.unit (fun t _ => toProg arg harg (body t)) >>= fun _ => toProg arg harg k

/-- A buffer's contents replaced. -/
def State.set (σ : State Val) (b : B) (X : b.sh.Idx → Val b.el) : State Val := Function.update σ b X

theorem State.set_same (σ : State Val) (b : B) (X : b.sh.Idx → Val b.el) : σ.set b X b = X :=
  Function.update_self ..

theorem State.set_ne (σ : State Val) {b b' : B} (X : b.sh.Idx → Val b.el) (h : b' ≠ b) : σ.set b X b' = σ b' :=
  Function.update_of_ne h ..

/-- The contents after the program, from the contents before. -/
def run : M sig Val → State Val → State Val
  | .ret, σ => σ
  | .load b r _ k, σ => run (k fun i => σ b (r.emb i)) σ
  | .loadS b r _ r' _ k, σ => run (k fun i => σ b (r.emb (r'.emb i))) σ
  | .dead _ _ _ _ _ _ _ k, σ => run k σ
  | .store b r w _ k, σ => run k (σ.set b (r.overlay (σ b) w))
  | .storeS b r _ r' w _ k, σ =>
    run k (σ.set b (r.overlay (σ b) (r'.overlay (fun i => σ b (r.emb i)) w)))
  | .loop lp _ body k, σ => run k ((List.finRange lp.trips).foldl (fun σ t => run (body t) σ) σ)

/-! ### One step of a program against one step of the core's -/

variable {arg : (b : B) → Memref sig .tc .vmem b.sh b.el} {harg : ∀ b, (arg b).IsWhole}

theorem ret_step : toProg (nD := nD) (τ := τ) (Λ := Λ) (Val := Val) arg harg .ret = .ret ⟨⟩ := rfl

theorem load_step {b : B} {r : Rect b.sh} {h : 0 < r.shape.numel} {k : (r.shape.Idx → Val b.el) → M sig Val}
    {h' : (arg b).view.LoadsAt r.toLoadRect}
    {k' : (r.shape.Idx → Val b.el) → Prog (TpuEff nD τ sig Val Λ .tc) PUnit}
    (H : ∀ v, toProg arg harg (k v) = k' v) :
    toProg arg harg (.load b r h k) = .op (.load (arg b) r.toLoadRect h') k' := by
  obtain rfl := funext H; rfl

theorem loadS_step {b : B} {r : Rect b.sh} {hr : ∀ a, r.stride a = 1} {r' : Rect r.shape} {h : 0 < r'.shape.numel}
    {k : (r'.shape.Idx → Val b.el) → M sig Val}
    {h' : ((arg b).slice r hr).view.LoadsAt r'.toLoadRect}
    {k' : (r'.shape.Idx → Val b.el) → Prog (TpuEff nD τ sig Val Λ .tc) PUnit}
    (H : ∀ v, toProg arg harg (k v) = k' v) :
    toProg arg harg (.loadS b r hr r' h k) = .op (.load ((arg b).slice r hr) r'.toLoadRect h') k' := by
  obtain rfl := funext H; rfl

theorem dead_step {b : B} {r : Rect b.sh} {hr : ∀ a, r.stride a = 1} {s : Shape} {hs : r.shape.Squeezes s}
    {r' : Rect s} {h : 0 < r'.shape.numel} {k : M sig Val}
    {h' : (((arg b).slice r hr).squeeze s hs).view.LoadsAt r'.toLoadRect}
    {k' : (r'.shape.Idx → Val b.el) → Prog (TpuEff nD τ sig Val Λ .tc) PUnit}
    (H : ∀ v, toProg arg harg k = k' v) :
    toProg arg harg (.dead b r hr s hs r' h k)
      = .op (.load (((arg b).slice r hr).squeeze s hs) r'.toLoadRect h') k' := by
  obtain rfl := funext H; rfl

theorem store_step {b : B} {r : Rect b.sh} {w : r.shape.Idx → Val b.el}
    {h : ∀ m : Memref sig .tc .vmem b.sh b.el, m.IsWhole → (m.access r).Stores Finset.univ} {k : M sig Val}
    {h' : ((arg b).access r).Stores Finset.univ} {hm : Finset.univ = Finset.univ ∨ ∀ a, r.stride a = 1}
    {k' : PUnit → Prog (TpuEff nD τ sig Val Λ .tc) PUnit} (H : toProg arg harg k = k' ⟨⟩) :
    toProg arg harg (.store b r w h k) = .op (.store (arg b) r w Finset.univ h' hm) k' := by
  obtain rfl : (fun _ => toProg arg harg k) = k' := funext fun _ => H
  rfl

theorem storeS_step {b : B} {r : Rect b.sh} {hr : ∀ a, r.stride a = 1} {r' : Rect r.shape}
    {w : r'.shape.Idx → Val b.el}
    {h : ∀ m : Memref sig .tc .vmem b.sh b.el, m.IsWhole → ((m.slice r hr).access r').Stores Finset.univ}
    {k : M sig Val}
    {h' : (((arg b).slice r hr).access r').Stores Finset.univ}
    {hm : Finset.univ = Finset.univ ∨ ∀ a, r'.stride a = 1}
    {k' : PUnit → Prog (TpuEff nD τ sig Val Λ .tc) PUnit} (H : toProg arg harg k = k' ⟨⟩) :
    toProg arg harg (.storeS b r hr r' w h k)
      = .op (.store ((arg b).slice r hr) r' w Finset.univ h' hm) k' := by
  obtain rfl : (fun _ => toProg arg harg k) = k' := funext fun _ => H
  rfl

theorem st_step {b : B} {r : Rect b.sh} {hl : 0 < r.shape.numel} {w : r.shape.Idx → Val b.el}
    {h : ∀ m : Memref sig .tc .vmem b.sh b.el, m.IsWhole → (m.access r).Stores Finset.univ} {k : M sig Val}
    {hl' : (arg b).view.LoadsAt r.toLoadRect}
    {h' : ((arg b).access r).Stores Finset.univ} {hm : Finset.univ = Finset.univ ∨ ∀ a, r.stride a = 1}
    {k' : PUnit → Prog (TpuEff nD τ sig Val Λ .tc) PUnit} (H : toProg arg harg k = k' ⟨⟩) :
    toProg arg harg (.load b r hl fun _ => .store b r w h k)
      = .op (.load (arg b) r.toLoadRect hl') fun _ => .op (.store (arg b) r w Finset.univ h' hm) k' :=
  load_step fun _ => store_step H

theorem stS_step {b : B} {r : Rect b.sh} {hr : ∀ a, r.stride a = 1} {r' : Rect r.shape} {hl : 0 < r'.shape.numel}
    {w : r'.shape.Idx → Val b.el}
    {h : ∀ m : Memref sig .tc .vmem b.sh b.el, m.IsWhole → ((m.slice r hr).access r').Stores Finset.univ}
    {k : M sig Val} {hl' : ((arg b).slice r hr).view.LoadsAt r'.toLoadRect}
    {h' : (((arg b).slice r hr).access r').Stores Finset.univ}
    {hm : Finset.univ = Finset.univ ∨ ∀ a, r'.stride a = 1}
    {k' : PUnit → Prog (TpuEff nD τ sig Val Λ .tc) PUnit} (H : toProg arg harg k = k' ⟨⟩) :
    toProg arg harg (.loadS b r hr r' hl fun _ => .storeS b r hr r' w h k)
      = .op (.load ((arg b).slice r hr) r'.toLoadRect hl') fun _ =>
          .op (.store ((arg b).slice r hr) r' w Finset.univ h' hm) k' :=
  loadS_step fun _ => storeS_step H

theorem loop_step {lp : Scf.Loop 32} {ok : lp.OK} {body : Fin lp.trips → M sig Val} {k : M sig Val}
    {body' : Fin lp.trips → PUnit → Prog (TpuEff nD τ sig Val Λ .tc) PUnit}
    {k' : PUnit → Prog (TpuEff nD τ sig Val Λ .tc) PUnit}
    (H : ∀ t, toProg arg harg (body t) = body' t ⟨⟩) (H' : toProg arg harg k = k' ⟨⟩) :
    toProg arg harg (.loop lp ok body k) = Scf.Loop.for lp ok PUnit.unit body' >>= k' := by
  have e : (fun t _ => toProg arg harg (body t)) = body' := funext fun t => funext fun _ => H t
  have e' : (fun _ : PUnit => toProg arg harg k) = k' := funext fun _ => H'
  show Scf.Loop.for lp ok PUnit.unit (fun t _ => toProg arg harg (body t)) >>= (fun _ => toProg arg harg k) = _
  rw [e, e']

/-- The same where the rest of the core's program is bound in two steps, -/
theorem loop_step₂ {lp : Scf.Loop 32} {ok : lp.OK} {body : Fin lp.trips → M sig Val} {k : M sig Val} {α : Type}
    {body' : Fin lp.trips → PUnit → Prog (TpuEff nD τ sig Val Λ .tc) PUnit}
    {k₁ : PUnit → Prog (TpuEff nD τ sig Val Λ .tc) α} {k' : α → Prog (TpuEff nD τ sig Val Λ .tc) PUnit}
    (H : ∀ t, toProg arg harg (body t) = body' t ⟨⟩) (H' : toProg arg harg k = (k₁ ⟨⟩).bind k') :
    toProg arg harg (.loop lp ok body k) = ((Scf.Loop.for lp ok PUnit.unit body').bind k₁).bind k' :=
  (loop_step H H').trans (Prog.bind_assoc _ _ _).symm

/-- and in three. -/
theorem loop_step₃ {lp : Scf.Loop 32} {ok : lp.OK} {body : Fin lp.trips → M sig Val} {k : M sig Val} {α β : Type}
    {body' : Fin lp.trips → PUnit → Prog (TpuEff nD τ sig Val Λ .tc) PUnit}
    {k₁ : PUnit → Prog (TpuEff nD τ sig Val Λ .tc) α} {k₂ : α → Prog (TpuEff nD τ sig Val Λ .tc) β}
    {k' : β → Prog (TpuEff nD τ sig Val Λ .tc) PUnit}
    (H : ∀ t, toProg arg harg (body t) = body' t ⟨⟩) (H' : toProg arg harg k = ((k₁ ⟨⟩).bind k₂).bind k') :
    toProg arg harg (.loop lp ok body k) = (((Scf.Loop.for lp ok PUnit.unit body').bind k₁).bind k₂).bind k' :=
  (loop_step₂ H H').trans (congrArg (Prog.bind · k') (Prog.bind_assoc _ _ _).symm)

end Prog

end Cert.Dual
-- ==== Proof.Adeq.lean ====
/- The core's run of an embedded program: from the twenty buffers at their contents to the twenty buffers at the
   contents `run` computes. -/
module

public import proofs.«01_k».proof.Proof.Base

@[expose] public section

noncomputable section

namespace Cert.Dual

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

instance : Fintype B := ⟨B.all.toFinset, fun b => List.mem_toFinset.mpr (B.mem_all b)⟩

theorem split_at {N : Type} [URA N] (Φ : B → sProp N) (b : B) :
    bigSep Finset.univ Φ = iprop(Φ b ∗ bigSep (Finset.univ.erase b) Φ) := bigSep_univ_split b

section Views

variable {sig : RefSig} {Val : EltTy → Type}

theorem whole_set {κ : Kind} {sp : Space} {s : Shape} {e : EltTy} {m : Memref sig κ sp s e} (h : m.IsWhole) :
    m.view.set = Finset.univ := by
  obtain ⟨b, rfl, rfl, rfl, hm⟩ := h; cases hm
  simp only [Memref.view_whole, View.set_whole]

theorem read_store {κ : Kind} {sp : Space} {s : Shape} {e : EltTy} (m : Memref sig κ sp s e) (r : Rect s)
    (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact View.read_slice_write_emb r f w (Finset.mem_univ i)
  · rw [Rect.overlay_of_not_mem _ _ _ hj]
    exact View.read_slice_write_of_not_mem r f w _ (by rw [Rect.map_emb_univ]; exact hj)

theorem read_storeS {κ : Kind} {sp : Space} {s : Shape} {e : EltTy} (m : Memref sig κ sp s e) (r : Rect s)
    (hr : ∀ a, r.stride a = 1) (r' : Rect r.shape) (f : m.view.ty.Contents Val) (w : r'.shape.Idx → Val e) :
    m.view.read Val (((m.slice r hr).access r').write Val f w Finset.univ)
      = r.overlay (m.view.read Val f) (r'.overlay (fun i => m.view.read Val f (r.emb i)) w) := by
  funext j
  by_cases hj : j ∈ r.set
  · obtain ⟨i, rfl⟩ := r.exists_idx_of_mem hj
    change m.view.read Val _ (r.emb i) = r.overlay _ _ (r.emb i)
    rw [Rect.overlay_emb]
    exact congrFun (read_store (m.slice r hr) r' f w) i
  · rw [Rect.overlay_of_not_mem _ _ _ hj]
    rw [View.read_apply, View.read_apply, View.write_of_not_mem]
    intro hm
    have h1 : m.view.emb j ∈ (m.view.slice r).set := by
      obtain ⟨x, -, hx⟩ := Finset.mem_map.mp hm
      rw [← hx]
      exact (m.view.slice r).emb_mem_set (r'.emb x)
    rw [View.set_slice] at h1
    exact hj ((Finset.mem_map' m.view.emb).mp h1)

end Views

section Wp

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Dev nD)
variable (arg : (b : B) → Memref sig .tc .vmem b.sh b.el) (harg : ∀ b, (arg b).IsWhole)

/-- The twenty buffers owned whole at their contents. -/
def St (σ : State Val) : sProp (MT nD τ sig Ix Val Name U Lvl) :=
  bigSep Finset.univ fun b => owns (c : Thread nD τ) (arg b) fullShare (σ b)

include harg in
/-- One buffer taken out, to be put back at any contents. -/
theorem St_focus (σ : State Val) (b : B) :
    (St c arg σ : sProp (MT nD τ sig Ix Val Name U Lvl))
      ⊢ iprop(∃ f : Buf Val ((arg b).view.loc (c : Thread nD τ)), ⌜(arg b).view.read Val f = σ b⌝
        ∗ ((arg b).view.loc (c : Thread nD τ) ↦[Finset.univ]{fullShare} f)
        ∗ bigSep (Finset.univ.erase b) fun b => owns (c : Thread nD τ) (arg b) fullShare (σ b)) := by
  unfold St
  rw [split_at _ b]
  iintro ⟨H, HR⟩
  ihave H' := (show (owns (c : Thread nD τ) (arg b) fullShare (σ b) : sProp (MT nD τ sig Ix Val Name U Lvl))
    ⊢ iprop(∃ f, ⌜(arg b).view.read Val f = σ b⌝ ∗ (arg b).view.loc (c : Thread nD τ) ↦[(arg b).view.set]{fullShare} f) from .rfl) $$ H
  icases H' with ⟨%f, %hf, H⟩
  rw [whole_set (harg b)]
  iexists f
  isplitr; · ipureintro; exact hf
  isplitl [H]; · iexact H
  iexact HR

include harg in
theorem St_back (σ : State Val) (b : B) (f : Buf Val ((arg b).view.loc (c : Thread nD τ))) :
    iprop(((arg b).view.loc (c : Thread nD τ) ↦[Finset.univ]{fullShare} f)
        ∗ bigSep (Finset.univ.erase b) fun b => owns (c : Thread nD τ) (arg b) fullShare (σ b))
      ⊢ (St c arg (σ.set b ((arg b).view.read Val f)) : sProp (MT nD τ sig Ix Val Name U Lvl)) := by
  unfold St
  rw [split_at _ b, State.set_same]
  rw [bigSep_congr (s := Finset.univ.erase b)
    (Φ := fun b' => owns (c : Thread nD τ) (arg b') fullShare (σ.set b ((arg b).view.read Val f) b'))
    (Ψ := fun b' => owns (c : Thread nD τ) (arg b') fullShare (σ b'))
    (fun b' hb' => congrArg (owns (c : Thread nD τ) (arg b') fullShare) (State.set_ne _ _ (Finset.ne_of_mem_erase hb')))]
  iintro ⟨H, HR⟩
  isplitl [H]
  · iapply (owns_intro (c : Thread nD τ) (arg b) fullShare f)
    rw [whole_set (harg b)]
    iexact H
  iexact HR

theorem State.set_self (σ : State Val) (b : B) : σ.set b (σ b) = σ := Function.update_eq_self b σ

/-- The core runs the program from the buffers at `σ` to the buffers at `run p σ`. -/
theorem adequate (E : Set Name) (p : M sig Val) : ∀ (σ : State Val),
    (St c arg σ : sProp (MT nD τ sig Ix Val Name U Lvl))
      ⊢ wp frame (wpE defs 𝒱 (c : Thread nD τ) none) E (toProg arg harg p : Prog (TpuEff nD τ sig Val Λ .tc) PUnit)
          (fun _ => St c arg (run p σ)) := by
  induction p with
  | ret =>
    intro σ
    show _ ⊢ wp frame (wpE defs 𝒱 (c : Thread nD τ) none) E (.ret PUnit.unit) _
    rw [wp_ret]
    iintro H; imodintro; iexact H
  | load b r h k ih =>
    intro σ
    refine (St_focus c arg harg σ b).trans ?_
    iintro ⟨%f, %hf, H, HR⟩
    iapply (wp_load 𝒱 (c : Thread nD τ) none E (m := arg b) (r := r.toLoadRect) (S := Finset.univ) (f := f) (Finset.subset_univ _)) $$ H
    iintro H
    ihave HS := (St_back c arg harg σ b f) $$ [H HR]
    · isplitl [H]; · iexact H
      iexact HR
    rw [hf, State.set_self]
    have e : (arg b).view.readAt Val r.toLoadRect f = fun i => σ b (r.emb i) := by rw [← hf]; rfl
    rw [e]
    iapply (ih _ σ) $$ HS
  | loadS b r hr r' h k ih =>
    intro σ
    refine (St_focus c arg harg σ b).trans ?_
    iintro ⟨%f, %hf, H, HR⟩
    iapply (wp_load 𝒱 (c : Thread nD τ) none E (m := (arg b).slice r hr) (r := r'.toLoadRect) (S := Finset.univ) (f := f) (Finset.subset_univ _)) $$ H
    iintro H
    ihave HS := (St_back c arg harg σ b f) $$ [H HR]
    · isplitl [H]; · iexact H
      iexact HR
    rw [hf, State.set_self]
    have e : ((arg b).slice r hr).view.readAt Val r'.toLoadRect f = fun i => σ b (r.emb (r'.emb i)) := by rw [← hf]; rfl
    rw [e]
    iapply (ih _ σ) $$ HS
  | dead b r hr s hs r' h k ih =>
    intro σ
    refine (St_focus c arg harg σ b).trans ?_
    iintro ⟨%f, %hf, H, HR⟩
    iapply (wp_load 𝒱 (c : Thread nD τ) none E (m := ((arg b).slice r hr).squeeze s hs) (r := r'.toLoadRect) (S := Finset.univ) (f := f) (Finset.subset_univ _)) $$ H
    iintro H
    ihave HS := (St_back c arg harg σ b f) $$ [H HR]
    · isplitl [H]; · iexact H
      iexact HR
    rw [hf, State.set_self]
    iapply (ih σ) $$ HS
  | store b r w h k ih =>
    intro σ
    refine (St_focus c arg harg σ b).trans ?_
    iintro ⟨%f, %hf, H, HR⟩
    iapply (wp_store 𝒱 (c : Thread nD τ) none E (m := arg b) (r := r) (S := Finset.univ) (f := f) (Finset.subset_univ _)) $$ H
    iintro H
    ihave HS := (St_back c arg harg σ b _) $$ [H HR]
    · isplitl [H]; · iexact H
      iexact HR
    rw [read_store, hf]
    iapply (ih _) $$ HS
  | storeS b r hr r' w h k ih =>
    intro σ
    refine (St_focus c arg harg σ b).trans ?_
    iintro ⟨%f, %hf, H, HR⟩
    iapply (wp_store 𝒱 (c : Thread nD τ) none E (m := (arg b).slice r hr) (r := r') (S := Finset.univ) (f := f) (Finset.subset_univ _)) $$ H
    iintro H
    ihave HS := (St_back c arg harg σ b _) $$ [H HR]
    · isplitl [H]; · iexact H
      iexact HR
    rw [read_storeS, hf]
    iapply (ih _) $$ HS
  | loop lp ok body k ihb ihk =>
    intro σ
    have hb : ∀ (t : Fin lp.trips) (acc : PUnit),
        (St c arg (((List.finRange lp.trips).take t.val).foldl (fun σ t => run (body t) σ) σ) : sProp (MT nD τ sig Ix Val Name U Lvl))
          ⊢ wp frame (wpE defs 𝒱 (c : Thread nD τ) none) E (toProg arg harg (body t) : Prog (TpuEff nD τ sig Val Λ .tc) PUnit)
            (fun _ => St c arg (((List.finRange lp.trips).take (t.val + 1)).foldl (fun σ t => run (body t) σ) σ)) := by
      intro t _
      have e : (List.finRange lp.trips).take (t.val + 1) = (List.finRange lp.trips).take t.val ++ [t] := by
        rw [List.take_succ_eq_append_getElem (by simp)]; simp
      rw [e, List.foldl_append]
      exact ihb t _
    have hl := Scf.wp_for_bind frame (wpE defs 𝒱 (c : Thread nD τ) none) E lp.lb lp.ub lp.st ok PUnit.unit
      (fun t _ => (toProg arg harg (body t) : Prog (TpuEff nD τ sig Val Λ .tc) PUnit))
      (fun n _ => (St c arg (((List.finRange lp.trips).take n).foldl (fun σ t => run (body t) σ) σ) : sProp (MT nD τ sig Ix Val Name U Lvl)))
      hb (kk := fun _ => toProg arg harg k) (Q := fun _ => St c arg (run (.loop lp ok body k) σ))
    iintro H
    iapply hl $$ [H]
    · iexact H
    iintro %acc H
    have e : (List.finRange lp.trips).take (Scf.trips lp.lb lp.ub lp.st) = List.finRange lp.trips :=
      List.take_of_length_le (by simp [Scf.Loop.trips])
    rw [e]
    iapply (ihk _) $$ H

end Wp

end Cert.Dual

end
-- ==== Proof.Kern.lean ====
/- The kernel as programs on its buffers, written by strips, tiles and groups. -/
module

public import proofs.«01_k».proof.Proof.Base

@[expose] public section

noncomputable section

namespace Cert.Dual

open Idealize.ShloMosaic Idealize.ShloMosaic.TcCoe

/-- A program with a result: what to do, given what to do with the result. -/
def C (sig : RefSig) (Val : EltTy → Type) (α : Type) : Type := (α → M sig Val) → M sig Val

instance (sig : RefSig) (Val : EltTy → Type) : Monad (C sig Val) where
  pure a := fun k => k a
  bind x f := fun k => x fun a => f a k

section Ops

variable {sig : RefSig} {Val : EltTy → Type}

def ld (b : B) (r : Rect b.sh) (h : 0 < r.shape.numel) : C sig Val (r.shape.Idx → Val b.el) := fun k => .load b r h k

def ldS (b : B) (r : Rect b.sh) (hr : ∀ a, r.stride a = 1) (r' : Rect r.shape) (h : 0 < r'.shape.numel) :
    C sig Val (r'.shape.Idx → Val b.el) := fun k => .loadS b r hr r' h k

def dead (b : B) (r : Rect b.sh) (hr : ∀ a, r.stride a = 1) (s : Shape) (hs : r.shape.Squeezes s) (r' : Rect s)
    (h : 0 < r'.shape.numel) : C sig Val PUnit := fun k => .dead b r hr s hs r' h (k ⟨⟩)

/-- A store over what is there, which the printed program also loads. -/
def st (b : B) (r : Rect b.sh) (hn : 0 < r.shape.numel) (he : b.el.bits = 32) (w : r.shape.Idx → Val b.el) :
    C sig Val PUnit := fun k =>
  .load b r hn fun _ => .store b r w (fun _ _ => View.stores_vmem_bits_univ hn he) (k ⟨⟩)

def stS (b : B) (r : Rect b.sh) (hr : ∀ a, r.stride a = 1) (r' : Rect r.shape) (hn : 0 < r'.shape.numel)
    (he : b.el.bits = 32) (w : r'.shape.Idx → Val b.el) : C sig Val PUnit := fun k =>
  .loadS b r hr r' hn fun _ => .storeS b r hr r' w (fun _ _ => View.stores_vmem_bits_univ hn he) (k ⟨⟩)

def st0 (b : B) (r : Rect b.sh) (w : r.shape.Idx → Val b.el)
    (h : ∀ m : Memref sig .tc .vmem b.sh b.el, m.IsWhole → (m.access r).Stores Finset.univ) :
    C sig Val PUnit := fun k => .store b r w h (k ⟨⟩)

/-- The list's elements in order. -/
def forL {ι : Type} (f : ι → C sig Val PUnit) : List ι → C sig Val PUnit
  | [] => pure ⟨⟩
  | i :: l => do f i; forL f l

/-- The list's elements in order, a value carried. -/
def foldL {ι β : Type} (f : ι → β → C sig Val β) : List ι → β → C sig Val β
  | [], x => pure x
  | i :: l, x => do let y ← f i x; foldL f l y

/-- The eight groups of a half strip in order: each yields its own value and the value carried. -/
def groups {α β : Type} (g : Fin 8 → β → C sig Val (α × β)) (x : β) : C sig Val ((Fin 8 → α) × β) := do
  let (a0, x) ← g 0 x
  let (a1, x) ← g 1 x
  let (a2, x) ← g 2 x
  let (a3, x) ← g 3 x
  let (a4, x) ← g 4 x
  let (a5, x) ← g 5 x
  let (a6, x) ← g 6 x
  let (a7, x) ← g 7 x
  pure (![a0, a1, a2, a3, a4, a5, a6, a7], x)

/-- Eight values read in order. -/
def reads {α : Type} (g : Fin 8 → C sig Val α) : C sig Val (Fin 8 → α) := do
  let a0 ← g 0
  let a1 ← g 1
  let a2 ← g 2
  let a3 ← g 3
  let a4 ← g 4
  let a5 ← g 5
  let a6 ← g 6
  let a7 ← g 7
  pure ![a0, a1, a2, a3, a4, a5, a6, a7]

/-- A counted loop of fifteen trips. -/
@[reducible] def lp15 : Scf.Loop 32 := ⟨0#32, Scalar.addi 0#32 15#32, 1#32⟩

theorem lp15_ok : lp15.OK := by decide

def loop15 (f : Fin lp15.trips → C sig Val PUnit) : C sig Val PUnit := fun k =>
  .loop lp15 lp15_ok (fun t => f t fun _ => .ret) (k ⟨⟩)

end Ops

/-- The row a strip starts at. -/
abbrev Strip := { x : Nat // x + 128 ≤ 1920 ∧ 2 ∣ x }
/-- A batch. -/
abbrev Bat := { n : Nat // n + 1 ≤ 12 }

/-- The strip of a trip, -/
def stripBV (t : Fin lp15.trips) : BitVec 32 := Scalar.muli (Scf.iv 0#32 1#32 t) 128#32
/-- and the next one, the last its own next. -/
def nextBV (t : Fin lp15.trips) : BitVec 32 :=
  Scalar.muli (Scalar.minsi (Scalar.addi (Scf.iv 0#32 1#32 t) 1#32) 14#32) 128#32

theorem trips15 : lp15.trips = 15 := by decide

theorem stripBV_toNat (t : Fin lp15.trips) : (stripBV t).toNat = 128 * t.val := by
  revert t; decide
theorem nextBV_toNat (t : Fin lp15.trips) : (nextBV t).toNat = 128 * min (t.val + 1) 14 := by
  revert t; decide

def strip (t : Fin lp15.trips) : Strip :=
  ⟨(stripBV t).toNat, by rw [stripBV_toNat]; have := t.isLt; simp only [trips15] at this; omega, by rw [stripBV_toNat]; omega⟩
def nextStrip (t : Fin lp15.trips) : Strip :=
  ⟨(nextBV t).toNat, by rw [nextBV_toNat]; have := t.isLt; simp only [trips15] at this; omega, by rw [nextBV_toNat]; omega⟩

section Kern

variable {sig : RefSig} {F : FTy → Type} [FloatOps F]

/-- The shapes of the values the kernel computes with. -/
abbrev Q8 : Shape := ⟨2, ![8, 128]⟩
abbrev Q128 : Shape := ⟨2, ![128, 128]⟩
abbrev V8 (F : FTy → Type) := FVec F Q8 .f32

/-- A box of two axes, -/
abbrev R2 {d : Fin 2 → Nat} (o0 o1 n0 n1 : Nat) (h0 : o0 + n0 ≤ d 0) (h1 : o1 + n1 ≤ d 1) : Rect ⟨2, d⟩ :=
  Rect.unit (s := ⟨2, d⟩) ![o0, o1] ![n0, n1] (Rect.inb₂ (d := d) h0 h1)

/-- and of three. -/
abbrev R3 {d : Fin 3 → Nat} (o0 o1 o2 n0 n1 n2 : Nat) (h0 : o0 + n0 ≤ d 0) (h1 : o1 + n1 ≤ d 1) (h2 : o2 + n2 ≤ d 2) :
    Rect ⟨3, d⟩ :=
  Rect.unit (s := ⟨3, d⟩) ![o0, o1, o2] ![n0, n1, n2]
    (Fin.forall_fin_succ.mpr ⟨h0, Fin.forall_fin_succ.mpr ⟨h1, Fin.forall_fin_one.mpr h2⟩⟩)

theorem n8 : 0 < (⟨2, ![8, 128]⟩ : Shape).numel := by decide
theorem n18 : 0 < (⟨3, ![1, 8, 128]⟩ : Shape).numel := by decide

/-- The columns' tiles. -/
def T16 : List (Fin 16) := [0, 1, 2, 3, 4, 5, 6, 7, 8, 9, 10, 11, 12, 13, 14, 15]
/-- The columns' full tiles. -/
def T15 : List (Fin 15) := [0, 1, 2, 3, 4, 5, 6, 7, 8, 9, 10, 11, 12, 13, 14]
/-- The right operand's full chunks. -/
def T7 : List (Fin 7) := [0, 1, 2, 3, 4, 5, 6]

/-- The strip of a row buffer with 128 columns, -/
abbrev rN (x : Strip) : Rect (⟨2, ![1920, 128]⟩ : Shape) := R2 (d := ![1920, 128]) x.1 0 128 128 x.2.1 (by decide)
/-- of one with 2048, -/
abbrev rW (x : Strip) : Rect (⟨2, ![1920, 2048]⟩ : Shape) := R2 (d := ![1920, 2048]) x.1 0 128 2048 x.2.1 (by decide)
/-- group `q` of half `s` of a strip of 128 columns, -/
abbrev rNg (s : Fin 2) (q : Fin 8) : Rect (⟨2, ![128, 128]⟩ : Shape) :=
  R2 (d := ![128, 128]) (64 * s.val + 8 * q.val) 0 8 128 (show _ ≤ 128 by omega) (by decide)
/-- and of tile `j` of a strip of 2048. -/
abbrev rWg (s : Fin 2) (q : Fin 8) (j : Fin 16) : Rect (⟨2, ![128, 2048]⟩ : Shape) :=
  R2 (d := ![128, 2048]) (64 * s.val + 8 * q.val) (128 * j.val) 8 128 (show _ ≤ 128 by omega) (show _ ≤ 2048 by omega)
/-- Tile `j` of an eight-row buffer. -/
abbrev rC (j : Fin 16) : Rect (⟨2, ![8, 2048]⟩ : Shape) :=
  R2 (d := ![8, 2048]) 0 (128 * j.val) 8 128 (by decide) (show _ ≤ 2048 by omega)

theorem ones2 {d : Fin 2 → Nat} {o0 o1 n0 n1 : Nat} {h0 h1} : ∀ a, (R2 (d := d) o0 o1 n0 n1 h0 h1).stride a = 1 :=
  fun _ => rfl
theorem ones3 {d : Fin 3 → Nat} {o0 o1 o2 n0 n1 n2 : Nat} {h0 h1 h2} :
    ∀ a, (R3 (d := d) o0 o1 o2 n0 n1 n2 h0 h1 h2).stride a = 1 := fun _ => rfl

def c8 (v : V8 F) : V8 F := shapeCast Q8 v (by decide)

/-- The value itself in the last tile's columns that are there, the mask in the rest. -/
def padMask (mask : F .f32) (t : V8 F) : V8 F :=
  select (cmpi .slt (iota .tc Q8 32 [1] (by decide)) (broadcast Q8 96#32)) t (broadcast Q8 mask)

/-- A group of the scores' pass over tile `j`. -/
def grp1 (mask : F .f32) (x : Strip) (s : Fin 2) (j : Fin 16) (a r : Fin 8 → V8 F) (bv : V8 F)
    (q : Fin 8) (c : V8 F) : C sig (Elt F) (V8 F × V8 F) := do
  let dv : V8 F ← ldS .d (rW x) ones2 (rWg s q j) n8
  let t0 : V8 F := mulf (mulf dv bv) (a q)
  let t : V8 F := match j with
    | ⟨15, _⟩ => padMask mask t0
    | _ => t0
  stS .tp (rW x) ones2 (rWg s q j) n8 rfl (c8 t)
  pure (match j with | ⟨0, _⟩ => t | _ => maximumf (r q) t, maximumf c t)

def tile1 (mask : F .f32) (bat : Bat) (x : Strip) (s : Fin 2) (a : Fin 8 → V8 F) (j : Fin 16) (r : Fin 8 → V8 F) :
    C sig (Elt F) (Fin 8 → V8 F) := do
  let bv : FVec F ⟨3, ![1, 8, 128]⟩ .f32 ←
    ld .b (R3 (d := ![12, 8, 2048]) bat.1 0 (128 * j.val) 1 8 128 bat.2 (by decide) (show _ ≤ 2048 by omega)) n18
  let bv : V8 F := shapeCast Q8 bv (by decide)
  let c : V8 F ← ld .c (rC j) n8
  let (r', c) ← groups (grp1 mask x s j a r bv) c
  st .c (rC j) n8 rfl (c8 c)
  pure r'

def half1 (mask : F .f32) (bat : Bat) (x : Strip) (s : Fin 2) : C sig (Elt F) PUnit := do
  let a : Fin 8 → V8 F ← reads fun q => ldS .a (rN x) ones2 (rNg s q) n8
  let r ← foldL (tile1 mask bat x s a) T16 a
  let _ ← groups (fun q _ => do
    stS .rraw (rN x) ones2 (rNg s q) n8 rfl (c8 (r q))
    pure ((⟨⟩ : PUnit), (⟨⟩ : PUnit))) ⟨⟩
  pure ⟨⟩

/-- The scores' pass over a strip. -/
def pass1 (mask : F .f32) (bat : Bat) (x : Strip) : C sig (Elt F) PUnit := do
  half1 mask bat x 0
  half1 mask bat x 1

/-! ### The strip's products, its scale and the reductions -/

abbrev v1 : Shape := ⟨1, ![128]⟩
abbrev Q1 : Shape := ⟨2, ![1, 128]⟩
abbrev QC : Shape := ⟨2, ![128, 1]⟩

theorem n128 : 0 < (⟨2, ![128, 128]⟩ : Shape).numel := by decide
theorem n82048 : 0 < (⟨2, ![8, 2048]⟩ : Shape).numel := by decide
theorem n1x128 : 0 < (⟨2, ![1, 128]⟩ : Shape).numel := by decide
theorem n11x128 : 0 < (⟨3, ![1, 1, 128]⟩ : Shape).numel := by decide

def c128 (v : FVec F Q128 .f32) : FVec F Q128 .f32 := shapeCast Q128 v (by decide)

def dotW : DotDims (⟨2, ![128, 256]⟩ : Shape) (⟨2, ![256, 256]⟩ : Shape) (⟨2, ![128, 256]⟩ : Shape) where
  lhsContracting := [1]
  rhsContracting := [1]
  lhsNonContracting := [0]
  rhsNonContracting := [0]
  lhsBatch := []
  rhsBatch := []
  wf := by decide

def dotL : DotDims (⟨2, ![128, 256]⟩ : Shape) (⟨2, ![224, 256]⟩ : Shape) (⟨2, ![128, 224]⟩ : Shape) where
  lhsContracting := [1]
  rhsContracting := [1]
  lhsNonContracting := [0]
  rhsNonContracting := [0]
  lhsBatch := []
  rhsBatch := []
  wf := by decide

/-- A strip's products with the right operand, chunk by chunk. -/
def dotStrip (x : Strip) : C sig (Elt F) PUnit := do
  let l : FVec F ⟨3, ![1, 128, 256]⟩ .fp8e4m3 ←
    ld .f0 (R3 (d := ![1, 1920, 256]) 0 x.1 0 1 128 256 (by decide) x.2.1 (by decide))
      (show 0 < Shape.numel ⟨3, ![1, 128, 256]⟩ by decide)
  let l : FVec F ⟨2, ![128, 256]⟩ .fp8e4m3 := shapeCast _ l (by decide)
  forL (fun c : Fin 7 => do
    let r : FVec F ⟨3, ![1, 256, 256]⟩ .fp8e4m3 ←
      ld .f1 (R3 (d := ![1, 2016, 256]) 0 (256 * c.val) 0 1 256 256 (by decide) (show _ ≤ 2016 by omega) (by decide))
        (show 0 < Shape.numel ⟨3, ![1, 256, 256]⟩ by decide)
    let r : FVec F ⟨2, ![256, 256]⟩ .fp8e4m3 := shapeCast _ r (by decide)
    let p : FVec F ⟨2, ![128, 256]⟩ .f32 := matmul dotW none l r (constant ⟨2, ![128, 256]⟩ .f32 0x00000000#32)
    st .d (R2 (d := ![1920, 2048]) x.1 (256 * c.val) 128 256 x.2.1 (show _ ≤ 2048 by omega))
      (show 0 < Shape.numel ⟨2, ![128, 256]⟩ by decide) rfl (shapeCast ⟨2, ![128, 256]⟩ p (by decide))) T7
  let r : FVec F ⟨3, ![1, 224, 256]⟩ .fp8e4m3 ←
    ld .f1 (R3 (d := ![1, 2016, 256]) 0 1792 0 1 224 256 (by decide) (by decide) (by decide))
      (show 0 < Shape.numel ⟨3, ![1, 224, 256]⟩ by decide)
  let r : FVec F ⟨2, ![224, 256]⟩ .fp8e4m3 := shapeCast _ r (by decide)
  let p : FVec F ⟨2, ![128, 224]⟩ .f32 := matmul dotL none l r (constant ⟨2, ![128, 224]⟩ .f32 0x00000000#32)
  st .d (R2 (d := ![1920, 2048]) x.1 1792 128 224 x.2.1 (by decide))
    (show 0 < Shape.numel ⟨2, ![128, 224]⟩ by decide) rfl (shapeCast ⟨2, ![128, 224]⟩ p (by decide))

/-- A strip's row scales, one column each. -/
def scaleStrip (bat : Bat) (x : Strip) : C sig (Elt F) PUnit := do
  let v : FVec F ⟨3, ![1, 1, 128]⟩ .f32 ←
    ld .arow (R3 (d := ![12, 1, 1920]) bat.1 0 x.1 1 1 128 bat.2 (by decide) x.2.1) n11x128
  let v : FVec F Q1 .f32 := shapeCast _ v (by decide)
  let v : FVec F Q1 .f32 := shapeCast _ v (by decide)
  let v : FVec F Q128 .f32 := broadcastTo Q128 v (by decide)
  let v : FVec F Q128 .f32 := transpose Q128 [1, 0] v (by decide)
  st .a (rN x) n128 rfl (c128 v)

/-- A row's value over its 128 columns, at each of them. -/
def rowSpread (v : FVec F v1 .f32) : FVec F Q128 .f32 :=
  let v : FVec F QC .f32 := shapeCast QC v (by decide)
  let v : FVec F QC .f32 := shapeCast QC v (by decide)
  broadcastTo Q128 v (by decide)

/-- A column's value over eight rows, at each of them. -/
def colSpread (v : FVec F v1 .f32) : FVec F Q8 .f32 :=
  let v : FVec F Q1 .f32 := shapeCast Q1 v (by decide)
  let v : FVec F Q1 .f32 := shapeCast Q1 v (by decide)
  broadcastTo Q8 v (by decide)

/-- The strip's row maxima. -/
def redRmax (x : Strip) : C sig (Elt F) PUnit := do
  let v : FVec F Q128 .f32 ← ld .rraw (rN x) n128
  let v : FVec F v1 .f32 := multiReduction .maximumf [1] v1 v 0xFF800000#32 (by decide) (.inl rfl) rfl
  st .rred (rN x) n128 rfl (c128 (rowSpread v))

/-- The reciprocals of the strip's row sums. -/
def redRsum (x : Strip) : C sig (Elt F) PUnit := do
  let v : FVec F Q128 .f32 ← ld .rsum (rN x) n128
  let v : FVec F v1 .f32 := multiReduction .add [1] v1 v 0x00000000#32 (by decide) (.inl rfl) rfl
  st .rinv (rN x) n128 rfl (c128 (divf (broadcast Q128 (Scalar.ofBits .f32 0x3F800000#32)) (rowSpread v)))

/-- A tile's column maxima. -/
def redC (j : Fin 16) : C sig (Elt F) PUnit := do
  let v : V8 F ← ld .c (rC j) n8
  let v : FVec F v1 .f32 := multiReduction .maximumf [0] v1 v 0xFF800000#32 (by decide) (.inl rfl) rfl
  st .c (rC j) n8 rfl (c8 (colSpread v))

/-- The reciprocals of a tile's column sums. -/
def redCsum (j : Fin 16) : C sig (Elt F) PUnit := do
  let v : V8 F ← ld .csum (rC j) n8
  let v : FVec F v1 .f32 := multiReduction .add [0] v1 v 0x00000000#32 (by decide) (.inl rfl) rfl
  st .csum (rC j) n8 rfl (c8 (divf (broadcast Q8 (Scalar.ofBits .f32 0x3F800000#32)) (colSpread v)))

/-- The whole of an eight-row buffer. -/
abbrev rAll : Rect (⟨2, ![8, 2048]⟩ : Shape) := R2 (d := ![8, 2048]) 0 0 8 2048 (by decide) (by decide)

def fillC (v : F .f32) : C sig (Elt F) PUnit :=
  st .c rAll n82048 rfl (shapeCast _ (broadcast ⟨2, ![8, 2048]⟩ v) (by decide))

def fillCsum (v : F .f32) : C sig (Elt F) PUnit :=
  st .csum rAll n82048 rfl (shapeCast _ (broadcast ⟨2, ![8, 2048]⟩ v) (by decide))

def zero : F .f32 := Scalar.ofBits .f32 0x00000000#32

/-! ### The exponentials' pass -/

def grp2 (x : Strip) (s : Fin 2) (j : Fin 16) (m r : Fin 8 → V8 F) (c : V8 F) (q : Fin 8) (u : V8 F) :
    C sig (Elt F) (V8 F × V8 F) := do
  let t : V8 F ← ldS .tp (rW x) ones2 (rWg s q j) n8
  let er : V8 F := exp2 (subf t (m q))
  let ec : V8 F := exp2 (subf t c)
  stS .tp (rW x) ones2 (rWg s q j) n8 rfl (c8 (mulf er ec))
  pure (match j with | ⟨0, _⟩ => er | _ => addf (r q) er, addf u ec)

def tile2 (x : Strip) (s : Fin 2) (m : Fin 8 → V8 F) (j : Fin 16) (r : Fin 8 → V8 F) :
    C sig (Elt F) (Fin 8 → V8 F) := do
  let c : V8 F ← ld .c (rC j) n8
  let u : V8 F ← ld .csum (rC j) n8
  let (r', u) ← groups (grp2 x s j m r c) u
  st .csum (rC j) n8 rfl (c8 u)
  pure r'

def half2 (x : Strip) (s : Fin 2) : C sig (Elt F) PUnit := do
  let m : Fin 8 → V8 F ← reads fun q => ldS .rred (rN x) ones2 (rNg s q) n8
  let r ← foldL (tile2 x s m) T16 m
  let _ ← groups (fun q _ => do
    stS .rsum (rN x) ones2 (rNg s q) n8 rfl (c8 (r q))
    pure ((⟨⟩ : PUnit), (⟨⟩ : PUnit))) ⟨⟩
  pure ⟨⟩

/-- The exponentials' pass over a strip, after the next batch's products there. -/
def pass2 (nbat : Bat) (x y : Strip) : C sig (Elt F) PUnit := do
  dotStrip x
  scaleStrip nbat x
  half2 x 0
  half2 x 1
  redRmax y

/-! ### The results' pass -/

/-- Eight groups in order, what each pair yields written after it. -/
def pairs {α γ β : Type} (g : Fin 8 → β → C sig (Elt F) ((α × γ) × β)) (w : Fin 4 → γ → γ → C sig (Elt F) PUnit)
    (x : β) : C sig (Elt F) ((Fin 8 → α) × β) := do
  let ((a0, w0), x) ← g 0 x
  let ((a1, w1), x) ← g 1 x
  w 0 w0 w1
  let ((a2, w2), x) ← g 2 x
  let ((a3, w3), x) ← g 3 x
  w 1 w2 w3
  let ((a4, w4), x) ← g 4 x
  let ((a5, w5), x) ← g 5 x
  w 2 w4 w5
  let ((a6, w6), x) ← g 6 x
  let ((a7, w7), x) ← g 7 x
  w 3 w6 w7
  pure (![a0, a1, a2, a3, a4, a5, a6, a7], x)

def grp3 (x : Strip) (s : Fin 2) (j : Fin 16) (ri r : Fin 8 → V8 F) (ci : V8 F) (q : Fin 8) (c : V8 F) :
    C sig (Elt F) ((V8 F × V8 F) × V8 F) := do
  let t : V8 F ← ldS .tp (rW x) ones2 (rWg s q j) n8
  let v : V8 F := mulf t ci
  let w : V8 F := mulf v (ri q)
  pure ((match j with | ⟨0, _⟩ => v | _ => maximumf (r q) v, w), maximumf c w)

theorem packed3 {o1 o2 n2 : Nat} {h0 h1 h2} (h : 2 ∣ o1) :
    (R3 (d := ![1, 1920, 2016]) 0 o1 o2 1 16 n2 h0 h1 h2).PackedRows 2 := by
  have h3 : 2 ≤ 3 := by decide
  refine .inr (Exists.intro h3 ⟨rfl, .inl ⟨h, ?_⟩⟩)
  show 2 ∣ 16
  decide

theorem storesConf {o1 o2 n2 : Nat} {h0 h1 h2} (h : 2 ∣ o1)
    (hn : 0 < (R3 (d := ![1, 1920, 2016]) 0 o1 o2 1 16 n2 h0 h1 h2).shape.numel)
    (m : Memref sig .tc .vmem B.conf.sh B.conf.el) (hm : m.IsWhole) :
    (m.access (R3 (d := ![1, 1920, 2016]) 0 o1 o2 1 16 n2 h0 h1 h2)).Stores Finset.univ :=
  View.stores_vmem hn (hm.storeExact_slice rfl _ (packed3 h)) (fun _ => rfl)

/-- The strip of the result's block. -/
abbrev rK (x : Strip) : Rect (⟨3, ![1, 1920, 2016]⟩ : Shape) :=
  R3 (d := ![1, 1920, 2016]) 0 x.1 0 1 128 2016 (by decide) x.2.1 (by decide)

theorem rK_h1 (x : Strip) (s : Fin 2) (p : Fin 4) : x.1 + (64 * s.val + 16 * p.val) + 16 ≤ 1920 := by
  have := x.2.1; omega
theorem rK_even (x : Strip) (s : Fin 2) (p : Fin 4) : 2 ∣ x.1 + (64 * s.val + 16 * p.val) := by
  have := x.2.2; omega

/-- Where a pair of groups of a full tile lies in the result's block, -/
abbrev rKp (x : Strip) (s : Fin 2) (p : Fin 4) (j : Fin 15) : Rect (⟨3, ![1, 1920, 2016]⟩ : Shape) :=
  R3 (d := ![1, 1920, 2016]) 0 (x.1 + (64 * s.val + 16 * p.val)) (128 * j.val) 1 16 128 (by decide) (rK_h1 x s p)
    (show _ ≤ 2016 by omega)
/-- and of the last. -/
abbrev rKl (x : Strip) (s : Fin 2) (p : Fin 4) : Rect (⟨3, ![1, 1920, 2016]⟩ : Shape) :=
  R3 (d := ![1, 1920, 2016]) 0 (x.1 + (64 * s.val + 16 * p.val)) 1920 1 16 96 (by decide) (rK_h1 x s p) (by decide)

theorem n1x16x128 : 0 < (⟨3, ![1, 16, 128]⟩ : Shape).numel := by decide
theorem n1x16x96 : 0 < (⟨3, ![1, 16, 96]⟩ : Shape).numel := by decide

theorem cat16 : Shape.Concatenates [Q8, Q8] ⟨2, ![16, 128]⟩ 0 := by decide
theorem sqK : Shape.Squeezes ⟨3, ![1, 128, 2016]⟩ ⟨2, ![128, 2016]⟩ := by decide

/-- Two groups one over the other, in the result's format. -/
def pair16 (u v : V8 F) : FVec F ⟨2, ![16, 128]⟩ .bf16 :=
  truncf .bf16 (concatenate ⟨2, ![16, 128]⟩ 0 [⟨Q8, u⟩, ⟨Q8, v⟩] cat16 : FVec F ⟨2, ![16, 128]⟩ .f32) (by decide)

/-- A pair of groups of a full tile written, -/
def wr3 (x : Strip) (s : Fin 2) (j : Fin 15) (p : Fin 4) (u v : V8 F) : C sig (Elt F) PUnit := do
  dead .conf (rK x) ones3 ⟨2, ![128, 2016]⟩ sqK
    (R2 (d := ![128, 2016]) (64 * s.val + 16 * p.val) (128 * j.val) 16 128 (show _ ≤ 128 by omega) (show _ ≤ 2016 by omega))
    (show 0 < Shape.numel ⟨2, ![16, 128]⟩ by decide)
  st0 .conf (rKp x s p j) (shapeCast ⟨3, ![1, 16, 128]⟩ (pair16 u v) (by decide))
    (storesConf (rK_even x s p) n1x16x128)

/-- and of the last. -/
def wr3l (x : Strip) (s : Fin 2) (p : Fin 4) (u v : V8 F) : C sig (Elt F) PUnit := do
  dead .conf (rK x) ones3 ⟨2, ![128, 2016]⟩ sqK
    (R2 (d := ![128, 2016]) (64 * s.val + 16 * p.val) 1920 16 96 (show _ ≤ 128 by omega) (by decide))
    (show 0 < Shape.numel ⟨2, ![16, 96]⟩ by decide)
  st0 .conf (rKl x s p)
    (shapeCast ⟨3, ![1, 16, 96]⟩ (extractStridedSlice ⟨2, ![16, 96]⟩ ![0, 0] (pair16 u v) (by decide)) (by decide))
    (storesConf (rK_even x s p) n1x16x96)

def wrAny (x : Strip) (s : Fin 2) (j : Fin 16) (p : Fin 4) (u v : V8 F) : C sig (Elt F) PUnit :=
  if h : j.val < 15 then wr3 x s ⟨j.val, h⟩ p u v else wr3l x s p u v

def tile3 (x : Strip) (s : Fin 2) (ri : Fin 8 → V8 F) (j : Fin 16) (r : Fin 8 → V8 F) :
    C sig (Elt F) (Fin 8 → V8 F) := do
  let ci : V8 F ← ld .csum (rC j) n8
  let c : V8 F ← ld .c (rC j) n8
  let (r', c) ← pairs (grp3 x s j ri r ci) (wrAny x s j) c
  st .c (rC j) n8 rfl (c8 c)
  pure r'

def half3 (x : Strip) (s : Fin 2) : C sig (Elt F) PUnit := do
  let ri : Fin 8 → V8 F ← reads fun q => ldS .rinv (rN x) ones2 (rNg s q) n8
  let r ← foldL (tile3 x s ri) T16 ri
  let _ ← groups (fun q _ => do
    stS .rraw (rN x) ones2 (rNg s q) n8 rfl (c8 (mulf (r q) (ri q)))
    pure ((⟨⟩ : PUnit), (⟨⟩ : PUnit))) ⟨⟩
  pure ⟨⟩

/-- A strip's row maxima put in their row of the results. -/
def rowOut (bat : Bat) (x : Strip) : C sig (Elt F) PUnit := do
  let v : FVec F Q128 .f32 ← ld .rraw (rN x) n128
  let v : FVec F Q128 .f32 := transpose Q128 [1, 0] v (by decide)
  let v : FVec F v1 .f32 := multiReduction .maximumf [0] v1 v 0xFF800000#32 (by decide) (.inl rfl) rfl
  let v : FVec F Q1 .f32 := shapeCast Q1 v (by decide)
  st .rout (R3 (d := ![12, 1, 1920]) bat.1 0 x.1 1 1 128 bat.2 (by decide) x.2.1) n11x128 rfl
    (shapeCast ⟨3, ![1, 1, 128]⟩ v (by decide))

/-- A tile's column maxima put in their row of the results. -/
def colOut (bat : Bat) (j : Fin 16) : C sig (Elt F) PUnit := do
  let v : V8 F ← ld .c (rC j) n8
  let v : FVec F v1 .f32 := multiReduction .maximumf [0] v1 v 0xFF800000#32 (by decide) (.inl rfl) rfl
  let v : FVec F Q1 .f32 := shapeCast Q1 v (by decide)
  st .cout (R3 (d := ![12, 1, 2048]) bat.1 0 (128 * j.val) 1 1 128 bat.2 (by decide) (show _ ≤ 2048 by omega)) n11x128 rfl
    (shapeCast ⟨3, ![1, 1, 128]⟩ v (by decide))

/-- The results' pass over a strip. -/
def pass3 (bat : Bat) (x y : Strip) : C sig (Elt F) PUnit := do
  half3 x 0
  half3 x 1
  redRsum y
  rowOut bat x

/-! ### The three regions -/

/-- The batches. -/
def T12 : List (Fin 12) := [0, 1, 2, 3, 4, 5, 6, 7, 8, 9, 10, 11]

/-- A batch's row scales, times the exponent's scale. -/
def initRow (esc : F .f32) (n : Fin 12) : C sig (Elt F) PUnit := do
  let v : FVec F ⟨2, ![1, 1920]⟩ .f32 ←
    ld .f0s (R2 (d := ![12, 1920]) n.val 0 1 1920 (show _ ≤ 12 by omega) (by decide))
      (show 0 < Shape.numel ⟨2, ![1, 1920]⟩ by decide)
  let v : FVec F ⟨2, ![1, 1920]⟩ .f32 := mulf v (broadcast _ esc)
  st .arow (R3 (d := ![12, 1, 1920]) n.val 0 0 1 1 1920 (show _ ≤ 12 by omega) (by decide) (by decide))
    (show 0 < Shape.numel ⟨3, ![1, 1, 1920]⟩ by decide) rfl (shapeCast ⟨3, ![1, 1, 1920]⟩ v (by decide))

/-- A tile of a batch's column scales, -/
def initCol (n : Fin 12) (j : Fin 15) : C sig (Elt F) PUnit := do
  let v : FVec F Q1 .f32 ←
    ld .f1s (R2 (d := ![12, 2016]) n.val (128 * j.val) 1 128 (show _ ≤ 12 by omega) (show _ ≤ 2016 by omega)) n1x128
  let v : FVec F Q1 .f32 := shapeCast _ v (by decide)
  let v : V8 F := broadcastTo Q8 v (by decide)
  st .b (R3 (d := ![12, 8, 2048]) n.val 0 (128 * j.val) 1 8 128 (show _ ≤ 12 by omega) (by decide)
    (show _ ≤ 2048 by omega)) n18 rfl (shapeCast ⟨3, ![1, 8, 128]⟩ v (by decide))

/-- and the last. -/
def initColL (n : Fin 12) : C sig (Elt F) PUnit := do
  let v : FVec F ⟨2, ![1, 96]⟩ .f32 ←
    ld .f1s (R2 (d := ![12, 2016]) n.val 1920 1 96 (show _ ≤ 12 by omega) (by decide))
      (show 0 < Shape.numel ⟨2, ![1, 96]⟩ by decide)
  let v : FVec F ⟨2, ![1, 96]⟩ .f32 := shapeCast _ v (by decide)
  let v : FVec F ⟨2, ![8, 96]⟩ .f32 := broadcastTo _ v (by decide)
  st .b (R3 (d := ![12, 8, 2048]) n.val 0 1920 1 8 96 (show _ ≤ 12 by omega) (by decide) (by decide))
    (show 0 < Shape.numel ⟨3, ![1, 8, 96]⟩ by decide) rfl (shapeCast ⟨3, ![1, 8, 96]⟩ v (by decide))

def bat0 : Bat := ⟨0, by decide⟩
def strip0 : Strip := ⟨0, by decide⟩

/-- The first point: the scales laid out, and the first batch's products. -/
def first (esc : F .f32) : C sig (Elt F) PUnit := do
  forL (fun n => do
    initRow esc n
    forL (initCol n) T15
    initColL n) T12
  loop15 fun t => do
    dotStrip (strip t)
    scaleStrip bat0 (strip t)

/-- A later point: the batch before's results, and the next batch's products. -/
def later (mask : F .f32) (bat nbat : Bat) : C sig (Elt F) PUnit := do
  fillC mask
  fillCsum zero
  loop15 fun t => pass1 mask bat (strip t)
  redRmax strip0
  forL redC T16
  loop15 fun t => pass2 nbat (strip t) (nextStrip t)
  redRsum strip0
  forL redCsum T16
  fillC zero
  loop15 fun t => pass3 bat (strip t) (nextStrip t)
  forL (colOut bat) T16

/-- A batch's maxima written out. -/
def outRow (n : Fin 12) : C sig (Elt F) PUnit := do
  let v : FVec F ⟨3, ![1, 1, 1920]⟩ .f32 ←
    ld .rout (R3 (d := ![12, 1, 1920]) n.val 0 0 1 1 1920 (show _ ≤ 12 by omega) (by decide) (by decide))
      (show 0 < Shape.numel ⟨3, ![1, 1, 1920]⟩ by decide)
  st .rmax (R2 (d := ![12, 1920]) n.val 0 1 1920 (show _ ≤ 12 by omega) (by decide))
    (show 0 < Shape.numel ⟨2, ![1, 1920]⟩ by decide) rfl (shapeCast ⟨2, ![1, 1920]⟩ v (by decide))
  let v : FVec F ⟨3, ![1, 1, 2016]⟩ .f32 ←
    ld .cout (R3 (d := ![12, 1, 2048]) n.val 0 0 1 1 2016 (show _ ≤ 12 by omega) (by decide) (by decide))
      (show 0 < Shape.numel ⟨3, ![1, 1, 2016]⟩ by decide)
  st .cmax (R2 (d := ![12, 2016]) n.val 0 1 2016 (show _ ≤ 12 by omega) (by decide))
    (show 0 < Shape.numel ⟨2, ![1, 2016]⟩ by decide) rfl (shapeCast ⟨2, ![1, 2016]⟩ v (by decide))

/-- The last point: every batch's maxima written out. -/
def last : C sig (Elt F) PUnit := forL outRow T12

end Kern

end Cert.Dual
-- ==== Proof.Only.lean ====
/- Which buffers a program stores to: the others end as they were. -/
module

public import proofs.«01_k».proof.Proof.Kern

@[expose] public section

noncomputable section

namespace Cert.Dual

open Idealize.ShloMosaic Idealize.ShloMosaic.TcCoe

section Ops

variable {sig : RefSig} {Val : EltTy → Type}

/-- Every store of the program is to a buffer of `S`. -/
def Only (S : B → Prop) : M sig Val → Prop
  | .ret => True
  | .load _ _ _ k => ∀ v, Only S (k v)
  | .loadS _ _ _ _ _ k => ∀ v, Only S (k v)
  | .dead _ _ _ _ _ _ _ k => Only S k
  | .store b _ _ _ k => S b ∧ Only S k
  | .storeS b _ _ _ _ _ k => S b ∧ Only S k
  | .loop _ _ body k => (∀ t, Only S (body t)) ∧ Only S k

theorem run_only {S : B → Prop} {b : B} (hb : ¬ S b) (p : M sig Val) :
    Only S p → ∀ σ : State Val, run p σ b = σ b := by
  induction p with
  | ret => intro _ σ; rfl
  | load b' r h k ih => intro hp σ; exact ih _ (hp _) σ
  | loadS b' r hr r' h k ih => intro hp σ; exact ih _ (hp _) σ
  | dead b' r hr s hs r' h k ih => intro hp σ; exact ih hp σ
  | store b' r w h k ih =>
    intro hp σ
    refine (ih hp.2 _).trans (State.set_ne _ _ ?_)
    rintro rfl; exact hb hp.1
  | storeS b' r hr r' w h k ih =>
    intro hp σ
    refine (ih hp.2 _).trans (State.set_ne _ _ ?_)
    rintro rfl; exact hb hp.1
  | loop lp ok body k ihb ihk =>
    intro hp σ
    refine (ihk hp.2 _).trans ?_
    generalize List.finRange lp.trips = l
    induction l generalizing σ with
    | nil => rfl
    | cons t l ih => exact (ih _).trans (ihb t (hp.1 t) σ)

/-- The same of a program with a result. -/
def OnlyC (S : B → Prop) {α : Type} (m : C sig Val α) : Prop :=
  ∀ k : α → M sig Val, (∀ a, Only S (k a)) → Only S (m k)

namespace OnlyC

variable {S : B → Prop} {α β : Type}

theorem pure (a : α) : OnlyC S (Pure.pure a : C sig Val α) := fun _ h => h a

theorem bind {m : C sig Val α} {f : α → C sig Val β} (hm : OnlyC S m) (hf : ∀ a, OnlyC S (f a)) :
    OnlyC S (m >>= f) := fun k h => hm _ fun a => hf a k h

theorem ld {b : B} {r : Rect b.sh} {h : 0 < r.shape.numel} : OnlyC S (Dual.ld (sig := sig) (Val := Val) b r h) :=
  fun _ hk v => hk v

theorem ldS {b : B} {r : Rect b.sh} {hr : ∀ a, r.stride a = 1} {r' : Rect r.shape} {h : 0 < r'.shape.numel} :
    OnlyC S (Dual.ldS (sig := sig) (Val := Val) b r hr r' h) := fun _ hk v => hk v

theorem dead {b : B} {r : Rect b.sh} {hr : ∀ a, r.stride a = 1} {s : Shape} {hs : r.shape.Squeezes s} {r' : Rect s}
    {h : 0 < r'.shape.numel} : OnlyC S (Dual.dead (sig := sig) (Val := Val) b r hr s hs r' h) := fun _ hk => hk ⟨⟩

theorem st {b : B} {r : Rect b.sh} {hn : 0 < r.shape.numel} {he : b.el.bits = 32} {w : r.shape.Idx → Val b.el}
    (hb : S b) : OnlyC S (Dual.st (sig := sig) b r hn he w) := fun _ hk _ => ⟨hb, hk ⟨⟩⟩

theorem stS {b : B} {r : Rect b.sh} {hr : ∀ a, r.stride a = 1} {r' : Rect r.shape} {hn : 0 < r'.shape.numel}
    {he : b.el.bits = 32} {w : r'.shape.Idx → Val b.el} (hb : S b) :
    OnlyC S (Dual.stS (sig := sig) b r hr r' hn he w) := fun _ hk _ => ⟨hb, hk ⟨⟩⟩

theorem st0 {b : B} {r : Rect b.sh} {w : r.shape.Idx → Val b.el}
    {h : ∀ m : Memref sig .tc .vmem b.sh b.el, m.IsWhole → (m.access r).Stores Finset.univ} (hb : S b) :
    OnlyC S (Dual.st0 b r w h) := fun _ hk => ⟨hb, hk ⟨⟩⟩

theorem forL {ι : Type} {f : ι → C sig Val PUnit} (hf : ∀ i, OnlyC S (f i)) : ∀ l, OnlyC S (Dual.forL f l)
  | [] => pure _
  | i :: l => bind (hf i) fun _ => forL hf l

theorem foldL {ι : Type} {f : ι → β → C sig Val β} (hf : ∀ i x, OnlyC S (f i x)) : ∀ l x, OnlyC S (Dual.foldL f l x)
  | [], _ => pure _
  | i :: l, x => bind (hf i x) fun _ => foldL hf l _

theorem groups {g : Fin 8 → β → C sig Val (α × β)} (hg : ∀ q x, OnlyC S (g q x)) (x : β) :
    OnlyC S (Dual.groups g x) :=
  bind (hg _ _) fun _ => bind (hg _ _) fun _ => bind (hg _ _) fun _ => bind (hg _ _) fun _ =>
    bind (hg _ _) fun _ => bind (hg _ _) fun _ => bind (hg _ _) fun _ => bind (hg _ _) fun _ => pure _

theorem reads {g : Fin 8 → C sig Val α} (hg : ∀ q, OnlyC S (g q)) : OnlyC S (Dual.reads g) :=
  bind (hg _) fun _ => bind (hg _) fun _ => bind (hg _) fun _ => bind (hg _) fun _ =>
    bind (hg _) fun _ => bind (hg _) fun _ => bind (hg _) fun _ => bind (hg _) fun _ => pure _

theorem loop15 {f : Fin lp15.trips → C sig Val PUnit} (hf : ∀ t, OnlyC S (f t)) : OnlyC S (Dual.loop15 f) :=
  fun _ hk => ⟨fun t => hf t (fun _ => .ret) fun _ => trivial, hk ⟨⟩⟩

end OnlyC

/-- A program's own run, its result forgotten. -/
theorem OnlyC.run {S : B → Prop} {α : Type} {m : C sig Val α} (h : OnlyC S m) {b : B} (hb : ¬ S b) (σ : State Val) :
    Dual.run (m fun _ => .ret) σ b = σ b := run_only hb _ (h (fun _ => .ret) fun _ => trivial) σ

end Ops

section Kern

variable {sig : RefSig} {F : FTy → Type} [FloatOps F] {S : B → Prop}

namespace OnlyC

theorem pairs {α γ β : Type} {g : Fin 8 → β → C sig (Elt F) ((α × γ) × β)} {w : Fin 4 → γ → γ → C sig (Elt F) PUnit}
    (hg : ∀ q x, OnlyC S (g q x)) (hw : ∀ p u v, OnlyC S (w p u v)) (x : β) : OnlyC S (Dual.pairs g w x) :=
  bind (hg _ _) fun _ => bind (hg _ _) fun _ => bind (hw _ _ _) fun _ =>
  bind (hg _ _) fun _ => bind (hg _ _) fun _ => bind (hw _ _ _) fun _ =>
  bind (hg _ _) fun _ => bind (hg _ _) fun _ => bind (hw _ _ _) fun _ =>
  bind (hg _ _) fun _ => bind (hg _ _) fun _ => bind (hw _ _ _) fun _ => pure _

theorem grp1 {mask : F .f32} {x s j a r bv q c} (ht : S .tp) : OnlyC (sig := sig) S (Dual.grp1 mask x s j a r bv q c) :=
  bind ldS fun _ => bind (stS ht) fun _ => pure _

theorem tile1 {mask : F .f32} {bat x s a j r} (ht : S .tp) (hc : S .c) :
    OnlyC (sig := sig) S (Dual.tile1 mask bat x s a j r) :=
  bind ld fun _ => bind ld fun _ => bind (groups (fun _ _ => grp1 ht) _) fun _ => bind (st hc) fun _ => pure _

theorem half1 {mask : F .f32} {bat x s} (ht : S .tp) (hc : S .c) (hr : S .rraw) :
    OnlyC (sig := sig) S (Dual.half1 mask bat x s) :=
  bind (reads fun _ => ldS) fun _ => bind (foldL (fun _ _ => tile1 ht hc) _ _) fun _ =>
    bind (groups (fun _ _ => bind (stS hr) fun _ => pure _) _) fun _ => pure _

theorem pass1 {mask : F .f32} {bat x} (ht : S .tp) (hc : S .c) (hr : S .rraw) :
    OnlyC (sig := sig) S (Dual.pass1 mask bat x) :=
  bind (half1 ht hc hr) fun _ => half1 ht hc hr

theorem dotStrip {x} (hd : S .d) : OnlyC S (Dual.dotStrip (sig := sig) (F := F) x) :=
  bind ld fun _ => bind (forL (fun _ => bind ld fun _ => st hd) _) fun _ => bind ld fun _ => st hd

theorem scaleStrip {bat x} (ha : S .a) : OnlyC S (Dual.scaleStrip (sig := sig) (F := F) bat x) :=
  bind ld fun _ => st ha

theorem redRmax {x} (h : S .rred) : OnlyC S (Dual.redRmax (sig := sig) (F := F) x) := bind ld fun _ => st h
theorem redRsum {x} (h : S .rinv) : OnlyC S (Dual.redRsum (sig := sig) (F := F) x) := bind ld fun _ => st h
theorem redC {j} (h : S .c) : OnlyC S (Dual.redC (sig := sig) (F := F) j) := bind ld fun _ => st h
theorem redCsum {j} (h : S .csum) : OnlyC S (Dual.redCsum (sig := sig) (F := F) j) := bind ld fun _ => st h
theorem fillC {v : F .f32} (h : S .c) : OnlyC (sig := sig) S (Dual.fillC v) := st h
theorem fillCsum {v : F .f32} (h : S .csum) : OnlyC (sig := sig) S (Dual.fillCsum v) := st h

theorem grp2 {x s j} {m r : Fin 8 → V8 F} {c q u} (ht : S .tp) : OnlyC (sig := sig) S (Dual.grp2 x s j m r c q u) :=
  bind ldS fun _ => bind (stS ht) fun _ => pure _

theorem tile2 {x s j} {m r : Fin 8 → V8 F} (ht : S .tp) (hc : S .csum) : OnlyC (sig := sig) S (Dual.tile2 x s m j r) :=
  bind ld fun _ => bind ld fun _ => bind (groups (fun _ _ => grp2 ht) _) fun _ => bind (st hc) fun _ => pure _

theorem half2 {x s} (ht : S .tp) (hc : S .csum) (hr : S .rsum) : OnlyC S (Dual.half2 (sig := sig) (F := F) x s) :=
  bind (reads fun _ => ldS) fun _ => bind (foldL (fun _ _ => tile2 ht hc) _ _) fun _ =>
    bind (groups (fun _ _ => bind (stS hr) fun _ => pure _) _) fun _ => pure _

theorem pass2 {bat x y} (hd : S .d) (ha : S .a) (ht : S .tp) (hc : S .csum) (hr : S .rsum) (hm : S .rred) :
    OnlyC S (Dual.pass2 (sig := sig) (F := F) bat x y) :=
  bind (dotStrip hd) fun _ => bind (scaleStrip ha) fun _ => bind (half2 ht hc hr) fun _ =>
    bind (half2 ht hc hr) fun _ => redRmax hm

theorem grp3 {x s j} {ri r : Fin 8 → V8 F} {ci q c} : OnlyC (sig := sig) S (Dual.grp3 x s j ri r ci q c) :=
  bind ldS fun _ => pure _

theorem wrAny {x s j p} {u v : V8 F} (h : S .conf) : OnlyC (sig := sig) S (Dual.wrAny x s j p u v) := by
  unfold Dual.wrAny
  split
  · exact bind dead fun _ => st0 h
  · exact bind dead fun _ => st0 h

theorem tile3 {x s j} {ri r : Fin 8 → V8 F} (hk : S .conf) (hc : S .c) : OnlyC (sig := sig) S (Dual.tile3 x s ri j r) :=
  bind ld fun _ => bind ld fun _ => bind (pairs (fun _ _ => grp3) (fun _ _ _ => wrAny hk) _) fun _ =>
    bind (st hc) fun _ => pure _

theorem half3 {x s} (hk : S .conf) (hc : S .c) (hr : S .rraw) : OnlyC S (Dual.half3 (sig := sig) (F := F) x s) :=
  bind (reads fun _ => ldS) fun _ => bind (foldL (fun _ _ => tile3 hk hc) _ _) fun _ =>
    bind (groups (fun _ _ => bind (stS hr) fun _ => pure _) _) fun _ => pure _

theorem rowOut {bat x} (h : S .rout) : OnlyC S (Dual.rowOut (sig := sig) (F := F) bat x) := bind ld fun _ => st h
theorem colOut {bat j} (h : S .cout) : OnlyC S (Dual.colOut (sig := sig) (F := F) bat j) := bind ld fun _ => st h

theorem pass3 {bat x y} (hk : S .conf) (hc : S .c) (hr : S .rraw) (hi : S .rinv) (ho : S .rout) :
    OnlyC S (Dual.pass3 (sig := sig) (F := F) bat x y) :=
  bind (half3 hk hc hr) fun _ => bind (half3 hk hc hr) fun _ => bind (redRsum hi) fun _ => rowOut ho

end OnlyC

/-- The four inputs' blocks. -/
def B.isIn : B → Prop
  | .f0 | .f0s | .f1 | .f1s => True
  | _ => False

theorem only_first (esc : F .f32) : OnlyC (sig := sig) (fun b => ¬ b.isIn) (first esc) :=
  .bind (.forL (fun _ => .bind (.bind .ld fun _ => .st id) fun _ => .bind (.forL (fun _ => .bind .ld fun _ => .st id) _)
    fun _ => .bind .ld fun _ => .st id) _) fun _ => .loop15 fun _ => .bind (.dotStrip id) fun _ => .scaleStrip id

theorem only_later (mask : F .f32) (bat nbat : Bat) : OnlyC (sig := sig) (fun b => ¬ b.isIn) (later mask bat nbat) :=
  .bind (.fillC id) fun _ => .bind (.fillCsum id) fun _ => .bind (.loop15 fun _ => .pass1 id id id) fun _ =>
  .bind (.redRmax id) fun _ => .bind (.forL (fun _ => .redC id) _) fun _ =>
  .bind (.loop15 fun _ => .pass2 id id id id id id) fun _ => .bind (.redRsum id) fun _ =>
  .bind (.forL (fun _ => .redCsum id) _) fun _ => .bind (.fillC id) fun _ =>
  .bind (.loop15 fun _ => .pass3 id id id id id) fun _ => .forL (fun _ => .colOut id) _

theorem only_last : OnlyC (fun b => ¬ b.isIn) (last (sig := sig) (F := F)) :=
  .forL (fun _ => .bind .ld fun _ => .bind (.st id) fun _ => .bind .ld fun _ => .st id) _

end Kern

end Cert.Dual

end
-- ==== Proof.EqK.lean ====
/- The printed kernel is the structured one: region by region, at each kind of grid point. -/
module

public import proofs.«01_k».proof.Proof.Kern
public import proofs.«01_k».proof.Kernel

@[expose] public section

set_option maxRecDepth 100000
set_option maxHeartbeats 4000000

noncomputable section

namespace Cert.Kernel.Gen

open Idealize.ShloMosaic Idealize.ShloMosaic.TcCoe Idealize.SL.Sem Cert.Dual

variable {F : FTy → Type} [FloatOps F] [Facts]

/-- The kernel's program, its buffers at `args`. -/
abbrev body (i : grid0.Coords) (args : (b : B) → Memref sig .tc .vmem b.sh b.el) (hargs : ∀ b, (args b).IsWhole) :
    Prog (TpuEff nD τ sig (Elt F) Λ₀ .tc) PUnit :=
  cc0_dual_softmax (F := F) i (args .f0) (hargs .f0) (args .f0s) (hargs .f0s) (args .f1) (hargs .f1) (args .f1s) (hargs .f1s)
      (args .conf) (hargs .conf) (args .rmax) (hargs .rmax) (args .cmax) (hargs .cmax) (args .tp) (hargs
      .tp) (args .d) (hargs .d) (args .arow) (hargs .arow) (args .a) (hargs .a) (args .b) (hargs .b) (args
      .rraw) (hargs .rraw) (args .rred) (hargs .rred) (args .rsum) (hargs .rsum) (args .rinv) (hargs
      .rinv) (args .c) (hargs .c) (args .csum) (hargs .csum) (args .rout) (hargs .rout) (args .cout)
      (hargs .cout)

/-- The mask the pad columns hold. -/
abbrev maskV : F .f32 := Scalar.ofBits .f32 0xF149F2CA#32
/-- The exponent's scale. -/
abbrev escV : F .f32 := Scalar.ofBits .f32 0x3D66D4CA#32

variable (args : (b : B) → Memref sig .tc .vmem b.sh b.el) (hargs : ∀ b, (args b).IsWhole) (i : grid0.Coords)

theorem eq_first (h1 : k0_cond1 i = 1#1) (h2 : ¬ k0_cond2 i = 1#1) (h3 : ¬ k0_cond3 i = 1#1) :
    toProg args hargs (first escV fun _ => .ret) = body (F := F) i args hargs := by
  unfold body cc0_dual_softmax
  rw [dif_pos h1, dif_neg h2, dif_neg h3]
  iterate 12 (
    refine load_step fun v => ?_
    refine st_step ?_
    iterate 16 (
      refine load_step fun v => ?_
      refine st_step ?_))
  refine loop_step (fun t => ?_) ?_
  · rfl
  · rfl

theorem eq_mid (h1 : ¬ k0_cond1 i = 1#1) (h2 : k0_cond2 i = 1#1) (h3 : ¬ k0_cond3 i = 1#1) (bat nbat : Bat)
    (hb : bat.1 = (Scalar.subi (BitVec.ofNat 32 (i 0).val) 1#32).toNat)
    (hn : nbat.1 = (Scalar.minsi (BitVec.ofNat 32 (i 0).val) 11#32).toNat) :
    toProg args hargs (later maskV bat nbat fun _ => .ret) = body (F := F) i args hargs := by
  obtain ⟨bv, hbv⟩ := bat
  obtain ⟨nv, hnv⟩ := nbat
  dsimp only at hb hn
  subst hb hn
  unfold body cc0_dual_softmax
  rw [dif_neg h1, dif_pos h2, dif_neg h3]
  refine st_step ?_
  refine st_step ?_
  refine loop_step₂ (fun t => ?_) ?_
  · rfl
  iterate 17 (
    refine load_step fun v => ?_
    refine st_step ?_)
  refine loop_step₂ (fun t => ?_) ?_
  · rfl
  iterate 17 (
    refine load_step fun v => ?_
    refine st_step ?_)
  refine st_step ?_
  refine loop_step₂ (fun t => ?_) ?_
  · rfl
  rfl

theorem eq_end (h1 : ¬ k0_cond1 i = 1#1) (h2 : k0_cond2 i = 1#1) (h3 : k0_cond3 i = 1#1) (bat nbat : Bat)
    (hb : bat.1 = (Scalar.subi (BitVec.ofNat 32 (i 0).val) 1#32).toNat)
    (hn : nbat.1 = (Scalar.minsi (BitVec.ofNat 32 (i 0).val) 11#32).toNat) :
    toProg args hargs ((do later maskV bat nbat; last : C sig (Elt F) PUnit) fun _ => .ret) = body (F := F) i args hargs := by
  obtain ⟨bv, hbv⟩ := bat
  obtain ⟨nv, hnv⟩ := nbat
  dsimp only at hb hn
  subst hb hn
  unfold body cc0_dual_softmax
  rw [dif_neg h1, dif_pos h2, dif_pos h3]
  refine st_step ?_
  refine st_step ?_
  refine loop_step₂ (fun t => ?_) ?_
  · rfl
  iterate 17 (
    refine load_step fun v => ?_
    refine st_step ?_)
  refine loop_step₂ (fun t => ?_) ?_
  · rfl
  iterate 17 (
    refine load_step fun v => ?_
    refine st_step ?_)
  refine st_step ?_
  refine loop_step₂ (fun t => ?_) ?_
  · rfl
  rfl

end Cert.Kernel.Gen
-- ==== Proof.PipeK.lean ====
/- The kernel under its pipeline: what the scratch holds between points, what each point leaves in the outputs'
   buffers, and the run. -/
module

public import proofs.«01_k».proof.Proof.Adeq
public import proofs.«01_k».proof.Proof.Only
public import proofs.«01_k».proof.Proof.EqK
public import proofs.«01_k».proof.Proof.Gen.Kernel
public import proofs.«01_k».proof.Proof.Gen.Kernel.Frame
public import Idealize.ShloMosaic.Lib.Pipeline.DatRel
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Dual

variable {F : FTy → Type} [FloatOps F]

local notation "𝕄" => MT nD τ sig Unit (Elt F) ℕ (UR sig nD τ) ℕ

/-! ## One point -/

/-- The kernel's buffers at point `t`. -/
def args (t : Fin cfg0.N) : (b : B) → Memref sig .tc .vmem b.sh b.el
  | .f0 => win0_0.stage (cfg0.slots t 0)
  | .f0s => win0_1.stage (cfg0.slots t 1)
  | .f1 => win0_2.stage (cfg0.slots t 2)
  | .f1s => win0_3.stage (cfg0.slots t 3)
  | .conf => win0_4.stage (cfg0.slots t 4)
  | .rmax => win0_5.stage (cfg0.slots t 5)
  | .cmax => win0_6.stage (cfg0.slots t 6)
  | .tp => Memref.whole cc0_scratch0
  | .d => Memref.whole cc0_scratch1
  | .arow => Memref.whole cc0_scratch2
  | .a => Memref.whole cc0_scratch3
  | .b => Memref.whole cc0_scratch4
  | .rraw => Memref.whole cc0_scratch5
  | .rred => Memref.whole cc0_scratch6
  | .rsum => Memref.whole cc0_scratch7
  | .rinv => Memref.whole cc0_scratch8
  | .c => Memref.whole cc0_scratch9
  | .csum => Memref.whole cc0_scratch10
  | .rout => Memref.whole cc0_scratch11
  | .cout => Memref.whole cc0_scratch12

/-- Each is a whole buffer. -/
theorem hargs (t : Fin cfg0.N) : ∀ b, (args t b).IsWhole
  | .f0 => hstage0_0 ((cfg0.slots t 0).cast nbuf0_0)
  | .f0s => hstage0_1 ((cfg0.slots t 1).cast nbuf0_1)
  | .f1 => hstage0_2 ((cfg0.slots t 2).cast nbuf0_2)
  | .f1s => hstage0_3 ((cfg0.slots t 3).cast nbuf0_3)
  | .conf => hstage0_4 ((cfg0.slots t 4).cast nbuf0_4)
  | .rmax => hstage0_5 ((cfg0.slots t 5).cast nbuf0_5)
  | .cmax => hstage0_6 ((cfg0.slots t 6).cast nbuf0_6)
  | .tp | .d | .arow | .a | .b | .rraw | .rred | .rsum | .rinv | .c | .csum | .rout | .cout => Memref.isWhole_whole _

/-- The batch whose results point `t` computes, -/
def batOf (t : Nat) : Bat := ⟨min (t - 1) 11, by omega⟩
/-- and the one whose products it computes. -/
def nbatOf (t : Nat) : Bat := ⟨min t 11, by omega⟩

/-- The program of point `t`. -/
def prog (t : Nat) : C sig (Elt F) PUnit :=
  if t = 0 then first escV
  else if t = 12 then (do later maskV (batOf t) (nbatOf t); last)
  else later maskV (batOf t) (nbatOf t)

theorem prog_zero : prog (F := F) 0 = first escV := rfl
theorem prog_mid {t : Nat} (h0 : t ≠ 0) (h : t ≠ 12) : prog (F := F) t = later maskV (batOf t) (nbatOf t) := by
  unfold prog; rw [if_neg h0, if_neg h]
theorem prog_last : prog (F := F) 12 = (do later maskV (batOf 12) (nbatOf 12); last) := rfl

theorem coord0 (t : Fin cfg0.N) : (grid0.coords t 0).val = t.val := by
  have : ∀ t : Fin grid0.N, (grid0.coords t 0).val = t.val := by decide
  exact this t

theorem cond1_iff (i : grid0.Coords) : k0_cond1 i = 1#1 ↔ (i 0).val = 0 := by revert i; decide
theorem cond2_iff (i : grid0.Coords) : k0_cond2 i = 1#1 ↔ (i 0).val ≠ 0 := by revert i; decide
theorem cond3_iff (i : grid0.Coords) : k0_cond3 i = 1#1 ↔ (i 0).val = 12 := by revert i; decide

/-- The printed body at point `t` is its program. -/
theorem body_eq (t : Fin cfg0.N) : toProg (args t) (hargs t) (prog t.val fun _ => .ret) = bodyAt0 (F := F) t := by
  have e : bodyAt0 (F := F) t = body (F := F) (grid0.coords t) (args t) (hargs t) := rfl
  rw [e]
  have hc := coord0 t
  have hlt : t.val < 13 := t.isLt
  have c1 := cond1_iff (grid0.coords t)
  have c2 := cond2_iff (grid0.coords t)
  have c3 := cond3_iff (grid0.coords t)
  rw [hc] at c1 c2 c3
  have hb : ∀ n : Fin 13, n.val ≠ 0 → (batOf n.val).1 = (Scalar.subi (BitVec.ofNat 32 n.val) 1#32).toNat := by decide
  have hn : ∀ n : Fin 13, (nbatOf n.val).1 = (Scalar.minsi (BitVec.ofNat 32 n.val) 11#32).toNat := by decide
  by_cases h0 : t.val = 0
  · rw [h0, prog_zero]
    exact eq_first _ _ _ (c1.mpr h0) (fun h => c2.mp h h0) (fun h => by have := c3.mp h; omega)
  · by_cases h12 : t.val = 12
    · rw [h12, prog_last]
      exact eq_end _ _ _ (fun h => h0 (c1.mp h)) (c2.mpr h0) (c3.mpr h12) _ _
        (by rw [hc, h12]; decide) (by rw [hc, h12]; decide)
    · rw [prog_mid h0 h12]
      exact eq_mid _ _ _ (fun h => h0 (c1.mp h)) (c2.mpr h0) (fun h => h12 (c3.mp h)) _ _
        (by rw [hc]; exact hb ⟨t.val, hlt⟩ h0) (by rw [hc]; exact hn ⟨t.val, hlt⟩)

/-- No point's program stores to an input's block. -/
theorem only_prog (t : Nat) : OnlyC (fun b => ¬ b.isIn) (prog (F := F) t) := by
  unfold prog
  split
  · exact only_first _
  · split
    · exact .bind (only_later _ _ _) fun _ => only_last
    · exact only_later _ _ _

/-- What point `t` makes of the buffers. -/
def point (t : Nat) (σ : State (Elt F)) : State (Elt F) := run (prog (F := F) t fun _ => .ret) σ

theorem point_in (t : Nat) (σ : State (Elt F)) {b : B} (hb : b.isIn) : point t σ b = σ b :=
  (only_prog t).run (fun h => h hb) σ

/-! ## The proof data -/

variable (m : (ℓ : Loc nD τ sig) → Buf (Elt F) ℓ) (ρ : Dev nD → PrngReg)

/-- The scratch buffers at their contents. -/
def Scr (c : Dev nD) (σ : State (Elt F)) : sProp 𝕄 :=
  iprop(owns (c : Thread nD τ) (Memref.whole cc0_scratch0) fullShare (σ .tp)
    ∗ owns (c : Thread nD τ) (Memref.whole cc0_scratch1) fullShare (σ .d)
    ∗ owns (c : Thread nD τ) (Memref.whole cc0_scratch2) fullShare (σ .arow)
    ∗ owns (c : Thread nD τ) (Memref.whole cc0_scratch3) fullShare (σ .a)
    ∗ owns (c : Thread nD τ) (Memref.whole cc0_scratch4) fullShare (σ .b)
    ∗ owns (c : Thread nD τ) (Memref.whole cc0_scratch5) fullShare (σ .rraw)
    ∗ owns (c : Thread nD τ) (Memref.whole cc0_scratch6) fullShare (σ .rred)
    ∗ owns (c : Thread nD τ) (Memref.whole cc0_scratch7) fullShare (σ .rsum)
    ∗ owns (c : Thread nD τ) (Memref.whole cc0_scratch8) fullShare (σ .rinv)
    ∗ owns (c : Thread nD τ) (Memref.whole cc0_scratch9) fullShare (σ .c)
    ∗ owns (c : Thread nD τ) (Memref.whole cc0_scratch10) fullShare (σ .csum)
    ∗ owns (c : Thread nD τ) (Memref.whole cc0_scratch11) fullShare (σ .rout)
    ∗ owns (c : Thread nD τ) (Memref.whole cc0_scratch12) fullShare (σ .cout))

/-- The scratch of one state beside the staged contents given. -/
def mix (σ : State (Elt F)) (x0 : B.f0.sh.Idx → Elt F B.f0.el) (x1 : B.f0s.sh.Idx → Elt F B.f0s.el)
    (x2 : B.f1.sh.Idx → Elt F B.f1.el) (x3 : B.f1s.sh.Idx → Elt F B.f1s.el) (x4 : B.conf.sh.Idx → Elt F B.conf.el)
    (x5 : B.rmax.sh.Idx → Elt F B.rmax.el) (x6 : B.cmax.sh.Idx → Elt F B.cmax.el) : State (Elt F)
  | .f0 => x0 | .f0s => x1 | .f1 => x2 | .f1s => x3 | .conf => x4 | .rmax => x5 | .cmax => x6
  | .tp => σ .tp | .d => σ .d | .arow => σ .arow | .a => σ .a | .b => σ .b | .rraw => σ .rraw | .rred => σ .rred
  | .rsum => σ .rsum | .rinv => σ .rinv | .c => σ .c | .csum => σ .csum | .rout => σ .rout | .cout => σ .cout

/-- The twenty buffers, listed. -/
theorem St_eq (c : Dev nD) (t : Fin cfg0.N) (σ : State (Elt F)) :
    (St c (args t) σ : sProp 𝕄) = iprop(owns (c : Thread nD τ) (st0_0 t) fullShare (σ .f0)
      ∗ owns (c : Thread nD τ) (st0_1 t) fullShare (σ .f0s)
      ∗ owns (c : Thread nD τ) (st0_2 t) fullShare (σ .f1)
      ∗ owns (c : Thread nD τ) (st0_3 t) fullShare (σ .f1s)
      ∗ owns (c : Thread nD τ) (st0_4 t) fullShare (σ .conf)
      ∗ owns (c : Thread nD τ) (st0_5 t) fullShare (σ .rmax)
      ∗ owns (c : Thread nD τ) (st0_6 t) fullShare (σ .cmax)
      ∗ Scr c σ) :=
  bigSep_univ_eq_bigSepL B.all rfl B.nodup_all (fun b => owns (c : Thread nD τ) (args t b) fullShare (σ b))

/-- Between points: the scratch at contents satisfying the invariant, and the generator register. -/
def Phi (Inv : State (Elt F) → Prop) (c : Dev nD) : sProp 𝕄 :=
  iprop((∃ σ, ⌜Inv σ⌝ ∗ Scr c σ) ∗ ∃ r, prngReg c r)

/-- The marked windows: the outputs. -/
def fgt : Fin cfg0.W → Bool := ![false, false, false, false, true, true, true]

/-- The proof data of the pipeline on core `c`, the scratch's contents at point `t` satisfying `Inv t`. -/
def dat (Inv : Nat → State (Elt F) → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Phi (Inv t.val) c
  q _ := fullShare
  owed _ := 0

section Data

variable (Inv : Nat → State (Elt F) → Prop)

theorem dat_A (c : Dev nD) (w : Fin cfg0.W) : (dat m Inv c).A w = V m c (Pipeline.arrRef spec0 w) := by
  dsimp only [dat]

theorem after_0 (c : Dev nD) (t : Fin cfg0.N) : (dat m Inv c).after 0 t = iblk m c 0 t := by dsimp only [dat]
theorem after_1 (c : Dev nD) (t : Fin cfg0.N) : (dat m Inv c).after 1 t = iblk m c 1 t := by dsimp only [dat]
theorem after_2 (c : Dev nD) (t : Fin cfg0.N) : (dat m Inv c).after 2 t = iblk m c 2 t := by dsimp only [dat]
theorem after_3 (c : Dev nD) (t : Fin cfg0.N) : (dat m Inv c).after 3 t = iblk m c 3 t := by dsimp only [dat]

theorem before_0 (c : Dev nD) (t : Fin cfg0.N) (d) : (dat m Inv c).before 0 t d = iblk m c 0 t :=
  before0_0_of m (dat m Inv c) (dat_A m Inv c 0) (after_0 m Inv c) t d
theorem before_1 (c : Dev nD) (t : Fin cfg0.N) (d) : (dat m Inv c).before 1 t d = iblk m c 1 t :=
  before0_1_of m (dat m Inv c) (dat_A m Inv c 1) (after_1 m Inv c) t d
theorem before_2 (c : Dev nD) (t : Fin cfg0.N) (d) : (dat m Inv c).before 2 t d = iblk m c 2 t :=
  before0_2_of m (dat m Inv c) (dat_A m Inv c 2) (after_2 m Inv c) t d
theorem before_3 (c : Dev nD) (t : Fin cfg0.N) (d) : (dat m Inv c).before 3 t d = iblk m c 3 t :=
  before0_3_of m (dat m Inv c) (dat_A m Inv c 3) (after_3 m Inv c) t d

/-- What the outputs' buffers are held to at a point. -/
def Rl (Rk : Nat → (B.conf.sh.Idx → Elt F B.conf.el) → Prop) (Rr : Nat → (B.rmax.sh.Idx → Elt F B.rmax.el) → Prop)
    (Rc : Nat → (B.cmax.sh.Idx → Elt F B.cmax.el) → Prop) :
    (w : Fin cfg0.W) → Fin cfg0.N → ((cfg0.win w).block.Idx → Elt F (cfg0.win w).elt) → Prop
  | ⟨4, _⟩, t, X => Rk t.val X
  | ⟨5, _⟩, t, X => Rr t.val X
  | ⟨6, _⟩, t, X => Rc t.val X
  | _, _, _ => True

variable (Rk : Nat → (B.conf.sh.Idx → Elt F B.conf.el) → Prop) (Rr : Nat → (B.rmax.sh.Idx → Elt F B.rmax.el) → Prop)
    (Rc : Nat → (B.cmax.sh.Idx → Elt F B.cmax.el) → Prop)

/-- What one point owes: from the invariant before it and the inputs' blocks, the invariant after it and the
    outputs' relations. -/
def StepOK (c : Dev nD) : Prop := ∀ (t : Fin cfg0.N) (σ : State (Elt F)) x4 x5 x6, Inv t.val σ →
  let σ' := point t.val (mix σ (iblk m c 0 t) (iblk m c 1 t) (iblk m c 2 t) (iblk m c 3 t) x4 x5 x6)
  Inv (t.val + 1) σ' ∧ Rk t.val (σ' .conf) ∧ Rr t.val (σ' .rmax) ∧ Rc t.val (σ' .cmax)

/-- The printed body at a point, from the blocks and the scratch. -/
theorem sound_point (c : Dev nD) (hstep : StepOK m Inv Rk Rr Rc c) (t : Fin cfg0.N) :
    iprop((dat m Inv c).Φ t.castSucc ∗ (dat m Inv c).owesAt () t.castSucc
      ∗ (∃ d, owns (c : Thread nD τ) (st0_0 t) fullShare ((dat m Inv c).before 0 t d))
      ∗ (∃ d, owns (c : Thread nD τ) (st0_1 t) fullShare ((dat m Inv c).before 1 t d))
      ∗ (∃ d, owns (c : Thread nD τ) (st0_2 t) fullShare ((dat m Inv c).before 2 t d))
      ∗ (∃ d, owns (c : Thread nD τ) (st0_3 t) fullShare ((dat m Inv c).before 3 t d))
      ∗ (∃ Y, ⌜((dat m Inv c).toRRel fgt (Rl Rk Rr Rc)).Finds 4 t Y⌝ ∗ owns (c : Thread nD τ) (st0_4 t) fullShare Y)
      ∗ (∃ Y, ⌜((dat m Inv c).toRRel fgt (Rl Rk Rr Rc)).Finds 5 t Y⌝ ∗ owns (c : Thread nD τ) (st0_5 t) fullShare Y)
      ∗ (∃ Y, ⌜((dat m Inv c).toRRel fgt (Rl Rk Rr Rc)).Finds 6 t Y⌝ ∗ owns (c : Thread nD τ) (st0_6 t) fullShare Y))
      ⊢ wp frame (wpE (defs₀ (F := F)) Variants.none c none) Set.univ (bodyAt0 t) (fun _ =>
        iprop((dat m Inv c).Φ t.succ ∗ (dat m Inv c).owesAt () t.succ
          ∗ owns (c : Thread nD τ) (st0_0 t) fullShare ((dat m Inv c).after 0 t)
          ∗ owns (c : Thread nD τ) (st0_1 t) fullShare ((dat m Inv c).after 1 t)
          ∗ owns (c : Thread nD τ) (st0_2 t) fullShare ((dat m Inv c).after 2 t)
          ∗ owns (c : Thread nD τ) (st0_3 t) fullShare ((dat m Inv c).after 3 t)
          ∗ (∃ X, ⌜Rl Rk Rr Rc 4 t X⌝ ∗ owns (c : Thread nD τ) (st0_4 t) fullShare X)
          ∗ (∃ X, ⌜Rl Rk Rr Rc 5 t X⌝ ∗ owns (c : Thread nD τ) (st0_5 t) fullShare X)
          ∗ (∃ X, ⌜Rl Rk Rr Rc 6 t X⌝ ∗ owns (c : Thread nD τ) (st0_6 t) fullShare X))) := by
  rw [show (dat m Inv c).Φ t.succ = Phi (Inv (t.val + 1)) c from rfl,
    show (dat m Inv c).Φ t.castSucc = Phi (Inv t.val) c from rfl,
    show (dat m Inv c).owesAt () t.succ = (dat m Inv c).owesAt () t.castSucc from rfl,
    after_0, after_1, after_2, after_3]
  simp only [before_0, before_1, before_2, before_3]
  rw [← body_eq t]
  unfold Phi
  iintro ⟨⟨⟨%σ, %hI, HS⟩, Hr⟩, Ho, ⟨%d0, H0⟩, ⟨%d1, H1⟩, ⟨%d2, H2⟩, ⟨%d3, H3⟩, ⟨%Y4, -, H4⟩, ⟨%Y5, -, H5⟩, ⟨%Y6, -, H6⟩⟩
  have hs := hstep t σ Y4 Y5 Y6 hI
  have had := adequate (defs := defs₀ (F := F)) (Ix := Unit) (Name := ℕ) (U := UR sig nD τ) (Lvl := ℕ) Variants.none c
    (args t) (hargs t) Set.univ (prog t.val fun _ => .ret)
    (mix σ (iblk m c 0 t) (iblk m c 1 t) (iblk m c 2 t) (iblk m c 3 t) Y4 Y5 Y6)
  simp only [St_eq] at had
  ihave Hwp := had $$ [HS H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iapply wp_wand $$ Hwp
  iintro %_ ⟨H0, H1, H2, H3, H4, H5, H6, HS⟩
  have i0 := point_in (F := F) t.val (mix σ (iblk m c 0 t) (iblk m c 1 t) (iblk m c 2 t) (iblk m c 3 t) Y4 Y5 Y6) (b := .f0) trivial
  have i1 := point_in (F := F) t.val (mix σ (iblk m c 0 t) (iblk m c 1 t) (iblk m c 2 t) (iblk m c 3 t) Y4 Y5 Y6) (b := .f0s) trivial
  have i2 := point_in (F := F) t.val (mix σ (iblk m c 0 t) (iblk m c 1 t) (iblk m c 2 t) (iblk m c 3 t) Y4 Y5 Y6) (b := .f1) trivial
  have i3 := point_in (F := F) t.val (mix σ (iblk m c 0 t) (iblk m c 1 t) (iblk m c 2 t) (iblk m c 3 t) Y4 Y5 Y6) (b := .f1s) trivial
  unfold point at i0 i1 i2 i3 hs
  rw [i0, i1, i2, i3]
  isplitl [HS Hr]
  · isplitl [HS]
    · iexists _; isplitr; swap; · iexact HS
      ipureintro; exact hs.1
    · iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact hs.2.1
  isplitl [H5]
  · iexists _; isplitr; swap; · iexact H5
    ipureintro; exact hs.2.2.1
  iexists _; isplitr; swap; · iexact H6
  ipureintro; exact hs.2.2.2

theorem row_eq (t : Fin cfg0.N) :
    defs₀ (F := F) .tc cfg0.body (cfg0.bodyArgs t (cfg0.slots t)) = bodyAt0 t := by
  unfold defs₀; rw [Defs.onTc_tc]

theorem body_rel (c : Dev nD) (hstep : StepOK m Inv Rk Rr Rc c) :
    BodyObligationRel (dat m Inv c) (defs₀ (F := F)) Variants.none () Set.univ fgt (Rl Rk Rr Rc) := fun t => by
  rw [bigSep_W0, bigSep_W0, row_eq]
  exact triple_restated (sound_point m Inv Rk Rr Rc c hstep t) rfl .rfl fun _ => .rfl

include m in
/-- The scratch at anything is the scratch at some state's contents. -/
theorem Scr_in (c : Dev nD) : Pipeline.ΦA (Val := Elt F) (U := UR sig nD τ) spec0 c ⊢ (Phi (fun _ => True) c : sProp 𝕄) := by
  unfold Phi Scr Pipeline.ΦA
  rw [scopedRest0_eq]
  iintro ⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩⟩, Hr⟩
  isplitl [G0 G1 G2 G3 G4 G5 G6 G7 G8 G9 G10 G11 G12]
  · iexists ((fun b => match b with
      | .f0 => iblk m c 0 t0_0 | .f0s => iblk m c 1 t0_0 | .f1 => iblk m c 2 t0_0 | .f1s => iblk m c 3 t0_0
      | .conf => iblk m c 4 t0_0 | .rmax => iblk m c 5 t0_0 | .cmax => iblk m c 6 t0_0
      | .tp => g0 | .d => g1 | .arow => g2 | .a => g3 | .b => g4 | .rraw => g5 | .rred => g6
      | .rsum => g7 | .rinv => g8 | .c => g9 | .csum => g10 | .rout => g11 | .cout => g12 : State (Elt F)))
    isplitr; · ipureintro; trivial
    simp only [owns_whole]
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    iexact G12
  iexact Hr

theorem Scr_out (P : State (Elt F) → Prop) (c : Dev nD) : (Phi P c : sProp 𝕄) ⊢ Pipeline.ΦA (Val := Elt F) (U := UR sig nD τ) spec0 c := by
  unfold Phi Scr Pipeline.ΦA
  rw [scopedRest0_eq]
  simp only [owns_whole]
  iintro ⟨⟨%σ, -, G0, G1, G2, G3, G4, G5, G6, G7, G8, G9, G10, G11, G12⟩, Hr⟩
  isplitl [G0 G1 G2 G3 G4 G5 G6 G7 G8 G9 G10 G11 G12]
  · isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [G10]; · iexists _; iexact G10
    isplitl [G11]; · iexists _; iexact G11
    iexists _; iexact G12
  iexact Hr

set_option backward.isDefEq.respectTransparency.types false in
set_option maxHeartbeats 800000 in
/-- The run: the arrays as the relations allow, every counter at zero. -/
theorem run_rel (h0 : ∀ σ, Inv 0 σ) (hstep : ∀ c, StepOK m Inv Rk Rr Rc c) :
    θ_run defs (onTc (τ := τ) (main (F := F))) (s₀ m ρ) (fun r =>
      RDat.FramePost cfg0 (fun c => (dat m Inv c).toRRel fgt (Rl Rk Rr Rc)) (V m) r ∧ r.2.sem = fun _ => 0) :=
  Pipeline.RDat.θ_run_frame_track (Q' := _) cfgs (0 : Fin 1) launch0 defs₀ Variants.none
    (fun c => (dat m Inv c).toRRel fgt (Rl Rk Rr Rc)) m ρ main
    (hbody := fun c => (body_rel m Inv Rk Rr Rc c (hstep c)).toRRel)
    (hshare := fun c => (dat m Inv c).share_full fun _ => rfl) (howed := fun _ _ => rfl) (V := V m)
    (hmain := hmain m Variants.none) (hA := dat_A m Inv)
    (hin := fun c => (Scr_in m c).trans (by
      show (Phi (fun _ => True) c : sProp 𝕄) ⊢ Phi (Inv 0) c
      unfold Phi
      iintro ⟨⟨%σ, -, HS⟩, Hr⟩
      isplitl [HS]
      · iexists σ; isplitr; · ipureintro; exact h0 σ
        iexact HS
      iexact Hr))
    (hout := fun c => Scr_out _ c)

end Data

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(RDat.FramePost.arr_in h.1 c 0 rfl).trans ((dat_A m (fun _ _ => True) c 0).trans (V_main_arg0 m c)),
       (RDat.FramePost.arr_in h.1 c 1 rfl).trans ((dat_A m (fun _ _ => True) c 1).trans (V_main_arg1 m c)),
       (RDat.FramePost.arr_in h.1 c 2 rfl).trans ((dat_A m (fun _ _ => True) c 2).trans (V_main_arg2 m c)),
       (RDat.FramePost.arr_in h.1 c 3 rfl).trans ((dat_A m (fun _ _ => True) c 3).trans (V_main_arg3 m c))⟩, h.2⟩)
    (run_rel m ρ (fun _ _ => True) (fun _ _ => True) (fun _ _ => True) (fun _ _ => True) (fun _ => trivial)
      (fun _ _ _ _ _ _ _ => ⟨trivial, trivial, trivial, trivial⟩))

end Cert.Kernel.Gen

end
-- ==== Proof.EqI.lean ====
/- The printed kernel is the structured one: region by region, at each kind of grid point. -/
module

public import proofs.«01_k».proof.Proof.Kern
public import proofs.«01_k».proof.KernelIdeal

@[expose] public section

set_option maxRecDepth 100000
set_option maxHeartbeats 4000000

noncomputable section

namespace Cert.KernelIdeal.Gen

open Idealize.ShloMosaic Idealize.ShloMosaic.TcCoe Idealize.SL.Sem Cert.Dual

variable {F : FTy → Type} [FloatOps F] [Named F] [Facts]

/-- The kernel's program, its buffers at `args`. -/
abbrev body (i : grid0.Coords) (args : (b : B) → Memref sig .tc .vmem b.sh b.el) (hargs : ∀ b, (args b).IsWhole) :
    Prog (TpuEff nD τ sig (Elt F) Λ₀ .tc) PUnit :=
  cc0_dual_softmax (F := F) i (args .f0) (hargs .f0) (args .f0s) (hargs .f0s) (args .f1) (hargs .f1) (args .f1s) (hargs .f1s)
      (args .conf) (hargs .conf) (args .rmax) (hargs .rmax) (args .cmax) (hargs .cmax) (args .tp) (hargs
      .tp) (args .d) (hargs .d) (args .arow) (hargs .arow) (args .a) (hargs .a) (args .b) (hargs .b) (args
      .rraw) (hargs .rraw) (args .rred) (hargs .rred) (args .rsum) (hargs .rsum) (args .rinv) (hargs
      .rinv) (args .c) (hargs .c) (args .csum) (hargs .csum) (args .rout) (hargs .rout) (args .cout)
      (hargs .cout)

/-- The mask the pad columns hold. -/
abbrev maskV : F .f32 := Named.named κ "mask" 0xF149F2CA#32
/-- The exponent's scale. -/
abbrev escV : F .f32 := Named.named κ "exp_scale" 0x3D66D4CA#32

variable (args : (b : B) → Memref sig .tc .vmem b.sh b.el) (hargs : ∀ b, (args b).IsWhole) (i : grid0.Coords)

theorem eq_first (h1 : k0_cond1 i = 1#1) (h2 : ¬ k0_cond2 i = 1#1) (h3 : ¬ k0_cond3 i = 1#1) :
    toProg args hargs (first escV fun _ => .ret) = body (F := F) i args hargs := by
  unfold body cc0_dual_softmax
  rw [dif_pos h1, dif_neg h2, dif_neg h3]
  iterate 12 (
    refine load_step fun v => ?_
    refine st_step ?_
    iterate 16 (
      refine load_step fun v => ?_
      refine st_step ?_))
  refine loop_step (fun t => ?_) ?_
  · rfl
  · rfl

theorem eq_mid (h1 : ¬ k0_cond1 i = 1#1) (h2 : k0_cond2 i = 1#1) (h3 : ¬ k0_cond3 i = 1#1) (bat nbat : Bat)
    (hb : bat.1 = (Scalar.subi (BitVec.ofNat 32 (i 0).val) 1#32).toNat)
    (hn : nbat.1 = (Scalar.minsi (BitVec.ofNat 32 (i 0).val) 11#32).toNat) :
    toProg args hargs (later maskV bat nbat fun _ => .ret) = body (F := F) i args hargs := by
  obtain ⟨bv, hbv⟩ := bat
  obtain ⟨nv, hnv⟩ := nbat
  dsimp only at hb hn
  subst hb hn
  unfold body cc0_dual_softmax
  rw [dif_neg h1, dif_pos h2, dif_neg h3]
  refine st_step ?_
  refine st_step ?_
  refine loop_step₂ (fun t => ?_) ?_
  · rfl
  iterate 17 (
    refine load_step fun v => ?_
    refine st_step ?_)
  refine loop_step₂ (fun t => ?_) ?_
  · rfl
  iterate 17 (
    refine load_step fun v => ?_
    refine st_step ?_)
  refine st_step ?_
  refine loop_step₂ (fun t => ?_) ?_
  · rfl
  rfl

theorem eq_end (h1 : ¬ k0_cond1 i = 1#1) (h2 : k0_cond2 i = 1#1) (h3 : k0_cond3 i = 1#1) (bat nbat : Bat)
    (hb : bat.1 = (Scalar.subi (BitVec.ofNat 32 (i 0).val) 1#32).toNat)
    (hn : nbat.1 = (Scalar.minsi (BitVec.ofNat 32 (i 0).val) 11#32).toNat) :
    toProg args hargs ((do later maskV bat nbat; last : C sig (Elt F) PUnit) fun _ => .ret) = body (F := F) i args hargs := by
  obtain ⟨bv, hbv⟩ := bat
  obtain ⟨nv, hnv⟩ := nbat
  dsimp only at hb hn
  subst hb hn
  unfold body cc0_dual_softmax
  rw [dif_neg h1, dif_pos h2, dif_pos h3]
  refine st_step ?_
  refine st_step ?_
  refine loop_step₂ (fun t => ?_) ?_
  · rfl
  iterate 17 (
    refine load_step fun v => ?_
    refine st_step ?_)
  refine loop_step₂ (fun t => ?_) ?_
  · rfl
  iterate 17 (
    refine load_step fun v => ?_
    refine st_step ?_)
  refine st_step ?_
  refine loop_step₂ (fun t => ?_) ?_
  · rfl
  rfl

end Cert.KernelIdeal.Gen
-- ==== Proof.PipeI.lean ====
/- The kernel under its pipeline: what the scratch holds between points, what each point leaves in the outputs'
   buffers, and the run. -/
module

public import proofs.«01_k».proof.Proof.Adeq
public import proofs.«01_k».proof.Proof.Only
public import proofs.«01_k».proof.Proof.EqI
public import proofs.«01_k».proof.Proof.Gen.KernelIdeal
public import proofs.«01_k».proof.Proof.Gen.KernelIdeal.Frame
public import Idealize.ShloMosaic.Lib.Pipeline.DatRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Dual

variable {F : FTy → Type} [FloatOps F] [Named F]

local notation "𝕄" => MT nD τ sig Unit (Elt F) ℕ (UR sig nD τ) ℕ

/-! ## One point -/

/-- The kernel's buffers at point `t`. -/
def args (t : Fin cfg0.N) : (b : B) → Memref sig .tc .vmem b.sh b.el
  | .f0 => win0_0.stage (cfg0.slots t 0)
  | .f0s => win0_1.stage (cfg0.slots t 1)
  | .f1 => win0_2.stage (cfg0.slots t 2)
  | .f1s => win0_3.stage (cfg0.slots t 3)
  | .conf => win0_4.stage (cfg0.slots t 4)
  | .rmax => win0_5.stage (cfg0.slots t 5)
  | .cmax => win0_6.stage (cfg0.slots t 6)
  | .tp => Memref.whole cc0_scratch0
  | .d => Memref.whole cc0_scratch1
  | .arow => Memref.whole cc0_scratch2
  | .a => Memref.whole cc0_scratch3
  | .b => Memref.whole cc0_scratch4
  | .rraw => Memref.whole cc0_scratch5
  | .rred => Memref.whole cc0_scratch6
  | .rsum => Memref.whole cc0_scratch7
  | .rinv => Memref.whole cc0_scratch8
  | .c => Memref.whole cc0_scratch9
  | .csum => Memref.whole cc0_scratch10
  | .rout => Memref.whole cc0_scratch11
  | .cout => Memref.whole cc0_scratch12

/-- Each is a whole buffer. -/
theorem hargs (t : Fin cfg0.N) : ∀ b, (args t b).IsWhole
  | .f0 => hstage0_0 ((cfg0.slots t 0).cast nbuf0_0)
  | .f0s => hstage0_1 ((cfg0.slots t 1).cast nbuf0_1)
  | .f1 => hstage0_2 ((cfg0.slots t 2).cast nbuf0_2)
  | .f1s => hstage0_3 ((cfg0.slots t 3).cast nbuf0_3)
  | .conf => hstage0_4 ((cfg0.slots t 4).cast nbuf0_4)
  | .rmax => hstage0_5 ((cfg0.slots t 5).cast nbuf0_5)
  | .cmax => hstage0_6 ((cfg0.slots t 6).cast nbuf0_6)
  | .tp | .d | .arow | .a | .b | .rraw | .rred | .rsum | .rinv | .c | .csum | .rout | .cout => Memref.isWhole_whole _

/-- The batch whose results point `t` computes, -/
def batOf (t : Nat) : Bat := ⟨min (t - 1) 11, by omega⟩
/-- and the one whose products it computes. -/
def nbatOf (t : Nat) : Bat := ⟨min t 11, by omega⟩

/-- The program of point `t`. -/
def prog (t : Nat) : C sig (Elt F) PUnit :=
  if t = 0 then first escV
  else if t = 12 then (do later maskV (batOf t) (nbatOf t); last)
  else later maskV (batOf t) (nbatOf t)

theorem prog_zero : prog (F := F) 0 = first escV := rfl
theorem prog_mid {t : Nat} (h0 : t ≠ 0) (h : t ≠ 12) : prog (F := F) t = later maskV (batOf t) (nbatOf t) := by
  unfold prog; rw [if_neg h0, if_neg h]
theorem prog_last : prog (F := F) 12 = (do later maskV (batOf 12) (nbatOf 12); last) := rfl

theorem coord0 (t : Fin cfg0.N) : (grid0.coords t 0).val = t.val := by
  have : ∀ t : Fin grid0.N, (grid0.coords t 0).val = t.val := by decide
  exact this t

theorem cond1_iff (i : grid0.Coords) : k0_cond1 i = 1#1 ↔ (i 0).val = 0 := by revert i; decide
theorem cond2_iff (i : grid0.Coords) : k0_cond2 i = 1#1 ↔ (i 0).val ≠ 0 := by revert i; decide
theorem cond3_iff (i : grid0.Coords) : k0_cond3 i = 1#1 ↔ (i 0).val = 12 := by revert i; decide

/-- The printed body at point `t` is its program. -/
theorem body_eq (t : Fin cfg0.N) : toProg (args t) (hargs t) (prog t.val fun _ => .ret) = bodyAt0 (F := F) t := by
  have e : bodyAt0 (F := F) t = body (F := F) (grid0.coords t) (args t) (hargs t) := rfl
  rw [e]
  have hc := coord0 t
  have hlt : t.val < 13 := t.isLt
  have c1 := cond1_iff (grid0.coords t)
  have c2 := cond2_iff (grid0.coords t)
  have c3 := cond3_iff (grid0.coords t)
  rw [hc] at c1 c2 c3
  have hb : ∀ n : Fin 13, n.val ≠ 0 → (batOf n.val).1 = (Scalar.subi (BitVec.ofNat 32 n.val) 1#32).toNat := by decide
  have hn : ∀ n : Fin 13, (nbatOf n.val).1 = (Scalar.minsi (BitVec.ofNat 32 n.val) 11#32).toNat := by decide
  by_cases h0 : t.val = 0
  · rw [h0, prog_zero]
    exact eq_first _ _ _ (c1.mpr h0) (fun h => c2.mp h h0) (fun h => by have := c3.mp h; omega)
  · by_cases h12 : t.val = 12
    · rw [h12, prog_last]
      exact eq_end _ _ _ (fun h => h0 (c1.mp h)) (c2.mpr h0) (c3.mpr h12) _ _
        (by rw [hc, h12]; decide) (by rw [hc, h12]; decide)
    · rw [prog_mid h0 h12]
      exact eq_mid _ _ _ (fun h => h0 (c1.mp h)) (c2.mpr h0) (fun h => h12 (c3.mp h)) _ _
        (by rw [hc]; exact hb ⟨t.val, hlt⟩ h0) (by rw [hc]; exact hn ⟨t.val, hlt⟩)

/-- No point's program stores to an input's block. -/
theorem only_prog (t : Nat) : OnlyC (fun b => ¬ b.isIn) (prog (F := F) t) := by
  unfold prog
  split
  · exact only_first _
  · split
    · exact .bind (only_later _ _ _) fun _ => only_last
    · exact only_later _ _ _

/-- What point `t` makes of the buffers. -/
def point (t : Nat) (σ : State (Elt F)) : State (Elt F) := run (prog (F := F) t fun _ => .ret) σ

theorem point_in (t : Nat) (σ : State (Elt F)) {b : B} (hb : b.isIn) : point t σ b = σ b :=
  (only_prog t).run (fun h => h hb) σ

/-! ## The proof data -/

variable (m : (ℓ : Loc nD τ sig) → Buf (Elt F) ℓ) (ρ : Dev nD → PrngReg)

/-- The scratch buffers at their contents. -/
def Scr (c : Dev nD) (σ : State (Elt F)) : sProp 𝕄 :=
  iprop(owns (c : Thread nD τ) (Memref.whole cc0_scratch0) fullShare (σ .tp)
    ∗ owns (c : Thread nD τ) (Memref.whole cc0_scratch1) fullShare (σ .d)
    ∗ owns (c : Thread nD τ) (Memref.whole cc0_scratch2) fullShare (σ .arow)
    ∗ owns (c : Thread nD τ) (Memref.whole cc0_scratch3) fullShare (σ .a)
    ∗ owns (c : Thread nD τ) (Memref.whole cc0_scratch4) fullShare (σ .b)
    ∗ owns (c : Thread nD τ) (Memref.whole cc0_scratch5) fullShare (σ .rraw)
    ∗ owns (c : Thread nD τ) (Memref.whole cc0_scratch6) fullShare (σ .rred)
    ∗ owns (c : Thread nD τ) (Memref.whole cc0_scratch7) fullShare (σ .rsum)
    ∗ owns (c : Thread nD τ) (Memref.whole cc0_scratch8) fullShare (σ .rinv)
    ∗ owns (c : Thread nD τ) (Memref.whole cc0_scratch9) fullShare (σ .c)
    ∗ owns (c : Thread nD τ) (Memref.whole cc0_scratch10) fullShare (σ .csum)
    ∗ owns (c : Thread nD τ) (Memref.whole cc0_scratch11) fullShare (σ .rout)
    ∗ owns (c : Thread nD τ) (Memref.whole cc0_scratch12) fullShare (σ .cout))

/-- The scratch of one state beside the staged contents given. -/
def mix (σ : State (Elt F)) (x0 : B.f0.sh.Idx → Elt F B.f0.el) (x1 : B.f0s.sh.Idx → Elt F B.f0s.el)
    (x2 : B.f1.sh.Idx → Elt F B.f1.el) (x3 : B.f1s.sh.Idx → Elt F B.f1s.el) (x4 : B.conf.sh.Idx → Elt F B.conf.el)
    (x5 : B.rmax.sh.Idx → Elt F B.rmax.el) (x6 : B.cmax.sh.Idx → Elt F B.cmax.el) : State (Elt F)
  | .f0 => x0 | .f0s => x1 | .f1 => x2 | .f1s => x3 | .conf => x4 | .rmax => x5 | .cmax => x6
  | .tp => σ .tp | .d => σ .d | .arow => σ .arow | .a => σ .a | .b => σ .b | .rraw => σ .rraw | .rred => σ .rred
  | .rsum => σ .rsum | .rinv => σ .rinv | .c => σ .c | .csum => σ .csum | .rout => σ .rout | .cout => σ .cout

/-- The twenty buffers, listed. -/
theorem St_eq (c : Dev nD) (t : Fin cfg0.N) (σ : State (Elt F)) :
    (St c (args t) σ : sProp 𝕄) = iprop(owns (c : Thread nD τ) (st0_0 t) fullShare (σ .f0)
      ∗ owns (c : Thread nD τ) (st0_1 t) fullShare (σ .f0s)
      ∗ owns (c : Thread nD τ) (st0_2 t) fullShare (σ .f1)
      ∗ owns (c : Thread nD τ) (st0_3 t) fullShare (σ .f1s)
      ∗ owns (c : Thread nD τ) (st0_4 t) fullShare (σ .conf)
      ∗ owns (c : Thread nD τ) (st0_5 t) fullShare (σ .rmax)
      ∗ owns (c : Thread nD τ) (st0_6 t) fullShare (σ .cmax)
      ∗ Scr c σ) :=
  bigSep_univ_eq_bigSepL B.all rfl B.nodup_all (fun b => owns (c : Thread nD τ) (args t b) fullShare (σ b))

/-- Between points: the scratch at contents satisfying the invariant, and the generator register. -/
def Phi (Inv : State (Elt F) → Prop) (c : Dev nD) : sProp 𝕄 :=
  iprop((∃ σ, ⌜Inv σ⌝ ∗ Scr c σ) ∗ ∃ r, prngReg c r)

/-- The marked windows: the outputs. -/
def fgt : Fin cfg0.W → Bool := ![false, false, false, false, true, true, true]

/-- The proof data of the pipeline on core `c`, the scratch's contents at point `t` satisfying `Inv t`. -/
def dat (Inv : Nat → State (Elt F) → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Phi (Inv t.val) c
  q _ := fullShare
  owed _ := 0

section Data

variable (Inv : Nat → State (Elt F) → Prop)

theorem dat_A (c : Dev nD) (w : Fin cfg0.W) : (dat m Inv c).A w = V m c (Pipeline.arrRef spec0 w) := by
  dsimp only [dat]

theorem after_0 (c : Dev nD) (t : Fin cfg0.N) : (dat m Inv c).after 0 t = iblk m c 0 t := by dsimp only [dat]
theorem after_1 (c : Dev nD) (t : Fin cfg0.N) : (dat m Inv c).after 1 t = iblk m c 1 t := by dsimp only [dat]
theorem after_2 (c : Dev nD) (t : Fin cfg0.N) : (dat m Inv c).after 2 t = iblk m c 2 t := by dsimp only [dat]
theorem after_3 (c : Dev nD) (t : Fin cfg0.N) : (dat m Inv c).after 3 t = iblk m c 3 t := by dsimp only [dat]

theorem before_0 (c : Dev nD) (t : Fin cfg0.N) (d) : (dat m Inv c).before 0 t d = iblk m c 0 t :=
  before0_0_of m (dat m Inv c) (dat_A m Inv c 0) (after_0 m Inv c) t d
theorem before_1 (c : Dev nD) (t : Fin cfg0.N) (d) : (dat m Inv c).before 1 t d = iblk m c 1 t :=
  before0_1_of m (dat m Inv c) (dat_A m Inv c 1) (after_1 m Inv c) t d
theorem before_2 (c : Dev nD) (t : Fin cfg0.N) (d) : (dat m Inv c).before 2 t d = iblk m c 2 t :=
  before0_2_of m (dat m Inv c) (dat_A m Inv c 2) (after_2 m Inv c) t d
theorem before_3 (c : Dev nD) (t : Fin cfg0.N) (d) : (dat m Inv c).before 3 t d = iblk m c 3 t :=
  before0_3_of m (dat m Inv c) (dat_A m Inv c 3) (after_3 m Inv c) t d

/-- What the outputs' buffers are held to at a point. -/
def Rl (Rk : Nat → (B.conf.sh.Idx → Elt F B.conf.el) → Prop) (Rr : Nat → (B.rmax.sh.Idx → Elt F B.rmax.el) → Prop)
    (Rc : Nat → (B.cmax.sh.Idx → Elt F B.cmax.el) → Prop) :
    (w : Fin cfg0.W) → Fin cfg0.N → ((cfg0.win w).block.Idx → Elt F (cfg0.win w).elt) → Prop
  | ⟨4, _⟩, t, X => Rk t.val X
  | ⟨5, _⟩, t, X => Rr t.val X
  | ⟨6, _⟩, t, X => Rc t.val X
  | _, _, _ => True

variable (Rk : Nat → (B.conf.sh.Idx → Elt F B.conf.el) → Prop) (Rr : Nat → (B.rmax.sh.Idx → Elt F B.rmax.el) → Prop)
    (Rc : Nat → (B.cmax.sh.Idx → Elt F B.cmax.el) → Prop)

/-- What one point owes: from the invariant before it and the inputs' blocks, the invariant after it and the
    outputs' relations. -/
def StepOK (c : Dev nD) : Prop := ∀ (t : Fin cfg0.N) (σ : State (Elt F)) x4 x5 x6, Inv t.val σ →
  let σ' := point t.val (mix σ (iblk m c 0 t) (iblk m c 1 t) (iblk m c 2 t) (iblk m c 3 t) x4 x5 x6)
  Inv (t.val + 1) σ' ∧ Rk t.val (σ' .conf) ∧ Rr t.val (σ' .rmax) ∧ Rc t.val (σ' .cmax)

/-- The printed body at a point, from the blocks and the scratch. -/
theorem sound_point (c : Dev nD) (hstep : StepOK m Inv Rk Rr Rc c) (t : Fin cfg0.N) :
    iprop((dat m Inv c).Φ t.castSucc ∗ (dat m Inv c).owesAt () t.castSucc
      ∗ (∃ d, owns (c : Thread nD τ) (st0_0 t) fullShare ((dat m Inv c).before 0 t d))
      ∗ (∃ d, owns (c : Thread nD τ) (st0_1 t) fullShare ((dat m Inv c).before 1 t d))
      ∗ (∃ d, owns (c : Thread nD τ) (st0_2 t) fullShare ((dat m Inv c).before 2 t d))
      ∗ (∃ d, owns (c : Thread nD τ) (st0_3 t) fullShare ((dat m Inv c).before 3 t d))
      ∗ (∃ Y, ⌜((dat m Inv c).toRRel fgt (Rl Rk Rr Rc)).Finds 4 t Y⌝ ∗ owns (c : Thread nD τ) (st0_4 t) fullShare Y)
      ∗ (∃ Y, ⌜((dat m Inv c).toRRel fgt (Rl Rk Rr Rc)).Finds 5 t Y⌝ ∗ owns (c : Thread nD τ) (st0_5 t) fullShare Y)
      ∗ (∃ Y, ⌜((dat m Inv c).toRRel fgt (Rl Rk Rr Rc)).Finds 6 t Y⌝ ∗ owns (c : Thread nD τ) (st0_6 t) fullShare Y))
      ⊢ wp frame (wpE (defs₀ (F := F)) Variants.none c none) Set.univ (bodyAt0 t) (fun _ =>
        iprop((dat m Inv c).Φ t.succ ∗ (dat m Inv c).owesAt () t.succ
          ∗ owns (c : Thread nD τ) (st0_0 t) fullShare ((dat m Inv c).after 0 t)
          ∗ owns (c : Thread nD τ) (st0_1 t) fullShare ((dat m Inv c).after 1 t)
          ∗ owns (c : Thread nD τ) (st0_2 t) fullShare ((dat m Inv c).after 2 t)
          ∗ owns (c : Thread nD τ) (st0_3 t) fullShare ((dat m Inv c).after 3 t)
          ∗ (∃ X, ⌜Rl Rk Rr Rc 4 t X⌝ ∗ owns (c : Thread nD τ) (st0_4 t) fullShare X)
          ∗ (∃ X, ⌜Rl Rk Rr Rc 5 t X⌝ ∗ owns (c : Thread nD τ) (st0_5 t) fullShare X)
          ∗ (∃ X, ⌜Rl Rk Rr Rc 6 t X⌝ ∗ owns (c : Thread nD τ) (st0_6 t) fullShare X))) := by
  rw [show (dat m Inv c).Φ t.succ = Phi (Inv (t.val + 1)) c from rfl,
    show (dat m Inv c).Φ t.castSucc = Phi (Inv t.val) c from rfl,
    show (dat m Inv c).owesAt () t.succ = (dat m Inv c).owesAt () t.castSucc from rfl,
    after_0, after_1, after_2, after_3]
  simp only [before_0, before_1, before_2, before_3]
  rw [← body_eq t]
  unfold Phi
  iintro ⟨⟨⟨%σ, %hI, HS⟩, Hr⟩, Ho, ⟨%d0, H0⟩, ⟨%d1, H1⟩, ⟨%d2, H2⟩, ⟨%d3, H3⟩, ⟨%Y4, -, H4⟩, ⟨%Y5, -, H5⟩, ⟨%Y6, -, H6⟩⟩
  have hs := hstep t σ Y4 Y5 Y6 hI
  have had := adequate (defs := defs₀ (F := F)) (Ix := Unit) (Name := ℕ) (U := UR sig nD τ) (Lvl := ℕ) Variants.none c
    (args t) (hargs t) Set.univ (prog t.val fun _ => .ret)
    (mix σ (iblk m c 0 t) (iblk m c 1 t) (iblk m c 2 t) (iblk m c 3 t) Y4 Y5 Y6)
  simp only [St_eq] at had
  ihave Hwp := had $$ [HS H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iapply wp_wand $$ Hwp
  iintro %_ ⟨H0, H1, H2, H3, H4, H5, H6, HS⟩
  have i0 := point_in (F := F) t.val (mix σ (iblk m c 0 t) (iblk m c 1 t) (iblk m c 2 t) (iblk m c 3 t) Y4 Y5 Y6) (b := .f0) trivial
  have i1 := point_in (F := F) t.val (mix σ (iblk m c 0 t) (iblk m c 1 t) (iblk m c 2 t) (iblk m c 3 t) Y4 Y5 Y6) (b := .f0s) trivial
  have i2 := point_in (F := F) t.val (mix σ (iblk m c 0 t) (iblk m c 1 t) (iblk m c 2 t) (iblk m c 3 t) Y4 Y5 Y6) (b := .f1) trivial
  have i3 := point_in (F := F) t.val (mix σ (iblk m c 0 t) (iblk m c 1 t) (iblk m c 2 t) (iblk m c 3 t) Y4 Y5 Y6) (b := .f1s) trivial
  unfold point at i0 i1 i2 i3 hs
  rw [i0, i1, i2, i3]
  isplitl [HS Hr]
  · isplitl [HS]
    · iexists _; isplitr; swap; · iexact HS
      ipureintro; exact hs.1
    · iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact hs.2.1
  isplitl [H5]
  · iexists _; isplitr; swap; · iexact H5
    ipureintro; exact hs.2.2.1
  iexists _; isplitr; swap; · iexact H6
  ipureintro; exact hs.2.2.2

theorem row_eq (t : Fin cfg0.N) :
    defs₀ (F := F) .tc cfg0.body (cfg0.bodyArgs t (cfg0.slots t)) = bodyAt0 t := by
  unfold defs₀; rw [Defs.onTc_tc]

theorem body_rel (c : Dev nD) (hstep : StepOK m Inv Rk Rr Rc c) :
    BodyObligationRel (dat m Inv c) (defs₀ (F := F)) Variants.none () Set.univ fgt (Rl Rk Rr Rc) := fun t => by
  rw [bigSep_W0, bigSep_W0, row_eq]
  exact triple_restated (sound_point m Inv Rk Rr Rc c hstep t) rfl .rfl fun _ => .rfl

include m in
/-- The scratch at anything is the scratch at some state's contents. -/
theorem Scr_in (c : Dev nD) : Pipeline.ΦA (Val := Elt F) (U := UR sig nD τ) spec0 c ⊢ (Phi (fun _ => True) c : sProp 𝕄) := by
  unfold Phi Scr Pipeline.ΦA
  rw [scopedRest0_eq]
  iintro ⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩⟩, Hr⟩
  isplitl [G0 G1 G2 G3 G4 G5 G6 G7 G8 G9 G10 G11 G12]
  · iexists ((fun b => match b with
      | .f0 => iblk m c 0 t0_0 | .f0s => iblk m c 1 t0_0 | .f1 => iblk m c 2 t0_0 | .f1s => iblk m c 3 t0_0
      | .conf => iblk m c 4 t0_0 | .rmax => iblk m c 5 t0_0 | .cmax => iblk m c 6 t0_0
      | .tp => g0 | .d => g1 | .arow => g2 | .a => g3 | .b => g4 | .rraw => g5 | .rred => g6
      | .rsum => g7 | .rinv => g8 | .c => g9 | .csum => g10 | .rout => g11 | .cout => g12 : State (Elt F)))
    isplitr; · ipureintro; trivial
    simp only [owns_whole]
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    iexact G12
  iexact Hr

theorem Scr_out (P : State (Elt F) → Prop) (c : Dev nD) : (Phi P c : sProp 𝕄) ⊢ Pipeline.ΦA (Val := Elt F) (U := UR sig nD τ) spec0 c := by
  unfold Phi Scr Pipeline.ΦA
  rw [scopedRest0_eq]
  simp only [owns_whole]
  iintro ⟨⟨%σ, -, G0, G1, G2, G3, G4, G5, G6, G7, G8, G9, G10, G11, G12⟩, Hr⟩
  isplitl [G0 G1 G2 G3 G4 G5 G6 G7 G8 G9 G10 G11 G12]
  · isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [G10]; · iexists _; iexact G10
    isplitl [G11]; · iexists _; iexact G11
    iexists _; iexact G12
  iexact Hr

set_option backward.isDefEq.respectTransparency.types false in
set_option maxHeartbeats 800000 in
/-- The run: the arrays as the relations allow, every counter at zero. -/
theorem run_rel (h0 : ∀ σ, Inv 0 σ) (hstep : ∀ c, StepOK m Inv Rk Rr Rc c) :
    θ_run defs (onTc (τ := τ) (main (F := F))) (s₀ m ρ) (fun r =>
      RDat.FramePost cfg0 (fun c => (dat m Inv c).toRRel fgt (Rl Rk Rr Rc)) (V m) r ∧ r.2.sem = fun _ => 0) :=
  Pipeline.RDat.θ_run_frame_track (Q' := _) cfgs (0 : Fin 1) launch0 defs₀ Variants.none
    (fun c => (dat m Inv c).toRRel fgt (Rl Rk Rr Rc)) m ρ main
    (hbody := fun c => (body_rel m Inv Rk Rr Rc c (hstep c)).toRRel)
    (hshare := fun c => (dat m Inv c).share_full fun _ => rfl) (howed := fun _ _ => rfl) (V := V m)
    (hmain := hmain m Variants.none) (hA := dat_A m Inv)
    (hin := fun c => (Scr_in m c).trans (by
      show (Phi (fun _ => True) c : sProp 𝕄) ⊢ Phi (Inv 0) c
      unfold Phi
      iintro ⟨⟨%σ, -, HS⟩, Hr⟩
      isplitl [HS]
      · iexists σ; isplitr; · ipureintro; exact h0 σ
        iexact HS
      iexact Hr))
    (hout := fun c => Scr_out _ c)

end Data

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(RDat.FramePost.arr_in h.1 c 0 rfl).trans ((dat_A m (fun _ _ => True) c 0).trans (V_main_arg0 m c)),
       (RDat.FramePost.arr_in h.1 c 1 rfl).trans ((dat_A m (fun _ _ => True) c 1).trans (V_main_arg1 m c)),
       (RDat.FramePost.arr_in h.1 c 2 rfl).trans ((dat_A m (fun _ _ => True) c 2).trans (V_main_arg2 m c)),
       (RDat.FramePost.arr_in h.1 c 3 rfl).trans ((dat_A m (fun _ _ => True) c 3).trans (V_main_arg3 m c))⟩, h.2⟩)
    (run_rel m ρ (fun _ _ => True) (fun _ _ => True) (fun _ _ => True) (fun _ _ => True) (fun _ => trivial)
      (fun _ _ _ _ _ _ _ => ⟨trivial, trivial, trivial, trivial⟩))

end Cert.KernelIdeal.Gen

end
-- ==== Proof.Wp.lean ====
/- What a program leaves, stated of its result and of the buffers after it, and boxes of buffers read and written. -/
module

public import proofs.«01_k».proof.Proof.Kern
public import Idealize.ShloMosaic.Lib.Pipeline.Value

@[expose] public section

noncomputable section

namespace Cert.Dual

open Idealize.ShloMosaic Idealize.ShloMosaic.TcCoe

section Ops

variable {sig : RefSig} {Val : EltTy → Type} {α β γ ι : Type}

/-- From `σ` the program yields a result and buffers with `Q`. -/
def wp (m : C sig Val α) (Q : α → State Val → Prop) (σ : State Val) : Prop :=
  ∃ a σ', (∀ k, run (m k) σ = run (k a) σ') ∧ Q a σ'

namespace wp

variable {σ : State Val}

theorem mono {m : C sig Val α} {Q Q' : α → State Val → Prop} (h : wp m Q σ) (hQ : ∀ a σ', Q a σ' → Q' a σ') :
    wp m Q' σ := by
  obtain ⟨a, σ', hk, hq⟩ := h
  exact ⟨a, σ', hk, hQ _ _ hq⟩

theorem pure {a : α} {Q : α → State Val → Prop} (h : Q a σ) : wp (Pure.pure a : C sig Val α) Q σ :=
  ⟨a, σ, fun _ => rfl, h⟩

theorem bind {m : C sig Val α} {f : α → C sig Val β} {Q : β → State Val → Prop}
    (h : wp m (fun a σ' => wp (f a) Q σ') σ) : wp (m >>= f) Q σ := by
  obtain ⟨a, σ', hk, b, σ'', hk', hq⟩ := h
  exact ⟨b, σ'', fun k => (hk fun a => f a k).trans (hk' k), hq⟩

theorem seq {m : C sig Val α} {f : α → C sig Val β} {P : α → State Val → Prop} {Q : β → State Val → Prop}
    (h : wp m P σ) (hf : ∀ a σ', P a σ' → wp (f a) Q σ') : wp (m >>= f) Q σ := bind (h.mono hf)

theorem ld {b : B} {r : Rect b.sh} {h : 0 < r.shape.numel} {Q : (r.shape.Idx → Val b.el) → State Val → Prop}
    (hq : Q (fun i => σ b (r.emb i)) σ) : wp (Dual.ld (sig := sig) b r h) Q σ := ⟨_, σ, fun _ => rfl, hq⟩

theorem ldS {b : B} {r : Rect b.sh} {hr : ∀ a, r.stride a = 1} {r' : Rect r.shape} {h : 0 < r'.shape.numel}
    {Q : (r'.shape.Idx → Val b.el) → State Val → Prop} (hq : Q (fun i => σ b (r.emb (r'.emb i))) σ) :
    wp (Dual.ldS (sig := sig) b r hr r' h) Q σ := ⟨_, σ, fun _ => rfl, hq⟩

theorem dead {b : B} {r : Rect b.sh} {hr : ∀ a, r.stride a = 1} {s : Shape} {hs : r.shape.Squeezes s} {r' : Rect s}
    {h : 0 < r'.shape.numel} {Q : PUnit → State Val → Prop} (hq : Q ⟨⟩ σ) :
    wp (Dual.dead (sig := sig) b r hr s hs r' h) Q σ := ⟨_, σ, fun _ => rfl, hq⟩

theorem st {b : B} {r : Rect b.sh} {hn : 0 < r.shape.numel} {he : b.el.bits = 32} {w : r.shape.Idx → Val b.el}
    {Q : PUnit → State Val → Prop} (hq : Q ⟨⟩ (σ.set b (r.overlay (σ b) w))) :
    wp (Dual.st (sig := sig) b r hn he w) Q σ := ⟨⟨⟩, _, fun _ => rfl, hq⟩

theorem stS {b : B} {r : Rect b.sh} {hr : ∀ a, r.stride a = 1} {r' : Rect r.shape} {hn : 0 < r'.shape.numel}
    {he : b.el.bits = 32} {w : r'.shape.Idx → Val b.el} {Q : PUnit → State Val → Prop}
    (hq : Q ⟨⟩ (σ.set b (r.overlay (σ b) (r'.overlay (fun i => σ b (r.emb i)) w)))) :
    wp (Dual.stS (sig := sig) b r hr r' hn he w) Q σ := ⟨⟨⟩, _, fun _ => rfl, hq⟩

theorem st0 {b : B} {r : Rect b.sh} {w : r.shape.Idx → Val b.el}
    {h : ∀ m : Memref sig .tc .vmem b.sh b.el, m.IsWhole → (m.access r).Stores Finset.univ}
    {Q : PUnit → State Val → Prop} (hq : Q ⟨⟩ (σ.set b (r.overlay (σ b) w))) :
    wp (Dual.st0 b r w h) Q σ := ⟨⟨⟩, _, fun _ => rfl, hq⟩

/-- The list's elements in order, the invariant counting them. -/
theorem foldL {f : ι → β → C sig Val β} (I : ℕ → β → State Val → Prop) :
    ∀ (l : List ι) (n : ℕ), (∀ (k : ℕ) (hk : k < l.length) x σ, I (n + k) x σ → wp (f l[k] x) (I (n + k + 1)) σ) →
      ∀ x σ, I n x σ → wp (Dual.foldL f l x) (I (n + l.length)) σ
  | [], _, _, _, _, hi => pure hi
  | i :: l, n, hs, x, σ, hi => by
    refine seq (P := I (n + 1)) (hs 0 (Nat.zero_lt_succ _) x σ hi) fun y σ' hy => ?_
    have := foldL I l (n + 1) (fun k hk x σ h => by
      have e : n + 1 + k = n + (k + 1) := by omega
      rw [e] at h ⊢
      exact hs (k + 1) (Nat.succ_lt_succ hk) x σ h) y σ' hy
    rwa [show n + 1 + l.length = n + (i :: l).length by simp only [List.length_cons]; omega] at this

theorem forL {f : ι → C sig Val PUnit} (I : ℕ → State Val → Prop) (l : List ι)
    (hs : ∀ (k : ℕ) (hk : k < l.length) σ, I k σ → wp (f l[k]) (fun _ => I (k + 1)) σ) (h0 : I 0 σ) :
    wp (Dual.forL f l) (fun _ => I l.length) σ := by
  have : ∀ (l : List ι) (n : ℕ), (∀ (k : ℕ) (hk : k < l.length) σ, I (n + k) σ → wp (f l[k]) (fun _ => I (n + k + 1)) σ) →
      ∀ σ, I n σ → wp (Dual.forL f l) (fun _ => I (n + l.length)) σ := by
    intro l
    induction l with
    | nil => intro n _ σ h; exact pure h
    | cons i l ih =>
      intro n hs σ h
      refine seq (hs 0 (Nat.zero_lt_succ _) σ h) fun _ σ' h' => ?_
      have := ih (n + 1) (fun k hk σ h => by
        have e : n + 1 + k = n + (k + 1) := by omega
        rw [e] at h ⊢
        exact hs (k + 1) (Nat.succ_lt_succ hk) σ h) σ' h'
      rwa [show n + 1 + l.length = n + (i :: l).length by simp only [List.length_cons]; omega] at this
  have h := this l 0 (fun k hk σ h => by rw [Nat.zero_add] at h ⊢; exact hs k hk σ h) σ h0
  rwa [Nat.zero_add] at h

/-- Eight groups: what each yields, and an invariant counting them. -/
theorem groups {g : Fin 8 → β → C sig Val (α × β)} (I : ℕ → β → State Val → Prop) (A : Fin 8 → α → Prop)
    (hs : ∀ (q : Fin 8) x σ, I q.val x σ → wp (g q x) (fun a σ' => A q a.1 ∧ I (q.val + 1) a.2 σ') σ) {x : β}
    (h0 : I 0 x σ) : wp (Dual.groups g x) (fun a σ' => (∀ q, A q (a.1 q)) ∧ I 8 a.2 σ') σ := by
  refine seq (hs 0 _ _ h0) fun a0 _ h0 => ?_
  refine seq (hs 1 _ _ h0.2) fun a1 _ h1 => ?_
  refine seq (hs 2 _ _ h1.2) fun a2 _ h2 => ?_
  refine seq (hs 3 _ _ h2.2) fun a3 _ h3 => ?_
  refine seq (hs 4 _ _ h3.2) fun a4 _ h4 => ?_
  refine seq (hs 5 _ _ h4.2) fun a5 _ h5 => ?_
  refine seq (hs 6 _ _ h5.2) fun a6 _ h6 => ?_
  refine seq (hs 7 _ _ h6.2) fun a7 _ h7 => ?_
  refine pure ⟨fun q => ?_, h7.2⟩
  match q with
  | 0 => exact h0.1 | 1 => exact h1.1 | 2 => exact h2.1 | 3 => exact h3.1
  | 4 => exact h4.1 | 5 => exact h5.1 | 6 => exact h6.1 | 7 => exact h7.1

/-- Eight values read. -/
theorem reads {g : Fin 8 → C sig Val α} (I : State Val → Prop) (A : Fin 8 → α → Prop)
    (hs : ∀ (q : Fin 8) σ, I σ → wp (g q) (fun a σ' => A q a ∧ I σ') σ) (h0 : I σ) :
    wp (Dual.reads g) (fun a σ' => (∀ q, A q (a q)) ∧ I σ') σ := by
  refine seq (hs 0 _ h0) fun a0 _ h0 => ?_
  refine seq (hs 1 _ h0.2) fun a1 _ h1 => ?_
  refine seq (hs 2 _ h1.2) fun a2 _ h2 => ?_
  refine seq (hs 3 _ h2.2) fun a3 _ h3 => ?_
  refine seq (hs 4 _ h3.2) fun a4 _ h4 => ?_
  refine seq (hs 5 _ h4.2) fun a5 _ h5 => ?_
  refine seq (hs 6 _ h5.2) fun a6 _ h6 => ?_
  refine seq (hs 7 _ h6.2) fun a7 _ h7 => ?_
  refine pure ⟨fun q => ?_, h7.2⟩
  match q with
  | 0 => exact h0.1 | 1 => exact h1.1 | 2 => exact h2.1 | 3 => exact h3.1
  | 4 => exact h4.1 | 5 => exact h5.1 | 6 => exact h6.1 | 7 => exact h7.1

/-- Fifteen trips. -/
theorem loop15 {f : Fin lp15.trips → C sig Val PUnit} (I : ℕ → State Val → Prop)
    (hs : ∀ (t : Fin lp15.trips) σ, I t.val σ → wp (f t) (fun _ => I (t.val + 1)) σ) (h0 : I 0 σ) :
    wp (Dual.loop15 f) (fun _ => I 15) σ := by
  have step : ∀ (t : Fin lp15.trips) σ, I t.val σ → I (t.val + 1) (run (f t fun _ => .ret) σ) := by
    intro t σ h
    obtain ⟨_, σ', hk, hq⟩ := hs t σ h
    rw [hk]; exact hq
  have key : ∀ (n : ℕ) (hn : n ≤ lp15.trips),
      I n (((List.finRange lp15.trips).take n).foldl (fun σ t => run (f t fun _ => .ret) σ) σ) := by
    intro n
    induction n with
    | zero => intro _; exact h0
    | succ n ih =>
      intro hn
      have hlt : n < (List.finRange lp15.trips).length := by rw [List.length_finRange]; omega
      rw [List.take_succ_eq_append_getElem hlt, List.foldl_append]
      have := step ⟨n, hn⟩ _ (ih (by omega))
      simpa using this
  refine ⟨⟨⟩, _, fun _ => rfl, ?_⟩
  have := key 15 trips15.ge
  rw [List.take_of_length_le (by rw [List.length_finRange]; exact trips15.le)] at this
  exact this

/-- What is left, of the program's own run. -/
theorem run {m : C sig Val PUnit} {Q : PUnit → State Val → Prop} (h : wp m Q σ) : Q ⟨⟩ (Dual.run (m fun _ => .ret) σ) := by
  obtain ⟨a, σ', hk, hq⟩ := h
  rw [hk]; exact hq

end wp

end Ops

section Pairs

variable {sig : RefSig} {F : FTy → Type} [FloatOps F] {α β γ : Type} {σ : State (Elt F)}

/-- Eight groups, each pair written after it. -/
theorem wp.pairs {g : Fin 8 → β → C sig (Elt F) ((α × γ) × β)} {w : Fin 4 → γ → γ → C sig (Elt F) PUnit}
    (I : ℕ → ℕ → β → State (Elt F) → Prop) (A : Fin 8 → α → Prop) (G : ℕ → γ → Prop)
    (hs : ∀ (q : Fin 8) x n σ, I n q.val x σ → wp (g q x) (fun a σ' => (A q a.1.1 ∧ G q.val a.1.2) ∧ I n (q.val + 1) a.2 σ') σ)
    (hw : ∀ (p : Fin 4) u v x σ, G (2 * p.val) u → G (2 * p.val + 1) v → I p.val (2 * p.val + 2) x σ →
      wp (w p u v) (fun _ => I (p.val + 1) (2 * p.val + 2) x) σ) {x : β}
    (h0 : I 0 0 x σ) : wp (Dual.pairs g w x) (fun a σ' => (∀ q, A q (a.1 q)) ∧ I 4 8 a.2 σ') σ := by
  refine seq (hs 0 _ _ _ h0) fun a0 _ h0 => ?_
  refine seq (hs 1 _ _ _ h0.2) fun a1 _ h1 => ?_
  refine seq (hw 0 _ _ _ _ h0.1.2 h1.1.2 h1.2) fun _ _ k0 => ?_
  refine seq (hs 2 _ _ _ k0) fun a2 _ h2 => ?_
  refine seq (hs 3 _ _ _ h2.2) fun a3 _ h3 => ?_
  refine seq (hw 1 _ _ _ _ h2.1.2 h3.1.2 h3.2) fun _ _ k1 => ?_
  refine seq (hs 4 _ _ _ k1) fun a4 _ h4 => ?_
  refine seq (hs 5 _ _ _ h4.2) fun a5 _ h5 => ?_
  refine seq (hw 2 _ _ _ _ h4.1.2 h5.1.2 h5.2) fun _ _ k2 => ?_
  refine seq (hs 6 _ _ _ k2) fun a6 _ h6 => ?_
  refine seq (hs 7 _ _ _ h6.2) fun a7 _ h7 => ?_
  refine seq (hw 3 _ _ _ _ h6.1.2 h7.1.2 h7.2) fun _ _ k3 => ?_
  refine pure ⟨fun q => ?_, k3⟩
  match q with
  | 0 => exact h0.1.1 | 1 => exact h1.1.1 | 2 => exact h2.1.1 | 3 => exact h3.1.1
  | 4 => exact h4.1.1 | 5 => exact h5.1.1 | 6 => exact h6.1.1 | 7 => exact h7.1.1

end Pairs

/-! ## Boxes -/

section Box

variable {α : Type}

theorem emb2_0 {d : Fin 2 → Nat} {o0 o1 n0 n1 : Nat} {h0 h1} (i : (R2 (d := d) o0 o1 n0 n1 h0 h1).shape.Idx) :
    ((R2 (d := d) o0 o1 n0 n1 h0 h1).emb i 0).val = o0 + (i 0).val := congrArg (o0 + ·) (Nat.one_mul _)
theorem emb2_1 {d : Fin 2 → Nat} {o0 o1 n0 n1 : Nat} {h0 h1} (i : (R2 (d := d) o0 o1 n0 n1 h0 h1).shape.Idx) :
    ((R2 (d := d) o0 o1 n0 n1 h0 h1).emb i 1).val = o1 + (i 1).val := congrArg (o1 + ·) (Nat.one_mul _)

theorem emb3_0 {d : Fin 3 → Nat} {o0 o1 o2 n0 n1 n2 : Nat} {h0 h1 h2}
    (i : (R3 (d := d) o0 o1 o2 n0 n1 n2 h0 h1 h2).shape.Idx) :
    ((R3 (d := d) o0 o1 o2 n0 n1 n2 h0 h1 h2).emb i 0).val = o0 + (i 0).val := congrArg (o0 + ·) (Nat.one_mul _)
theorem emb3_1 {d : Fin 3 → Nat} {o0 o1 o2 n0 n1 n2 : Nat} {h0 h1 h2}
    (i : (R3 (d := d) o0 o1 o2 n0 n1 n2 h0 h1 h2).shape.Idx) :
    ((R3 (d := d) o0 o1 o2 n0 n1 n2 h0 h1 h2).emb i 1).val = o1 + (i 1).val := congrArg (o1 + ·) (Nat.one_mul _)
theorem emb3_2 {d : Fin 3 → Nat} {o0 o1 o2 n0 n1 n2 : Nat} {h0 h1 h2}
    (i : (R3 (d := d) o0 o1 o2 n0 n1 n2 h0 h1 h2).shape.Idx) :
    ((R3 (d := d) o0 o1 o2 n0 n1 n2 h0 h1 h2).emb i 2).val = o2 + (i 2).val := congrArg (o2 + ·) (Nat.one_mul _)

/-- A fact of every element after a store: of what is stored, and of the elements outside. -/
theorem overlay_fact {s : Shape} (r : Rect s) (X : s.Idx → α) (w : r.shape.Idx → α) (P : s.Idx → α → Prop)
    (hin : ∀ i, P (r.emb i) (w i)) (hout : ∀ p, p ∉ r.set → P p (X p)) (p : s.Idx) : P p (r.overlay X w p) := by
  by_cases h : p ∈ r.set
  · obtain ⟨i, rfl⟩ := r.exists_idx_of_mem h
    have := r.overlay_emb X w i
    show P (r.emb i) (r.overlay X w (r.emb i))
    rw [this]; exact hin i
  · rw [r.overlay_of_not_mem X w h]; exact hout p h

theorem box2 {d : Fin 2 → Nat} {o0 o1 n0 n1 : Nat} {h0 h1} (X : (⟨2, d⟩ : Shape).Idx → α)
    (w : (R2 (d := d) o0 o1 n0 n1 h0 h1).shape.Idx → α) (P : ℕ → ℕ → α → Prop)
    (hin : ∀ i : (R2 (d := d) o0 o1 n0 n1 h0 h1).shape.Idx, P (o0 + (i 0).val) (o1 + (i 1).val) (w i))
    (hout : ∀ p : (⟨2, d⟩ : Shape).Idx, ¬ (o0 ≤ (p 0).val ∧ (p 0).val < o0 + n0 ∧ o1 ≤ (p 1).val ∧ (p 1).val < o1 + n1) →
      P (p 0).val (p 1).val (X p)) (p : (⟨2, d⟩ : Shape).Idx) :
    P (p 0).val (p 1).val ((R2 (d := d) o0 o1 n0 n1 h0 h1).overlay X w p) := by
  refine overlay_fact _ X w (fun p v => P (p 0).val (p 1).val v) (fun i => ?_) (fun p hp => hout p fun h => hp ?_) p
  · show P ((R2 (d := d) o0 o1 n0 n1 h0 h1).emb i 0).val ((R2 (d := d) o0 o1 n0 n1 h0 h1).emb i 1).val _
    rw [emb2_0, emb2_1]; exact hin i
  · exact Rect.mem_set_unit.mpr (Fin.forall_fin_two.mpr ⟨⟨h.1, h.2.1⟩, ⟨h.2.2.1, h.2.2.2⟩⟩)

theorem box3 {d : Fin 3 → Nat} {o0 o1 o2 n0 n1 n2 : Nat} {h0 h1 h2} (X : (⟨3, d⟩ : Shape).Idx → α)
    (w : (R3 (d := d) o0 o1 o2 n0 n1 n2 h0 h1 h2).shape.Idx → α) (P : ℕ → ℕ → ℕ → α → Prop)
    (hin : ∀ i : (R3 (d := d) o0 o1 o2 n0 n1 n2 h0 h1 h2).shape.Idx,
      P (o0 + (i 0).val) (o1 + (i 1).val) (o2 + (i 2).val) (w i))
    (hout : ∀ p : (⟨3, d⟩ : Shape).Idx, ¬ (o0 ≤ (p 0).val ∧ (p 0).val < o0 + n0 ∧ o1 ≤ (p 1).val ∧ (p 1).val < o1 + n1
      ∧ o2 ≤ (p 2).val ∧ (p 2).val < o2 + n2) →
      P (p 0).val (p 1).val (p 2).val (X p)) (p : (⟨3, d⟩ : Shape).Idx) :
    P (p 0).val (p 1).val (p 2).val ((R3 (d := d) o0 o1 o2 n0 n1 n2 h0 h1 h2).overlay X w p) := by
  refine overlay_fact _ X w (fun p v => P (p 0).val (p 1).val (p 2).val v) (fun i => ?_)
    (fun p hp => hout p fun h => hp ?_) p
  · show P ((R3 (d := d) o0 o1 o2 n0 n1 n2 h0 h1 h2).emb i 0).val ((R3 (d := d) o0 o1 o2 n0 n1 n2 h0 h1 h2).emb i 1).val
      ((R3 (d := d) o0 o1 o2 n0 n1 n2 h0 h1 h2).emb i 2).val _
    rw [emb3_0, emb3_1, emb3_2]; exact hin i
  · exact Rect.mem_set_unit.mpr (Fin.forall_fin_succ.mpr ⟨⟨h.1, h.2.1⟩, Fin.forall_fin_two.mpr
      ⟨⟨h.2.2.1, h.2.2.2.1⟩, ⟨h.2.2.2.2.1, h.2.2.2.2.2⟩⟩⟩)

/-- A box of a strip of a two-axis buffer. -/
theorem box22 {d : Fin 2 → Nat} {x m0 m1 o0 o1 n0 n1 : Nat} {h0 h1 k0 k1} (X : (⟨2, d⟩ : Shape).Idx → α)
    (w : (R2 (d := ![m0, m1]) o0 o1 n0 n1 k0 k1).shape.Idx → α) (P : ℕ → ℕ → α → Prop)
    (hin : ∀ i : (R2 (d := ![m0, m1]) o0 o1 n0 n1 k0 k1).shape.Idx, P (x + (o0 + (i 0).val)) (o1 + (i 1).val) (w i))
    (hout : ∀ p : (⟨2, d⟩ : Shape).Idx,
      ¬ (x + o0 ≤ (p 0).val ∧ (p 0).val < x + o0 + n0 ∧ o1 ≤ (p 1).val ∧ (p 1).val < o1 + n1) →
      P (p 0).val (p 1).val (X p)) (p : (⟨2, d⟩ : Shape).Idx) :
    P (p 0).val (p 1).val ((R2 (d := d) x 0 m0 m1 h0 h1).overlay X
      ((R2 (d := ![m0, m1]) o0 o1 n0 n1 k0 k1).overlay (fun i => X ((R2 (d := d) x 0 m0 m1 h0 h1).emb i)) w) p) := by
  refine box2 X _ P (fun i => ?_) (fun p hp => hout p fun h => hp ?_) p
  · refine box2 (d := ![m0, m1]) (o0 := o0) (o1 := o1) (fun i => X ((R2 (d := d) x 0 m0 m1 h0 h1).emb i)) w
      (fun a b v => P (x + a) (0 + b) v) (fun i => ?_) (fun p hp => ?_) i
    · rw [Nat.zero_add]; exact hin i
    · have e0 := emb2_0 (d := d) (h0 := h0) (h1 := h1) p
      have e1 := emb2_1 (d := d) (h0 := h0) (h1 := h1) p
      have := hout ((R2 (d := d) x 0 m0 m1 h0 h1).emb p) (fun h => hp (by rw [e0, e1] at h; omega))
      rwa [e0, e1] at this
  · have : n0 + o0 ≤ m0 := by have : o0 + n0 ≤ m0 := k0; omega
    have : o1 + n1 ≤ m1 := k1
    omega

end Box

end Cert.Dual
-- ==== Proof.Halves.lean ====
/- What the three passes leave over half a strip: each buffer's elements by row and column. -/
module

public import proofs.«01_k».proof.Proof.Wp

@[expose] public section

noncomputable section

namespace Cert.Dual

open Idealize.ShloMosaic Idealize.ShloMosaic.TcCoe

/-- The buffers outside the list are as they were. -/
def Same {Val : EltTy → Type} (S : List B) (σ₀ σ : State Val) : Prop := ∀ b, b ∉ S → σ b = σ₀ b

theorem Same.refl {Val : EltTy → Type} {S : List B} {σ : State Val} : Same S σ σ := fun _ _ => rfl

theorem Same.set {Val : EltTy → Type} {S : List B} {σ₀ σ : State Val} (h : Same S σ₀ σ) {b : B} (hb : b ∈ S)
    (X : b.sh.Idx → Val b.el) : Same S σ₀ (σ.set b X) := fun b' hb' => by
  rw [σ.set_ne X (by rintro rfl; exact hb' hb)]; exact h b' hb'

theorem Same.trans {Val : EltTy → Type} {S : List B} {σ₀ σ₁ σ₂ : State Val} (h : Same S σ₀ σ₁) (h' : Same S σ₁ σ₂) :
    Same S σ₀ σ₂ := fun b hb => (h' b hb).trans (h b hb)

theorem Same.mono {Val : EltTy → Type} {S S' : List B} {σ₀ σ₁ : State Val} (h : Same S σ₀ σ₁) (hS : ∀ b ∈ S, b ∈ S') :
    Same S' σ₀ σ₁ := fun b hb => h b fun hb' => hb (hS b hb')

/-- A fact of every element of a two-axis array, by its row and column. -/
def All2 {α : Type} {d : Fin 2 → Nat} (X : (⟨2, d⟩ : Shape).Idx → α) (P : ℕ → ℕ → α → Prop) : Prop :=
  ∀ p, P (p 0).val (p 1).val (X p)

/-- A fact of every element of a three-axis array. -/
def All3 {α : Type} {d : Fin 3 → Nat} (X : (⟨3, d⟩ : Shape).Idx → α) (P : ℕ → ℕ → ℕ → α → Prop) : Prop :=
  ∀ p, P (p 0).val (p 1).val (p 2).val (X p)

theorem All2.mono {α : Type} {d : Fin 2 → Nat} {X : (⟨2, d⟩ : Shape).Idx → α} {P P' : ℕ → ℕ → α → Prop}
    (h : All2 X P) (hP : ∀ a b v, a < d 0 → b < d 1 → P a b v → P' a b v) : All2 X P' :=
  fun p => hP _ _ _ (p 0).isLt (p 1).isLt (h p)

section Half

variable {sig : RefSig} {F : FTy → Type} [FloatOps F]

theorem lt2_0 {a b : Nat} (i : (⟨2, ![a, b]⟩ : Shape).Idx) : (i 0).val < a := (i 0).isLt
theorem lt2_1 {a b : Nat} (i : (⟨2, ![a, b]⟩ : Shape).Idx) : (i 1).val < b := (i 1).isLt

theorem c8_eq (v : V8 F) : c8 v = v := shapeCast_self v _
theorem c128_eq (v : FVec F Q128 .f32) : c128 v = v := shapeCast_self v _

theorem cmp96 : ∀ k : Fin 128, (IntOp.cmpi .slt (BitVec.ofNat 32 k.val) 96#32 = 1) = (k.val < 96) := by decide

theorem padMask_apply (mask : F .f32) (t : V8 F) (i : Q8.Idx) : padMask mask t i = if (i 1).val < 96 then t i else mask := by
  have e : iota .tc Q8 32 [1] (by decide) i = BitVec.ofNat 32 (i 1).val := iota_single_apply ..
  show (if IntOp.cmpi .slt (iota .tc Q8 32 [1] (by decide) i) 96#32 = 1 then t i else mask) = _
  rw [e]
  simp only [cmp96 ⟨(i 1).val, lt2_1 i⟩]

/-- A score, the mask in the pad columns. -/
def TT (mask : F .f32) (D : ℕ → ℕ → F .f32) (Bc A : ℕ → F .f32) (i j : ℕ) : F .f32 :=
  if j < 2016 then FloatOps.mulf (FloatOps.mulf (D i j) (Bc j)) (A i) else mask

/-- The maximum of the first `g` scores at eight rows' distance in a column, from the mask on. -/
def CM (mask : F .f32) (T : ℕ → ℕ → F .f32) : ℕ → ℕ → ℕ → F .f32
  | 0, _, _ => mask
  | g + 1, r, j => FloatOps.maximumf (CM mask T g r j) (T (8 * g + r) j)

/-- The maximum of a row's entries at 128 columns' distance, the first `n + 1` of them. -/
def RM (T : ℕ → ℕ → F .f32) : ℕ → ℕ → ℕ → F .f32
  | 0, i, l => T i l
  | n + 1, i, l => FloatOps.maximumf (RM T n i l) (T i (128 * (n + 1) + l))

theorem grp1_eq (mask : F .f32) (x : Strip) (s : Fin 2) (j : Fin 16) (a r : Fin 8 → V8 F) (bv : V8 F) (q : Fin 8) (c : V8 F) :
    (grp1 mask x s j a r bv q c : C sig (Elt F) _) = (do
      let dv : V8 F ← ldS .d (rW x) ones2 (rWg s q j) n8
      let t0 : V8 F := mulf (mulf dv bv) (a q)
      let t : V8 F := if j.val = 15 then padMask mask t0 else t0
      stS .tp (rW x) ones2 (rWg s q j) n8 rfl (c8 t)
      pure (if j.val = 0 then t else maximumf (r q) t, maximumf c t)) := by
  fin_cases j <;> rfl

/-! ### Loads and stores of the boxes -/

section Boxes

variable {α : Type} {P P' : ℕ → ℕ → α → Prop}

theorem All2.ld2 {d : Fin 2 → Nat} {X : (⟨2, d⟩ : Shape).Idx → α} (h : All2 X P) {o0 o1 n0 n1 : Nat} {h0 h1}
    (i : (R2 (d := d) o0 o1 n0 n1 h0 h1).shape.Idx) :
    P (o0 + (i 0).val) (o1 + (i 1).val) (X ((R2 (d := d) o0 o1 n0 n1 h0 h1).emb i)) := by
  have := h ((R2 (d := d) o0 o1 n0 n1 h0 h1).emb i)
  rwa [emb2_0, emb2_1] at this

theorem All3.ld3 {d : Fin 3 → Nat} {P : ℕ → ℕ → ℕ → α → Prop} {X : (⟨3, d⟩ : Shape).Idx → α} (h : All3 X P)
    {o0 o1 o2 n0 n1 n2 : Nat} {h0 h1 h2} (i : (R3 (d := d) o0 o1 o2 n0 n1 n2 h0 h1 h2).shape.Idx) :
    P (o0 + (i 0).val) (o1 + (i 1).val) (o2 + (i 2).val) (X ((R3 (d := d) o0 o1 o2 n0 n1 n2 h0 h1 h2).emb i)) := by
  have := h ((R3 (d := d) o0 o1 o2 n0 n1 n2 h0 h1 h2).emb i)
  rwa [emb3_0, emb3_1, emb3_2] at this

theorem All2.ldW {X : (⟨2, ![1920, 2048]⟩ : Shape).Idx → α} (h : All2 X P) (x : Strip) (s : Fin 2) (q : Fin 8) (j : Fin 16)
    (i : Q8.Idx) : P (x.1 + 64 * s.val + 8 * q.val + (i 0).val) (128 * j.val + (i 1).val)
      (X ((rW x).emb ((rWg s q j).emb i))) := by
  have := h.ld2 (o0 := x.1) (o1 := 0) (n0 := 128) (n1 := 2048) (h0 := x.2.1) (h1 := by decide) ((rWg s q j).emb i)
  have e0 : ((rWg s q j).emb i 0).val = 64 * s.val + 8 * q.val + (i 0).val := emb2_0 i
  have e1 : ((rWg s q j).emb i 1).val = 128 * j.val + (i 1).val := emb2_1 i
  rw [e0, e1, Nat.zero_add, ← Nat.add_assoc, ← Nat.add_assoc] at this
  exact this

theorem All2.ldN {X : (⟨2, ![1920, 128]⟩ : Shape).Idx → α} (h : All2 X P) (x : Strip) (s : Fin 2) (q : Fin 8)
    (i : Q8.Idx) : P (x.1 + 64 * s.val + 8 * q.val + (i 0).val) (i 1).val (X ((rN x).emb ((rNg s q).emb i))) := by
  have := h.ld2 (o0 := x.1) (o1 := 0) (n0 := 128) (n1 := 128) (h0 := x.2.1) (h1 := by decide) ((rNg s q).emb i)
  have e0 : ((rNg s q).emb i 0).val = 64 * s.val + 8 * q.val + (i 0).val := emb2_0 i
  have e1 : ((rNg s q).emb i 1).val = 0 + (i 1).val := emb2_1 i
  rw [e0, e1, Nat.zero_add, Nat.zero_add, ← Nat.add_assoc, ← Nat.add_assoc] at this
  exact this

theorem All2.ldC {X : (⟨2, ![8, 2048]⟩ : Shape).Idx → α} (h : All2 X P) (j : Fin 16) (i : Q8.Idx) :
    P (i 0).val (128 * j.val + (i 1).val) (X ((rC j).emb i)) := by
  have := h.ld2 (o0 := 0) (o1 := 128 * j.val) (n0 := 8) (n1 := 128) (h0 := by decide) (h1 := show _ ≤ 2048 by omega) i
  rw [Nat.zero_add] at this
  exact this

theorem All2.stW {X : (⟨2, ![1920, 2048]⟩ : Shape).Idx → α} (h : All2 X P) (x : Strip) (s : Fin 2) (q : Fin 8) (j : Fin 16)
    {w : Q8.Idx → α}
    (hin : ∀ i : Q8.Idx, P' (x.1 + 64 * s.val + 8 * q.val + (i 0).val) (128 * j.val + (i 1).val) (w i))
    (hout : ∀ a b v, ¬ (x.1 + 64 * s.val + 8 * q.val ≤ a ∧ a < x.1 + 64 * s.val + 8 * q.val + 8 ∧ 128 * j.val ≤ b ∧
      b < 128 * j.val + 128) → P a b v → P' a b v) :
    All2 ((rW x).overlay X ((rWg s q j).overlay (fun i => X ((rW x).emb i)) w)) P' := by
  refine box22 (o0 := 64 * s.val + 8 * q.val) (o1 := 128 * j.val) X w P' (fun i => ?_) (fun p hp => ?_)
  · rw [← Nat.add_assoc, ← Nat.add_assoc]; exact hin i
  · rw [← Nat.add_assoc] at hp; exact hout _ _ _ hp (h p)

theorem All2.stN {X : (⟨2, ![1920, 128]⟩ : Shape).Idx → α} (h : All2 X P) (x : Strip) (s : Fin 2) (q : Fin 8)
    {w : Q8.Idx → α}
    (hin : ∀ i : Q8.Idx, P' (x.1 + 64 * s.val + 8 * q.val + (i 0).val) (i 1).val (w i))
    (hout : ∀ a b v, b < 128 → ¬ (x.1 + 64 * s.val + 8 * q.val ≤ a ∧ a < x.1 + 64 * s.val + 8 * q.val + 8) → P a b v → P' a b v) :
    All2 ((rN x).overlay X ((rNg s q).overlay (fun i => X ((rN x).emb i)) w)) P' := by
  refine box22 (o0 := 64 * s.val + 8 * q.val) (o1 := 0) X w P' (fun i => ?_) (fun p hp => ?_)
  · rw [← Nat.add_assoc, ← Nat.add_assoc, Nat.zero_add]; exact hin i
  · rw [← Nat.add_assoc] at hp
    exact hout _ _ _ (lt2_1 p) (fun k => hp ⟨k.1, k.2, Nat.zero_le _, by have := lt2_1 p; omega⟩) (h p)

theorem All2.stNall {X : (⟨2, ![1920, 128]⟩ : Shape).Idx → α} (h : All2 X P) (x : Strip) {w : Q128.Idx → α}
    (hin : ∀ i : Q128.Idx, P' (x.1 + (i 0).val) (i 1).val (w i))
    (hout : ∀ a b v, ¬ (x.1 ≤ a ∧ a < x.1 + 128) → P a b v → P' a b v) : All2 ((rN x).overlay X w) P' := by
  refine box2 (o0 := x.1) (o1 := 0) X w P' (fun i => ?_) (fun p hp => ?_)
  · rw [Nat.zero_add]; exact hin i
  · exact hout _ _ _ (fun k => hp ⟨k.1, k.2, Nat.zero_le _, by have := lt2_1 p; omega⟩) (h p)

theorem All2.stC {X : (⟨2, ![8, 2048]⟩ : Shape).Idx → α} (h : All2 X P) (j : Fin 16) {w : Q8.Idx → α}
    (hin : ∀ i : Q8.Idx, P' (i 0).val (128 * j.val + (i 1).val) (w i))
    (hout : ∀ a b v, ¬ (128 * j.val ≤ b ∧ b < 128 * j.val + 128) → P a b v → P' a b v) :
    All2 ((rC j).overlay X w) P' := by
  refine box2 (o0 := 0) (o1 := 128 * j.val) X w P' (fun i => ?_) (fun p hp => ?_)
  · rw [Nat.zero_add]; exact hin i
  · exact hout _ _ _ (fun k => hp ⟨Nat.zero_le _, by have := lt2_0 p; omega, k.1, k.2⟩) (h p)

end Boxes

theorem T16_val (k : ℕ) (hk : k < T16.length) : T16[k].val = k := by
  have : ∀ k : Fin 16, (T16[k.val]'k.isLt).val = k.val := by decide
  exact this ⟨k, hk⟩

/-! ### The scores' pass -/

section Pass1

variable (mask : F .f32) (D : ℕ → ℕ → F .f32) (Bc A : ℕ → F .f32) (σ₀ : State (Elt F))

/-- What the pass reads. -/
structure In1 (bat : Bat) : Prop where
  d : All2 (σ₀ .d) fun a b v => b < 2016 → v = D a b
  a : All2 (σ₀ .a) fun a _ v => v = A a
  b : All3 (σ₀ .b) fun n _ b v => n = bat.1 → b < 2016 → v = Bc b

/-- Where the scores are written. -/
def Done (G q j a b : ℕ) : Prop := a < 8 * G ∨ (a < 8 * G + 64 ∧ b < 128 * j) ∨ (a < 8 * G + 8 * q ∧ b < 128 * j + 128)

/-- After `G` groups of rows, -/
structure P1 (G : ℕ) (σ : State (Elt F)) : Prop where
  same : Same [.tp, .c, .rraw] σ₀ σ
  tp : All2 (σ .tp) fun a b v => a < 8 * G → v = TT mask D Bc A a b
  c : All2 (σ .c) fun a b v => v = CM mask (TT mask D Bc A) G a b
  rraw : All2 (σ .rraw) fun a b v => a < 8 * G → v = RM (TT mask D Bc A) 15 a b

/-- and after `j` tiles of eight groups more and `q` groups of the next tile. -/
structure P1t (G j q : ℕ) (σ : State (Elt F)) : Prop where
  same : Same [.tp, .c, .rraw] σ₀ σ
  tp : All2 (σ .tp) fun a b v => Done G q j a b → v = TT mask D Bc A a b
  c : All2 (σ .c) fun a b v => v = CM mask (TT mask D Bc A) (if b < 128 * j then G + 8 else G) a b
  rraw : All2 (σ .rraw) fun a b v => a < 8 * G → v = RM (TT mask D Bc A) 15 a b

variable {mask D Bc A σ₀} {bat : Bat} {x : Strip} {s : Fin 2} {G : ℕ} {σ : State (Elt F)}

theorem grp1_spec (h : In1 D Bc A σ₀ bat) (hG : x.1 + 64 * s.val = 8 * G) (j : Fin 16) (a r : Fin 8 → V8 F) (bv : V8 F)
    (q : Fin 8) (c : V8 F) (ha : ∀ i, a q i = A (8 * G + 8 * q.val + (i 0).val))
    (hr : j.val ≠ 0 → ∀ i, r q i = RM (TT mask D Bc A) (j.val - 1) (8 * G + 8 * q.val + (i 0).val) (i 1).val)
    (hb : ∀ i : Q8.Idx, 128 * j.val + (i 1).val < 2016 → bv i = Bc (128 * j.val + (i 1).val))
    (hc : ∀ i : Q8.Idx, c i = CM mask (TT mask D Bc A) (G + q.val) (i 0).val (128 * j.val + (i 1).val))
    (hσ : P1t mask D Bc A σ₀ G j.val q.val σ) :
    wp (grp1 (sig := sig) mask x s j a r bv q c) (fun o σ' =>
      (∀ i, o.1 i = RM (TT mask D Bc A) j.val (8 * G + 8 * q.val + (i 0).val) (i 1).val) ∧
      (∀ i : Q8.Idx, o.2 i = CM mask (TT mask D Bc A) (G + q.val + 1) (i 0).val (128 * j.val + (i 1).val)) ∧
      P1t mask D Bc A σ₀ G j.val (q.val + 1) σ') σ := by
  rw [grp1_eq]
  refine wp.bind (wp.ldS ?_)
  have hd := fun i => (h.d).ldW x s q j i
  rw [← hσ.same .d (by decide)] at hd
  rw [hG] at hd
  have ht : ∀ i : Q8.Idx, (if j.val = 15 then padMask mask (mulf (mulf (fun i => σ .d ((rW x).emb ((rWg s q j).emb i))) bv) (a q))
      else mulf (mulf (fun i => σ .d ((rW x).emb ((rWg s q j).emb i))) bv) (a q)) i
      = TT mask D Bc A (8 * G + 8 * q.val + (i 0).val) (128 * j.val + (i 1).val) := by
    intro i
    have hi := lt2_1 i
    have key : 128 * j.val + (i 1).val < 2016 → mulf (mulf (fun i => σ .d ((rW x).emb ((rWg s q j).emb i))) bv) (a q) i
        = TT mask D Bc A (8 * G + 8 * q.val + (i 0).val) (128 * j.val + (i 1).val) := by
      intro hj
      rw [TT, if_pos hj, ← hd i hj, ← hb i hj, ← ha i]
      rfl
    by_cases h15 : j.val = 15
    · rw [if_pos h15, padMask_apply]
      by_cases h96 : (i 1).val < 96
      · rw [if_pos h96]; exact key (by omega)
      · rw [if_neg h96, TT, if_neg (by omega)]
    · rw [if_neg h15]; exact key (by omega)
  suffices H : ∀ t : V8 F, (∀ i : Q8.Idx, t i = TT mask D Bc A (8 * G + 8 * q.val + (i 0).val) (128 * j.val + (i 1).val)) →
      wp (do
        stS (sig := sig) .tp (rW x) ones2 (rWg s q j) n8 rfl (c8 t)
        pure (if j.val = 0 then t else maximumf (r q) t, maximumf c t)) (fun o σ' =>
      (∀ i, o.1 i = RM (TT mask D Bc A) j.val (8 * G + 8 * q.val + (i 0).val) (i 1).val) ∧
      (∀ i : Q8.Idx, o.2 i = CM mask (TT mask D Bc A) (G + q.val + 1) (i 0).val (128 * j.val + (i 1).val)) ∧
      P1t mask D Bc A σ₀ G j.val (q.val + 1) σ') σ from H _ ht
  intro t ht
  refine wp.bind (wp.stS ?_)
  rw [c8_eq]
  refine wp.pure ⟨fun i => ?_, fun i => ?_, ?_⟩
  · by_cases h0 : j.val = 0
    · show (if j.val = 0 then t else maximumf (r q) t) i = _
      rw [if_pos h0, ht, h0, Nat.mul_zero, Nat.zero_add]; rfl
    · show (if j.val = 0 then t else maximumf (r q) t) i = _
      rw [if_neg h0]
      obtain ⟨n, hn⟩ : ∃ n, j.val = n + 1 := ⟨j.val - 1, by omega⟩
      show FloatOps.maximumf (r q i) (t i) = _
      rw [ht, hr h0 i, hn]; rfl
  · show FloatOps.maximumf (c i) (t i) = _
    rw [ht, hc, CM, Nat.mul_add]
  · refine ⟨hσ.same.set (by decide) _, ?_, ?_, ?_⟩
    · rw [State.set_same]
      refine hσ.tp.stW x s q j (fun i _ => ?_) (fun a b v hn hv hd => hv ?_)
      · rw [hG]; exact ht i
      · unfold Done at *; omega
    · rw [State.set_ne _ _ (by decide)]; exact hσ.c
    · rw [State.set_ne _ _ (by decide)]; exact hσ.rraw

theorem tile1_spec (h : In1 D Bc A σ₀ bat) (hG : x.1 + 64 * s.val = 8 * G) (a : Fin 8 → V8 F)
    (ha : ∀ q i, a q i = A (8 * G + 8 * q.val + (i 0).val)) (j : Fin 16) (r : Fin 8 → V8 F)
    (hr : j.val ≠ 0 → ∀ (q : Fin 8) i, r q i = RM (TT mask D Bc A) (j.val - 1) (8 * G + 8 * q.val + (i 0).val) (i 1).val)
    (hσ : P1t mask D Bc A σ₀ G j.val 0 σ) :
    wp (tile1 (sig := sig) mask bat x s a j r) (fun o σ' =>
      (∀ (q : Fin 8) i, o q i = RM (TT mask D Bc A) j.val (8 * G + 8 * q.val + (i 0).val) (i 1).val) ∧
      P1t mask D Bc A σ₀ G (j.val + 1) 0 σ') σ := by
  refine wp.bind (wp.ld ?_)
  refine wp.bind (wp.ld ?_)
  refine wp.seq (wp.groups
    (fun n c σ => (∀ i : Q8.Idx, c i = CM mask (TT mask D Bc A) (G + n) (i 0).val (128 * j.val + (i 1).val)) ∧
      P1t mask D Bc A σ₀ G j.val n σ)
    (fun q a => ∀ i, a i = RM (TT mask D Bc A) j.val (8 * G + 8 * q.val + (i 0).val) (i 1).val)
    (fun q c σ hI => grp1_spec h hG j a r _ q c (ha q) (fun h0 i => hr h0 q i) (fun i hi => ?_) hI.1 hI.2) ?_)
    (fun o σ' ho => wp.bind (wp.st (wp.pure ⟨ho.1, ?_⟩)))
  · refine (shapeCast_dropUnit_apply ![8, 128] _ _ i).trans ?_
    have := h.b.ld3 (o0 := bat.1) (o1 := 0) (o2 := 128 * j.val) (n0 := 1) (n1 := 8) (n2 := 128) (h0 := bat.2) (h1 := by decide)
      (h2 := show _ ≤ 2048 by omega) (Fin.cons ⟨0, Nat.one_pos⟩ i)
    rw [← hσ.same .b (by decide)] at this
    exact this rfl hi
  · refine ⟨fun i => ?_, hσ⟩
    have := hσ.c.ldC j i
    rw [if_neg (by omega)] at this
    exact this
  · obtain ⟨hA, hc, hP⟩ := ho
    rw [c8_eq]
    refine ⟨hP.same.set (by decide) _, ?_, ?_, ?_⟩
    · rw [State.set_ne _ _ (by decide)]
      refine hP.tp.mono fun a b v _ _ hv hd => hv ?_
      unfold Done at *; omega
    · rw [State.set_same]
      refine hP.c.stC j (fun i => ?_) (fun a b v hn hv => ?_)
      · have := lt2_1 i
        rw [if_pos (by omega)]; exact hc i
      · rw [hv]; congr 1
        by_cases hb : b < 128 * j.val
        · rw [if_pos hb, if_pos (by omega)]
        · rw [if_neg hb, if_neg (by omega)]
    · rw [State.set_ne _ _ (by decide)]; exact hP.rraw

theorem half1_spec (h : In1 D Bc A σ₀ bat) (hG : x.1 + 64 * s.val = 8 * G) (hσ : P1 mask D Bc A σ₀ G σ) :
    wp (half1 (sig := sig) mask bat x s) (fun _ => P1 mask D Bc A σ₀ (G + 8)) σ := by
  refine wp.seq (wp.reads (P1 mask D Bc A σ₀ G) (fun q a => ∀ i, a i = A (8 * G + 8 * q.val + (i 0).val))
    (fun q σ hσ => wp.ldS ⟨fun i => ?_, hσ⟩) hσ) fun a σ₁ ha => ?_
  · have := h.a.ldN x s q i
    rw [hG, ← hσ.same .a (by decide)] at this; exact this
  obtain ⟨ha, hσ₁⟩ := ha
  refine wp.seq (wp.foldL (fun n r σ => (n ≠ 0 → ∀ (q : Fin 8) i, r q i = RM (TT mask D Bc A) (n - 1) (8 * G + 8 * q.val + (i 0).val) (i 1).val) ∧
      P1t mask D Bc A σ₀ G n 0 σ) T16 0 (fun k hk r σ hI => ?_) a σ₁ ?_) fun r σ₂ hr => ?_
  · rw [Nat.zero_add] at hI ⊢
    have e := T16_val k hk
    refine (tile1_spec h hG a ha T16[k] r (by rw [e]; exact hI.1) (by rw [e]; exact hI.2)).mono fun o σ' ho => ?_
    rw [e] at ho
    exact ⟨fun _ => ho.1, ho.2⟩
  · refine ⟨fun h => absurd rfl h, hσ₁.same, hσ₁.tp.mono fun a b v _ _ hv hd => hv ?_, hσ₁.c.mono fun a b v _ _ hv => ?_, hσ₁.rraw⟩
    · unfold Done at hd; omega
    · rw [if_neg (by omega)]; exact hv
  have e16 : 0 + T16.length = 16 := rfl
  rw [e16] at hr
  obtain ⟨hr, hσ₂⟩ := hr
  have hr := hr (by decide)
  refine wp.seq (wp.groups (fun n (_ : PUnit) σ => Same [.tp, .c, .rraw] σ₀ σ ∧ σ .tp = σ₂ .tp ∧ σ .c = σ₂ .c ∧
      All2 (σ .rraw) fun a b v => a < 8 * G + 8 * n → v = RM (TT mask D Bc A) 15 a b) (fun _ (_ : PUnit) => True)
    (fun q _ σ hI => wp.bind (wp.stS (wp.pure ⟨trivial, ?_⟩))) ⟨hσ₂.same, rfl, rfl, hσ₂.rraw⟩) fun _ σ₃ hI => wp.pure ?_
  · obtain ⟨-, hs, htp, hc, hrr⟩ := hI
    refine ⟨hs, ?_, ?_, hrr⟩
    · rw [htp]; refine hσ₂.tp.mono fun a b v ha hb hv hd => hv ?_
      have : b < 2048 := hb
      unfold Done; omega
    · rw [hc]; refine hσ₂.c.mono fun a b v ha hb hv => ?_
      have : b < 2048 := hb
      rw [if_pos (by omega)] at hv; exact hv
  · rw [c8_eq]
    refine ⟨hI.1.set (by decide) _, ?_, ?_, ?_⟩
    · rw [State.set_ne _ _ (by decide)]; exact hI.2.1
    · rw [State.set_ne _ _ (by decide)]; exact hI.2.2.1
    · rw [State.set_same]
      refine hI.2.2.2.stN x s q (fun i _ => ?_) (fun a b v _ hn hv hd => hv ?_)
      · rw [hG]; exact hr q i
      · omega

theorem pass1_spec (h : In1 D Bc A σ₀ bat) (t : Fin lp15.trips) (hσ : P1 mask D Bc A σ₀ (16 * t.val) σ) :
    wp (pass1 (sig := sig) mask bat (strip t)) (fun _ => P1 mask D Bc A σ₀ (16 * (t.val + 1))) σ := by
  have e : (strip t).1 = 128 * t.val := stripBV_toNat t
  refine wp.seq (half1_spec h (by rw [e, Fin.val_zero]; omega) hσ) fun _ σ' h' => ?_
  have := half1_spec (sig := sig) (x := strip t) (s := 1) h (by rw [e, Fin.val_one]; omega) h'
  rwa [show 16 * t.val + 8 + 8 = 16 * (t.val + 1) by omega] at this

end Pass1

end Half

end Cert.Dual
-- ==== Proof.Halves2.lean ====
/- What the exponentials' pass leaves over half a strip. -/
module

public import proofs.«01_k».proof.Proof.Halves

@[expose] public section

noncomputable section

namespace Cert.Dual

open Idealize.ShloMosaic Idealize.ShloMosaic.TcCoe

variable {sig : RefSig} {F : FTy → Type} [FloatOps F]

/-- The exponential of a score less a bound of its row, -/
def ER (T : ℕ → ℕ → F .f32) (R : ℕ → F .f32) (i j : ℕ) : F .f32 := FloatOps.exp2 (FloatOps.subf (T i j) (R i))
/-- and of its column. -/
def EC (T : ℕ → ℕ → F .f32) (Cc : ℕ → F .f32) (i j : ℕ) : F .f32 := FloatOps.exp2 (FloatOps.subf (T i j) (Cc j))

/-- The sum of the first `g` entries at eight rows' distance in a column. -/
def CA (U : ℕ → ℕ → F .f32) : ℕ → ℕ → ℕ → F .f32
  | 0, _, _ => zero
  | g + 1, r, j => FloatOps.addf (CA U g r j) (U (8 * g + r) j)

/-- The sum of a row's entries at 128 columns' distance, the first `n + 1` of them. -/
def RA (U : ℕ → ℕ → F .f32) : ℕ → ℕ → ℕ → F .f32
  | 0, i, l => U i l
  | n + 1, i, l => FloatOps.addf (RA U n i l) (U i (128 * (n + 1) + l))

theorem grp2_eq (x : Strip) (s : Fin 2) (j : Fin 16) (m r : Fin 8 → V8 F) (c : V8 F) (q : Fin 8) (u : V8 F) :
    (grp2 x s j m r c q u : C sig (Elt F) _) = (do
      let t : V8 F ← ldS .tp (rW x) ones2 (rWg s q j) n8
      stS .tp (rW x) ones2 (rWg s q j) n8 rfl (c8 (mulf (exp2 (subf t (m q))) (exp2 (subf t c))))
      pure (if j.val = 0 then exp2 (subf t (m q)) else addf (r q) (exp2 (subf t (m q))), addf u (exp2 (subf t c)))) := by
  fin_cases j <;> rfl

section Pass2

variable (T : ℕ → ℕ → F .f32) (R Cc : ℕ → F .f32) (σ₀ : State (Elt F))

/-- What the pass reads over half a strip. -/
structure In2 (G : ℕ) : Prop where
  rred : All2 (σ₀ .rred) fun a _ v => 8 * G ≤ a → a < 8 * G + 64 → v = R a
  c : All2 (σ₀ .c) fun _ b v => v = Cc b

/-- After `G` groups of rows, -/
structure P2 (G : ℕ) (σ : State (Elt F)) : Prop where
  same : Same [.tp, .csum, .rsum] σ₀ σ
  tp : All2 (σ .tp) fun a b v => (a < 8 * G → v = FloatOps.mulf (ER T R a b) (EC T Cc a b)) ∧ (8 * G ≤ a → v = T a b)
  csum : All2 (σ .csum) fun a b v => v = CA (EC T Cc) G a b
  rsum : All2 (σ .rsum) fun a b v => a < 8 * G → v = RA (ER T R) 15 a b

/-- and after `j` tiles of eight groups more and `q` groups of the next tile. -/
structure P2t (G j q : ℕ) (σ : State (Elt F)) : Prop where
  same : Same [.tp, .csum, .rsum] σ₀ σ
  tp : All2 (σ .tp) fun a b v => (Done G q j a b → v = FloatOps.mulf (ER T R a b) (EC T Cc a b)) ∧ (¬ Done G q j a b → v = T a b)
  csum : All2 (σ .csum) fun a b v => v = CA (EC T Cc) (if b < 128 * j then G + 8 else G) a b
  rsum : All2 (σ .rsum) fun a b v => a < 8 * G → v = RA (ER T R) 15 a b

variable {T R Cc σ₀} {x : Strip} {s : Fin 2} {G : ℕ} {σ : State (Elt F)}

theorem grp2_spec (hG : x.1 + 64 * s.val = 8 * G) (j : Fin 16) (m r : Fin 8 → V8 F) (c : V8 F) (q : Fin 8) (u : V8 F)
    (hm : ∀ i, m q i = R (8 * G + 8 * q.val + (i 0).val))
    (hr : j.val ≠ 0 → ∀ i, r q i = RA (ER T R) (j.val - 1) (8 * G + 8 * q.val + (i 0).val) (i 1).val)
    (hc : ∀ i : Q8.Idx, c i = Cc (128 * j.val + (i 1).val))
    (hu : ∀ i : Q8.Idx, u i = CA (EC T Cc) (G + q.val) (i 0).val (128 * j.val + (i 1).val))
    (hσ : P2t T R Cc σ₀ G j.val q.val σ) :
    wp (grp2 (sig := sig) x s j m r c q u) (fun o σ' =>
      (∀ i, o.1 i = RA (ER T R) j.val (8 * G + 8 * q.val + (i 0).val) (i 1).val) ∧
      (∀ i : Q8.Idx, o.2 i = CA (EC T Cc) (G + q.val + 1) (i 0).val (128 * j.val + (i 1).val)) ∧
      P2t T R Cc σ₀ G j.val (q.val + 1) σ') σ := by
  rw [grp2_eq]
  refine wp.bind (wp.ldS ?_)
  have ht : ∀ i : Q8.Idx, σ .tp ((rW x).emb ((rWg s q j).emb i)) = T (8 * G + 8 * q.val + (i 0).val) (128 * j.val + (i 1).val) := by
    intro i
    have := (hσ.tp.ldW x s q j i).2
    rw [hG] at this
    refine this ?_
    unfold Done; omega
  suffices H : ∀ t : V8 F, (∀ i : Q8.Idx, t i = T (8 * G + 8 * q.val + (i 0).val) (128 * j.val + (i 1).val)) →
      wp (do
        stS (sig := sig) .tp (rW x) ones2 (rWg s q j) n8 rfl (c8 (mulf (exp2 (subf t (m q))) (exp2 (subf t c))))
        pure (if j.val = 0 then exp2 (subf t (m q)) else addf (r q) (exp2 (subf t (m q))), addf u (exp2 (subf t c)))) (fun o σ' =>
      (∀ i, o.1 i = RA (ER T R) j.val (8 * G + 8 * q.val + (i 0).val) (i 1).val) ∧
      (∀ i : Q8.Idx, o.2 i = CA (EC T Cc) (G + q.val + 1) (i 0).val (128 * j.val + (i 1).val)) ∧
      P2t T R Cc σ₀ G j.val (q.val + 1) σ') σ from H _ ht
  intro t ht
  refine wp.bind (wp.stS ?_)
  rw [c8_eq]
  have er : ∀ i : Q8.Idx, exp2 (subf t (m q)) i = ER T R (8 * G + 8 * q.val + (i 0).val) (128 * j.val + (i 1).val) := by
    intro i
    show FloatOps.exp2 (FloatOps.subf (t i) (m q i)) = _
    rw [ht, hm]; rfl
  have ec : ∀ i : Q8.Idx, exp2 (subf t c) i = EC T Cc (8 * G + 8 * q.val + (i 0).val) (128 * j.val + (i 1).val) := by
    intro i
    show FloatOps.exp2 (FloatOps.subf (t i) (c i)) = _
    rw [ht, hc]; rfl
  refine wp.pure ⟨fun i => ?_, fun i => ?_, ?_⟩
  · by_cases h0 : j.val = 0
    · show (if j.val = 0 then exp2 (subf t (m q)) else addf (r q) (exp2 (subf t (m q)))) i = _
      rw [if_pos h0, er, h0, Nat.mul_zero, Nat.zero_add]; rfl
    · show (if j.val = 0 then exp2 (subf t (m q)) else addf (r q) (exp2 (subf t (m q)))) i = _
      rw [if_neg h0]
      obtain ⟨n, hn⟩ : ∃ n, j.val = n + 1 := ⟨j.val - 1, by omega⟩
      show FloatOps.addf (r q i) (exp2 (subf t (m q)) i) = _
      rw [er, hr h0 i, hn]; rfl
  · show FloatOps.addf (u i) (exp2 (subf t c) i) = _
    rw [ec, hu, CA, Nat.mul_add]
  · refine ⟨hσ.same.set (by decide) _, ?_, ?_, ?_⟩
    · rw [State.set_same]
      refine hσ.tp.stW x s q j (fun i => ⟨fun _ => ?_, fun h => absurd ?_ h⟩) (fun a b v hn hv => ⟨fun hd => hv.1 ?_, fun hd => hv.2 fun h => hd ?_⟩)
      · rw [hG, ← er, ← ec]; rfl
      · have h0 := lt2_0 i
        have h1 := lt2_1 i
        unfold Done; omega
      · unfold Done at *; omega
      · unfold Done at *; omega
    · rw [State.set_ne _ _ (by decide)]; exact hσ.csum
    · rw [State.set_ne _ _ (by decide)]; exact hσ.rsum

theorem tile2_spec (h : In2 R Cc σ₀ G) (hG : x.1 + 64 * s.val = 8 * G) (m : Fin 8 → V8 F)
    (hm : ∀ q i, m q i = R (8 * G + 8 * q.val + (i 0).val)) (j : Fin 16) (r : Fin 8 → V8 F)
    (hr : j.val ≠ 0 → ∀ (q : Fin 8) i, r q i = RA (ER T R) (j.val - 1) (8 * G + 8 * q.val + (i 0).val) (i 1).val)
    (hσ : P2t T R Cc σ₀ G j.val 0 σ) :
    wp (tile2 (sig := sig) x s m j r) (fun o σ' =>
      (∀ (q : Fin 8) i, o q i = RA (ER T R) j.val (8 * G + 8 * q.val + (i 0).val) (i 1).val) ∧
      P2t T R Cc σ₀ G (j.val + 1) 0 σ') σ := by
  refine wp.bind (wp.ld ?_)
  refine wp.bind (wp.ld ?_)
  refine wp.seq (wp.groups
    (fun n c σ => (∀ i : Q8.Idx, c i = CA (EC T Cc) (G + n) (i 0).val (128 * j.val + (i 1).val)) ∧
      P2t T R Cc σ₀ G j.val n σ)
    (fun q a => ∀ i, a i = RA (ER T R) j.val (8 * G + 8 * q.val + (i 0).val) (i 1).val)
    (fun q u σ hI => grp2_spec hG j m r _ q u (hm q) (fun h0 i => hr h0 q i) (fun i => ?_) hI.1 hI.2) ?_)
    (fun o σ' ho => wp.bind (wp.st (wp.pure ⟨ho.1, ?_⟩)))
  · have := h.c.ldC j i
    rw [← hσ.same .c (by decide)] at this
    exact this
  · refine ⟨fun i => ?_, hσ⟩
    have := hσ.csum.ldC j i
    rw [if_neg (by omega)] at this
    exact this
  · obtain ⟨hA, hc, hP⟩ := ho
    rw [c8_eq]
    refine ⟨hP.same.set (by decide) _, ?_, ?_, ?_⟩
    · rw [State.set_ne _ _ (by decide)]
      refine hP.tp.mono fun a b v _ _ hv => ⟨fun hd => hv.1 ?_, fun hd => hv.2 fun h => hd ?_⟩
      · unfold Done at *; omega
      · unfold Done at *; omega
    · rw [State.set_same]
      refine hP.csum.stC j (fun i => ?_) (fun a b v hn hv => ?_)
      · have := lt2_1 i
        rw [if_pos (by omega)]; exact hc i
      · rw [hv]; congr 1
        by_cases hb : b < 128 * j.val
        · rw [if_pos hb, if_pos (by omega)]
        · rw [if_neg hb, if_neg (by omega)]
    · rw [State.set_ne _ _ (by decide)]; exact hP.rsum

theorem half2_spec (h : In2 R Cc σ₀ G) (hG : x.1 + 64 * s.val = 8 * G) (hσ : P2 T R Cc σ₀ G σ) :
    wp (half2 (sig := sig) x s) (fun _ => P2 T R Cc σ₀ (G + 8)) σ := by
  refine wp.seq (wp.reads (P2 T R Cc σ₀ G) (fun q a => ∀ i, a i = R (8 * G + 8 * q.val + (i 0).val))
    (fun q σ hσ => wp.ldS ⟨fun i => ?_, hσ⟩) hσ) fun a σ₁ ha => ?_
  · have := h.rred.ldN x s q i
    have h0 := lt2_0 i
    rw [hG, ← hσ.same .rred (by decide)] at this; exact this (by omega) (by omega)
  obtain ⟨ha, hσ₁⟩ := ha
  refine wp.seq (wp.foldL (fun n r σ => (n ≠ 0 → ∀ (q : Fin 8) i, r q i = RA (ER T R) (n - 1) (8 * G + 8 * q.val + (i 0).val) (i 1).val) ∧
      P2t T R Cc σ₀ G n 0 σ) T16 0 (fun k hk r σ hI => ?_) a σ₁ ?_) fun r σ₂ hr => ?_
  · rw [Nat.zero_add] at hI ⊢
    have e := T16_val k hk
    refine (tile2_spec h hG a ha T16[k] r (by rw [e]; exact hI.1) (by rw [e]; exact hI.2)).mono fun o σ' ho => ?_
    rw [e] at ho
    exact ⟨fun _ => ho.1, ho.2⟩
  · refine ⟨fun h => absurd rfl h, hσ₁.same, hσ₁.tp.mono fun a b v _ _ hv => ⟨fun hd => hv.1 ?_, fun hd => hv.2 ?_⟩,
      hσ₁.csum.mono fun a b v _ _ hv => ?_, hσ₁.rsum⟩
    · unfold Done at hd; omega
    · unfold Done at hd; omega
    · rw [if_neg (by omega)]; exact hv
  have e16 : 0 + T16.length = 16 := rfl
  rw [e16] at hr
  obtain ⟨hr, hσ₂⟩ := hr
  have hr := hr (by decide)
  refine wp.seq (wp.groups (fun n (_ : PUnit) σ => Same [.tp, .csum, .rsum] σ₀ σ ∧ σ .tp = σ₂ .tp ∧ σ .csum = σ₂ .csum ∧
      All2 (σ .rsum) fun a b v => a < 8 * G + 8 * n → v = RA (ER T R) 15 a b) (fun _ (_ : PUnit) => True)
    (fun q _ σ hI => wp.bind (wp.stS (wp.pure ⟨trivial, ?_⟩))) ⟨hσ₂.same, rfl, rfl, hσ₂.rsum⟩) fun _ σ₃ hI => wp.pure ?_
  · obtain ⟨-, hs, htp, hc, hrr⟩ := hI
    refine ⟨hs, ?_, ?_, hrr⟩
    · rw [htp]; refine hσ₂.tp.mono fun a b v ha hb hv => ?_
      have : b < 2048 := hb
      refine ⟨fun hd => hv.1 ?_, fun hd => hv.2 fun h => ?_⟩
      · unfold Done; omega
      · unfold Done at h; omega
    · rw [hc]; refine hσ₂.csum.mono fun a b v ha hb hv => ?_
      have : b < 2048 := hb
      rw [if_pos (by omega)] at hv; exact hv
  · rw [c8_eq]
    refine ⟨hI.1.set (by decide) _, ?_, ?_, ?_⟩
    · rw [State.set_ne _ _ (by decide)]; exact hI.2.1
    · rw [State.set_ne _ _ (by decide)]; exact hI.2.2.1
    · rw [State.set_same]
      refine hI.2.2.2.stN x s q (fun i _ => ?_) (fun a b v _ hn hv hd => hv ?_)
      · rw [hG]; exact hr q i
      · omega

end Pass2

end Cert.Dual
-- ==== Proof.Halves3.lean ====
/- What the results' pass leaves over half a strip. -/
module

public import proofs.«01_k».proof.Proof.Halves2
public import Idealize.ShloMosaic.Lib.Pointwise.Index

@[expose] public section

noncomputable section

namespace Cert.Dual

open Idealize.ShloMosaic Idealize.ShloMosaic.TcCoe

variable {sig : RefSig} {F : FTy → Type} [FloatOps F]

/-- The result's format. -/
def tr (v : F .f32) : F .bf16 := FloatOps.truncf .bf16 (by decide) v

theorem pair16_apply (u v : V8 F) (f : ℕ → ℕ → F .f32) (hu : ∀ i, u i = f (i 0).val (i 1).val)
    (hv : ∀ i, v i = f (8 + (i 0).val) (i 1).val) (k : (⟨2, ![16, 128]⟩ : Shape).Idx) :
    pair16 u v k = tr (f (k 0).val (k 1).val) := by
  have h0 := lt2_0 k
  show tr (concatenate ⟨2, ![16, 128]⟩ 0 [⟨Q8, u⟩, ⟨Q8, v⟩] cat16 k) = _
  congr 1
  by_cases h : (k 0).val < 8
  · rw [concatenate_pair_apply_left 0 u v cat16 k rfl (ix2 ⟨(k 0).val, h⟩ (k 1)) (Fin.forall_fin_two.mpr ⟨rfl, rfl⟩), hu]
    rfl
  · rw [concatenate_pair_apply_right 0 u v cat16 k rfl rfl (ix2 ⟨(k 0).val - 8, by omega⟩ (k 1))
      (Fin.forall_fin_two.mpr ⟨fun h => absurd rfl h, fun _ => rfl⟩) (show (k 0).val - 8 + 8 = (k 0).val by omega), hv]
    show f (8 + ((k 0).val - 8)) (k 1).val = _
    rw [show 8 + ((k 0).val - 8) = (k 0).val by omega]

theorem grp3_eq (x : Strip) (s : Fin 2) (j : Fin 16) (ri r : Fin 8 → V8 F) (ci : V8 F) (q : Fin 8) (c : V8 F) :
    (grp3 x s j ri r ci q c : C sig (Elt F) _) = (do
      let t : V8 F ← ldS .tp (rW x) ones2 (rWg s q j) n8
      pure ((if j.val = 0 then mulf t ci else maximumf (r q) (mulf t ci), mulf (mulf t ci) (ri q)),
        maximumf c (mulf (mulf t ci) (ri q)))) := by
  fin_cases j <;> rfl

section Pass3

variable (E : ℕ → ℕ → F .f32) (Ri Ci : ℕ → F .f32) (σ₀ : State (Elt F))

/-- A product with its column's scale, -/
def VV (i j : ℕ) : F .f32 := FloatOps.mulf (E i j) (Ci j)
/-- and its row's. -/
def WW (i j : ℕ) : F .f32 := FloatOps.mulf (VV E Ci i j) (Ri i)

/-- What the pass reads over half a strip. -/
structure In3 (G : ℕ) : Prop where
  tp : All2 (σ₀ .tp) fun a b v => v = E a b
  rinv : All2 (σ₀ .rinv) fun a _ v => 8 * G ≤ a → a < 8 * G + 64 → v = Ri a
  csum : All2 (σ₀ .csum) fun _ b v => v = Ci b

/-- After `G` groups of rows, -/
structure P3 (G : ℕ) (σ : State (Elt F)) : Prop where
  same : Same [.conf, .c, .rraw] σ₀ σ
  conf : All3 (σ .conf) fun _ a b v => a < 8 * G → v = tr (WW E Ri Ci a b)
  c : All2 (σ .c) fun a b v => v = CM zero (WW E Ri Ci) G a b
  rraw : All2 (σ .rraw) fun a b v => a < 8 * G → v = FloatOps.mulf (RM (VV E Ci) 15 a b) (Ri a)

/-- and after `j` tiles of four pairs more and `p` pairs of the next tile. -/
structure P3t (G j p : ℕ) (σ : State (Elt F)) : Prop where
  same : Same [.conf, .c, .rraw] σ₀ σ
  conf : All3 (σ .conf) fun _ a b v => Done G (2 * p) j a b → v = tr (WW E Ri Ci a b)
  c : All2 (σ .c) fun a b v => v = CM zero (WW E Ri Ci) (if b < 128 * j then G + 8 else G) a b
  rraw : All2 (σ .rraw) fun a b v => a < 8 * G → v = FloatOps.mulf (RM (VV E Ci) 15 a b) (Ri a)

variable {E Ri Ci σ₀} {x : Strip} {s : Fin 2} {G : ℕ} {σ : State (Elt F)}

theorem grp3_spec (h : In3 E Ri Ci σ₀ G) (hG : x.1 + 64 * s.val = 8 * G) (j : Fin 16) (ri r : Fin 8 → V8 F) (ci : V8 F)
    (q : Fin 8) (c : V8 F) (p : ℕ)
    (hm : ∀ i, ri q i = Ri (8 * G + 8 * q.val + (i 0).val))
    (hr : j.val ≠ 0 → ∀ i, r q i = RM (VV E Ci) (j.val - 1) (8 * G + 8 * q.val + (i 0).val) (i 1).val)
    (hci : ∀ i : Q8.Idx, ci i = Ci (128 * j.val + (i 1).val))
    (hc : ∀ i : Q8.Idx, c i = CM zero (WW E Ri Ci) (G + q.val) (i 0).val (128 * j.val + (i 1).val))
    (hσ : P3t E Ri Ci σ₀ G j.val p σ) :
    wp (grp3 (sig := sig) x s j ri r ci q c) (fun o σ' =>
      ((∀ i, o.1.1 i = RM (VV E Ci) j.val (8 * G + 8 * q.val + (i 0).val) (i 1).val) ∧
        (∀ i : Q8.Idx, o.1.2 i = WW E Ri Ci (8 * G + 8 * q.val + (i 0).val) (128 * j.val + (i 1).val))) ∧
      (∀ i : Q8.Idx, o.2 i = CM zero (WW E Ri Ci) (G + (q.val + 1)) (i 0).val (128 * j.val + (i 1).val)) ∧
      P3t E Ri Ci σ₀ G j.val p σ') σ := by
  rw [grp3_eq]
  refine wp.bind (wp.ldS ?_)
  have ht : ∀ i : Q8.Idx, σ .tp ((rW x).emb ((rWg s q j).emb i)) = E (8 * G + 8 * q.val + (i 0).val) (128 * j.val + (i 1).val) := by
    intro i
    have := h.tp.ldW x s q j i
    rw [hG, ← hσ.same .tp (by decide)] at this
    exact this
  suffices H : ∀ t : V8 F, (∀ i : Q8.Idx, t i = E (8 * G + 8 * q.val + (i 0).val) (128 * j.val + (i 1).val)) →
      wp (pure ((if j.val = 0 then mulf t ci else maximumf (r q) (mulf t ci), mulf (mulf t ci) (ri q)),
        maximumf c (mulf (mulf t ci) (ri q))) : C sig (Elt F) _) (fun o σ' =>
      ((∀ i, o.1.1 i = RM (VV E Ci) j.val (8 * G + 8 * q.val + (i 0).val) (i 1).val) ∧
        (∀ i : Q8.Idx, o.1.2 i = WW E Ri Ci (8 * G + 8 * q.val + (i 0).val) (128 * j.val + (i 1).val))) ∧
      (∀ i : Q8.Idx, o.2 i = CM zero (WW E Ri Ci) (G + (q.val + 1)) (i 0).val (128 * j.val + (i 1).val)) ∧
      P3t E Ri Ci σ₀ G j.val p σ') σ from H _ ht
  intro t ht
  have hv : ∀ i : Q8.Idx, mulf t ci i = VV E Ci (8 * G + 8 * q.val + (i 0).val) (128 * j.val + (i 1).val) := by
    intro i
    show FloatOps.mulf (t i) (ci i) = _
    rw [ht, hci]; rfl
  have hw : ∀ i : Q8.Idx, mulf (mulf t ci) (ri q) i = WW E Ri Ci (8 * G + 8 * q.val + (i 0).val) (128 * j.val + (i 1).val) := by
    intro i
    show FloatOps.mulf (mulf t ci i) (ri q i) = _
    rw [hv, hm]; rfl
  refine wp.pure ⟨⟨fun i => ?_, hw⟩, fun i => ?_, hσ⟩
  · show (if j.val = 0 then mulf t ci else maximumf (r q) (mulf t ci)) i = _
    by_cases h0 : j.val = 0
    · rw [if_pos h0, hv, h0, Nat.mul_zero, Nat.zero_add]; rfl
    · rw [if_neg h0]
      obtain ⟨n, hn⟩ : ∃ n, j.val = n + 1 := ⟨j.val - 1, by omega⟩
      show FloatOps.maximumf (r q i) (mulf t ci i) = _
      rw [hv, hr h0 i, hn]; rfl
  · show FloatOps.maximumf (c i) (mulf (mulf t ci) (ri q) i) = _
    rw [hw, hc, ← Nat.add_assoc, CM, Nat.mul_add]

theorem lt3_0 {a b c : Nat} (i : (⟨3, ![a, b, c]⟩ : Shape).Idx) : (i 0).val < a := (i 0).isLt
theorem lt3_1 {a b c : Nat} (i : (⟨3, ![a, b, c]⟩ : Shape).Idx) : (i 1).val < b := (i 1).isLt
theorem lt3_2 {a b c : Nat} (i : (⟨3, ![a, b, c]⟩ : Shape).Idx) : (i 2).val < c := (i 2).isLt

theorem wrAny_spec (hG : x.1 + 64 * s.val = 8 * G) (j : Fin 16) (p : Fin 4) (u v : V8 F)
    (hu : ∀ i : Q8.Idx, u i = WW E Ri Ci (8 * G + 8 * (2 * p.val) + (i 0).val) (128 * j.val + (i 1).val))
    (hv : ∀ i : Q8.Idx, v i = WW E Ri Ci (8 * G + 8 * (2 * p.val + 1) + (i 0).val) (128 * j.val + (i 1).val))
    (hσ : P3t E Ri Ci σ₀ G j.val p.val σ) :
    wp (wrAny (sig := sig) x s j p u v) (fun _ => P3t E Ri Ci σ₀ G j.val (p.val + 1)) σ := by
  have hp := pair16_apply u v (fun a b => WW E Ri Ci (8 * G + 16 * p.val + a) (128 * j.val + b))
    (fun i => by rw [hu]; congr 1; omega) (fun i => by rw [hv]; congr 1; omega)
  have key : ∀ a, 8 * G + 16 * p.val + a = x.1 + (64 * s.val + 16 * p.val) + a := fun a => by omega
  unfold wrAny
  by_cases h : j.val < 15
  · rw [dif_pos h]
    refine wp.bind (wp.dead (wp.st0 ?_))
    refine ⟨hσ.same.set (by decide) _, ?_, ?_, ?_⟩
    · rw [State.set_same]
      refine box3 (σ .conf) _ (fun _ a b v => Done G (2 * (p.val + 1)) j.val a b → v = tr (WW E Ri Ci a b)) (fun i _ => ?_) (fun k hk hd => hσ.conf k ?_)
      · refine (shapeCast_addUnit_apply ![16, 128] _ _ i).trans ?_
        exact (hp _).trans (congrArg tr (congrArg₂ (WW E Ri Ci) (key _) rfl))
      · have := lt3_0 k
        unfold Done at *
        dsimp only at hk
        omega
    · rw [State.set_ne _ _ (by decide)]; exact hσ.c
    · rw [State.set_ne _ _ (by decide)]; exact hσ.rraw
  · rw [dif_neg h]
    have hj : j.val = 15 := by omega
    refine wp.bind (wp.dead (wp.st0 ?_))
    refine ⟨hσ.same.set (by decide) _, ?_, ?_, ?_⟩
    · rw [State.set_same]
      refine box3 (σ .conf) _ (fun _ a b v => Done G (2 * (p.val + 1)) j.val a b → v = tr (WW E Ri Ci a b)) (fun i _ => ?_) (fun k hk hd => hσ.conf k ?_)
      · refine (shapeCast_addUnit_apply ![16, 96] _ _ i).trans ?_
        refine (extractStridedSlice_apply (s := ⟨2, ![16, 128]⟩) (t := ⟨2, ![16, 96]⟩) ![0, 0] _ _ (fun a => i a.succ) (ix2 (i 1) ⟨(i 2).val, Nat.lt_trans (m := 96) (lt3_2 i) (show 96 < 128 by decide)⟩)
          (Fin.forall_fin_two.mpr ⟨show (i 1).val = 0 + (i 1).val from (Nat.zero_add _).symm,
            show (i 2).val = 0 + (i 2).val from (Nat.zero_add _).symm⟩)).trans ?_
        exact (hp _).trans (congrArg tr (congrArg₂ (WW E Ri Ci) (key _) (congrArg (· + (i 2).val) (show 128 * j.val = 1920 by omega))))
      · have := lt3_0 k
        have := lt3_2 k
        unfold Done at *
        dsimp only at hk
        omega
    · rw [State.set_ne _ _ (by decide)]; exact hσ.c
    · rw [State.set_ne _ _ (by decide)]; exact hσ.rraw

theorem tile3_spec (h : In3 E Ri Ci σ₀ G) (hG : x.1 + 64 * s.val = 8 * G) (ri : Fin 8 → V8 F)
    (hm : ∀ q i, ri q i = Ri (8 * G + 8 * q.val + (i 0).val)) (j : Fin 16) (r : Fin 8 → V8 F)
    (hr : j.val ≠ 0 → ∀ (q : Fin 8) i, r q i = RM (VV E Ci) (j.val - 1) (8 * G + 8 * q.val + (i 0).val) (i 1).val)
    (hσ : P3t E Ri Ci σ₀ G j.val 0 σ) :
    wp (tile3 (sig := sig) x s ri j r) (fun o σ' =>
      (∀ (q : Fin 8) i, o q i = RM (VV E Ci) j.val (8 * G + 8 * q.val + (i 0).val) (i 1).val) ∧
      P3t E Ri Ci σ₀ G (j.val + 1) 0 σ') σ := by
  refine wp.bind (wp.ld ?_)
  refine wp.bind (wp.ld ?_)
  refine wp.seq (wp.pairs
    (fun p n (c : V8 F) σ => (∀ i : Q8.Idx, c i = CM zero (WW E Ri Ci) (G + n) (i 0).val (128 * j.val + (i 1).val)) ∧
      P3t E Ri Ci σ₀ G j.val p σ)
    (fun q a => ∀ i, a i = RM (VV E Ci) j.val (8 * G + 8 * q.val + (i 0).val) (i 1).val)
    (fun n u => ∀ i : Q8.Idx, u i = WW E Ri Ci (8 * G + 8 * n + (i 0).val) (128 * j.val + (i 1).val))
    (fun q u n σ hI => grp3_spec h hG j ri r _ q u n (hm q) (fun h0 i => hr h0 q i) (fun i => ?_) hI.1 hI.2)
    (fun p u v c σ hu hv hI => (wrAny_spec hG j p u v hu hv hI.2).mono fun _ _ hh => ⟨hI.1, hh⟩) ?_)
    (fun o σ' ho => wp.bind (wp.st (wp.pure ⟨ho.1, ?_⟩)))
  · have := h.csum.ldC j i
    rw [← hσ.same .csum (by decide)] at this
    exact this
  · refine ⟨fun i => ?_, hσ⟩
    have := hσ.c.ldC j i
    rw [if_neg (by omega)] at this
    exact this
  · obtain ⟨hA, hc, hP⟩ := ho
    rw [c8_eq]
    refine ⟨hP.same.set (by decide) _, ?_, ?_, ?_⟩
    · rw [State.set_ne _ _ (by decide)]
      refine fun k hd => hP.conf k ?_
      unfold Done at *; omega
    · rw [State.set_same]
      refine hP.c.stC j (fun i => ?_) (fun a b v hn hv => ?_)
      · have := lt2_1 i
        rw [if_pos (by omega)]; exact hc i
      · rw [hv]; congr 1
        by_cases hb : b < 128 * j.val
        · rw [if_pos hb, if_pos (by omega)]
        · rw [if_neg hb, if_neg (by omega)]
    · rw [State.set_ne _ _ (by decide)]; exact hP.rraw

theorem half3_spec (h : In3 E Ri Ci σ₀ G) (hG : x.1 + 64 * s.val = 8 * G) (hσ : P3 E Ri Ci σ₀ G σ) :
    wp (half3 (sig := sig) x s) (fun _ => P3 E Ri Ci σ₀ (G + 8)) σ := by
  refine wp.seq (wp.reads (P3 E Ri Ci σ₀ G) (fun q a => ∀ i, a i = Ri (8 * G + 8 * q.val + (i 0).val))
    (fun q σ hσ => wp.ldS ⟨fun i => ?_, hσ⟩) hσ) fun a σ₁ ha => ?_
  · have := h.rinv.ldN x s q i
    have h0 := lt2_0 i
    rw [hG, ← hσ.same .rinv (by decide)] at this; exact this (by omega) (by omega)
  obtain ⟨ha, hσ₁⟩ := ha
  refine wp.seq (wp.foldL (fun n r σ => (n ≠ 0 → ∀ (q : Fin 8) i, r q i = RM (VV E Ci) (n - 1) (8 * G + 8 * q.val + (i 0).val) (i 1).val) ∧
      P3t E Ri Ci σ₀ G n 0 σ) T16 0 (fun k hk r σ hI => ?_) a σ₁ ?_) fun r σ₂ hr => ?_
  · rw [Nat.zero_add] at hI ⊢
    have e := T16_val k hk
    refine (tile3_spec h hG a ha T16[k] r (by rw [e]; exact hI.1) (by rw [e]; exact hI.2)).mono fun o σ' ho => ?_
    rw [e] at ho
    exact ⟨fun _ => ho.1, ho.2⟩
  · refine ⟨fun h => absurd rfl h, hσ₁.same, fun k hd => hσ₁.conf k ?_, hσ₁.c.mono fun a b v _ _ hv => ?_, hσ₁.rraw⟩
    · unfold Done at hd; omega
    · rw [if_neg (by omega)]; exact hv
  have e16 : 0 + T16.length = 16 := rfl
  rw [e16] at hr
  obtain ⟨hr, hσ₂⟩ := hr
  have hr := hr (by decide)
  refine wp.seq (wp.groups (fun n (_ : PUnit) σ => Same [.conf, .c, .rraw] σ₀ σ ∧ σ .conf = σ₂ .conf ∧ σ .c = σ₂ .c ∧
      All2 (σ .rraw) fun a b v => a < 8 * G + 8 * n → v = FloatOps.mulf (RM (VV E Ci) 15 a b) (Ri a)) (fun _ (_ : PUnit) => True)
    (fun q _ σ hI => wp.bind (wp.stS (wp.pure ⟨trivial, ?_⟩))) ⟨hσ₂.same, rfl, rfl, hσ₂.rraw⟩) fun _ σ₃ hI => wp.pure ?_
  · obtain ⟨-, hs, htp, hc, hrr⟩ := hI
    refine ⟨hs, ?_, ?_, hrr⟩
    · rw [htp]
      refine fun k hd => hσ₂.conf k ?_
      have := lt3_2 k
      unfold Done; omega
    · rw [hc]; refine hσ₂.c.mono fun a b v ha hb hv => ?_
      have : b < 2048 := hb
      rw [if_pos (by omega)] at hv; exact hv
  · rw [c8_eq]
    refine ⟨hI.1.set (by decide) _, ?_, ?_, ?_⟩
    · rw [State.set_ne _ _ (by decide)]; exact hI.2.1
    · rw [State.set_ne _ _ (by decide)]; exact hI.2.2.1
    · rw [State.set_same]
      refine hI.2.2.2.stN x s q (fun i _ => ?_) (fun a b v _ hn hv hd => hv ?_)
      · rw [hG]
        show FloatOps.mulf (r q i) (a q i) = _
        rw [hr q i, ha q i]
      · omega

end Pass3

end Cert.Dual
-- ==== Proof.Reds.lean ====
/- What the reductions leave, over the extended reals. -/
module

public import proofs.«01_k».proof.Proof.Halves3
public import Idealize.ShloMosaic.PureOps.Ideal.Laws
public import Idealize.ShloMosaic.Lib.MatmulPlain
public import Idealize.ShloMosaic.Lib.IdealHost

@[expose] public section

noncomputable section

namespace Cert.Dual

open Idealize.ShloMosaic Idealize.ShloMosaic.TcCoe

variable {sig : RefSig}

/-- The greatest of the first `n` values. -/
def supN (n : ℕ) (f : ℕ → EReal) : EReal := (Finset.range n).sup f
/-- The sum of the first `n` values. -/
def sumN (n : ℕ) (f : ℕ → EReal) : EReal := ∑ k ∈ Finset.range n, f k

theorem le_supN {n k : ℕ} (f : ℕ → EReal) (h : k < n) : f k ≤ supN n f := Finset.le_sup (Finset.mem_range.mpr h)
theorem supN_le {n : ℕ} {f : ℕ → EReal} {a : EReal} (h : ∀ k < n, f k ≤ a) : supN n f ≤ a :=
  Finset.sup_le fun k hk => h k (Finset.mem_range.mp hk)

theorem fold_max (n : ℕ) (g : Fin n → EReal) (f : ℕ → EReal) (h : ∀ k : Fin n, g k = f k.val) :
    (Finset.univ : Finset (Fin n)).fold max ⊥ g = supN n f := by
  show (Finset.univ : Finset (Fin n)).sup g = _
  refine le_antisymm (Finset.sup_le fun k _ => ?_) (supN_le fun k hk => ?_)
  · rw [h k]; exact le_supN f k.isLt
  · rw [← h ⟨k, hk⟩]; exact Finset.le_sup (Finset.mem_univ _)

theorem fin_sum (n : ℕ) (g : Fin n → EReal) (f : ℕ → EReal) (h : ∀ k : Fin n, g k = f k.val) :
    ∑ k : Fin n, g k = sumN n f := by
  rw [sumN, Finset.sum_range]; exact Finset.sum_congr rfl fun k _ => h k

theorem ofBits_ninf : FloatOps.ofBits (F := Ideal) .f32 0xFF800000#32 = (⊥ : EReal) := by
  show Ideal.ofBits .f32 0xFF800000#32 = _
  simp [Ideal.ofBits, Ideal.ieee]

theorem zero_eq : zero (F := Ideal) = (0 : EReal) := Ideal.ofBits_zero_f32

theorem one_eq : Scalar.ofBits (F := Ideal) .f32 0x3F800000#32 = (1 : EReal) := by
  exact Ideal.ofBits_one_f32

theorem of_eq {α : Type} {P : α → Prop} {v w : α} (e : v = w) (h : P w) : P v := e ▸ h

section Layout

variable {α : Type}

theorem rowSpread_apply {F : FTy → Type} [FloatOps F] (v : FVec F v1 .f32) (i : Q128.Idx) : rowSpread v i = v (ix1 (i 0)) := by
  unfold rowSpread
  rw [shapeCast_self]
  refine (broadcastTo_apply _ _ i (ix2 (i 0) (0 : Fin 1)) (Fin.forall_fin_two.mpr ⟨rfl, rfl⟩)).trans ?_
  refine shapeCast_apply _ _ _ _ ?_
  refine (Shape.rowMajor_val_one (d := ![128]) (ix1 (i 0))).trans (Eq.trans ?_ (Shape.rowMajor_val_two (d := ![128, 1]) (ix2 (i 0) (0 : Fin 1))).symm)
  show (i 0).val = (i 0).val * 1 + 0
  omega

theorem colSpread_apply {F : FTy → Type} [FloatOps F] (v : FVec F v1 .f32) (i : Q8.Idx) : colSpread v i = v (ix1 (i 1)) := by
  unfold colSpread
  rw [shapeCast_self]
  refine (broadcastTo_apply _ _ i (ix2 (0 : Fin 1) (i 1)) (Fin.forall_fin_two.mpr ⟨rfl, rfl⟩)).trans ?_
  refine shapeCast_apply _ _ _ _ ?_
  refine (Shape.rowMajor_val_one (d := ![128]) (ix1 (i 1))).trans (Eq.trans ?_ (Shape.rowMajor_val_two (d := ![1, 128]) (ix2 (0 : Fin 1) (i 1))).symm)
  show (i 1).val = 0 * 128 + (i 1).val
  omega

end Layout

/-- The maximum of each row, at each column's place, -/
theorem maxRow (v : FVec Ideal Q128 .f32) (f : ℕ → ℕ → EReal) (hv : ∀ i, v i = f (i 0).val (i 1).val) (j : v1.Idx) :
    multiReduction .maximumf [1] v1 v 0xFF800000#32 (by decide) (.inl rfl) rfl j = supN 128 (f (j 0).val) := by
  refine (Ideal.multiReduction_maximumf_single v _ _ _ _ j).trans ?_
  rw [ofBits_ninf]
  exact fold_max 128 _ _ fun k => hv _

theorem sumRow (v : FVec Ideal Q128 .f32) (f : ℕ → ℕ → EReal) (hv : ∀ i, v i = f (i 0).val (i 1).val) (j : v1.Idx) :
    multiReduction .add [1] v1 v 0x00000000#32 (by decide) (.inl rfl) rfl j = sumN 128 (f (j 0).val) := by
  refine (Ideal.multiReduction_add_single v _ _ _ _ j).trans ?_
  exact fin_sum 128 _ _ fun k => hv _

theorem maxCol {m : ℕ} (v : FVec Ideal ⟨2, ![m, 128]⟩ .f32) (h : Shape.Reduces ⟨2, ![m, 128]⟩ [0] v1) (f : ℕ → ℕ → EReal)
    (hv : ∀ i, v i = f (i 0).val (i 1).val) (j : v1.Idx) :
    multiReduction .maximumf [0] v1 v 0xFF800000#32 h (.inl rfl) rfl j = supN m (fun r => f r (j 0).val) := by
  refine (Ideal.multiReduction_maximumf_single v _ _ _ _ j).trans ?_
  rw [ofBits_ninf]
  exact fold_max m _ _ fun k => hv _

theorem sumCol (v : FVec Ideal Q8 .f32) (f : ℕ → ℕ → EReal)
    (hv : ∀ i, v i = f (i 0).val (i 1).val) (j : v1.Idx) :
    multiReduction .add [0] v1 v 0x00000000#32 (by decide) (.inl rfl) rfl j = sumN 8 (fun r => f r (j 0).val) := by
  refine (Ideal.multiReduction_add_single v _ _ _ _ j).trans ?_
  exact fin_sum 8 _ _ fun k => hv _

variable {σ : State (Elt Ideal)} {P P' : ℕ → ℕ → EReal → Prop}

theorem redRmax_spec (x : Strip) (f : ℕ → ℕ → EReal)
    (hr : All2 (σ .rraw) fun a b v => x.1 ≤ a → a < x.1 + 128 → v = f a b) (h : All2 (σ .rred) P)
    (hin : ∀ a b, x.1 ≤ a → a < x.1 + 128 → P' a b (supN 128 (f a)))
    (hout : ∀ a b v, ¬ (x.1 ≤ a ∧ a < x.1 + 128) → P a b v → P' a b v) :
    wp (redRmax (sig := sig) x) (fun _ σ' => Same [.rred] σ σ' ∧ All2 (σ' .rred) P') σ := by
  refine wp.bind (wp.ld (wp.st ⟨Same.refl.set (by decide) _, ?_⟩))
  rw [State.set_same, c128_eq]
  refine h.stNall x (fun i => ?_) hout
  have h0 := lt2_0 i
  have hf0 := fun i => hr.ld2 (o0 := x.1) (o1 := 0) (n0 := 128) (n1 := 128) (h0 := x.2.1) (h1 := by decide) i
  have hf : ∀ i : Q128.Idx, σ .rraw ((rN x).emb i) = f (x.1 + (i 0).val) (i 1).val := fun i => by
    have h0 := lt2_0 i
    have e := hf0 i (Nat.le_add_right _ _) (by omega)
    exact e.trans (congrArg (f _) (Nat.zero_add _))
  exact of_eq ((rowSpread_apply _ i).trans (maxRow _ (fun a b => f (x.1 + a) b) hf (ix1 (i 0)))) (hin _ _ (by omega) (by omega))

/-- In the box the first, elsewhere the second. -/
abbrev InOut {α : Type} (c : ℕ → ℕ → Prop) (f : ℕ → ℕ → α) (P : ℕ → ℕ → α → Prop) (a b : ℕ) (v : α) : Prop :=
  (c a b → v = f a b) ∧ (¬ c a b → P a b v)

theorem redRsum_spec (x : Strip) (f : ℕ → ℕ → EReal)
    (hr : All2 (σ .rsum) fun a b v => x.1 ≤ a → a < x.1 + 128 → v = f a b) (h : All2 (σ .rinv) P) :
    wp (redRsum (sig := sig) x) (fun _ σ' => Same [.rinv] σ σ' ∧ All2 (σ' .rinv)
      (InOut (fun a _ => x.1 ≤ a ∧ a < x.1 + 128) (fun a _ => Ideal.div 1 (sumN 128 (f a))) P)) σ := by
  refine wp.bind (wp.ld (wp.st ⟨Same.refl.set (by decide) _, ?_⟩))
  rw [State.set_same, c128_eq]
  refine h.stNall x (fun i => ⟨fun _ => ?_, fun hn => absurd ⟨Nat.le_add_right _ _, Nat.add_lt_add_left (lt2_0 i) _⟩ hn⟩)
    (fun a b v hn hv => ⟨fun hc => absurd hc hn, fun _ => hv⟩)
  have hf0 := fun i => hr.ld2 (o0 := x.1) (o1 := 0) (n0 := 128) (n1 := 128) (h0 := x.2.1) (h1 := by decide) i
  have hf : ∀ i : Q128.Idx, σ .rsum ((rN x).emb i) = f (x.1 + (i 0).val) (i 1).val := fun i => by
    have h0 := lt2_0 i
    have e := hf0 i (Nat.le_add_right _ _) (by omega)
    exact e.trans (congrArg (f _) (Nat.zero_add _))
  exact congrArg₂ Ideal.div one_eq ((rowSpread_apply _ i).trans (sumRow _ (fun a b => f (x.1 + a) b) hf (ix1 (i 0))))

theorem redC_spec (j : Fin 16) (f : ℕ → ℕ → EReal) (hr : All2 (σ .c) fun a b v => 128 * j.val ≤ b → v = f a b)
    (h : All2 (σ .c) P) :
    wp (redC (sig := sig) j) (fun _ σ' => Same [.c] σ σ' ∧ All2 (σ' .c)
      (InOut (fun _ b => 128 * j.val ≤ b ∧ b < 128 * j.val + 128) (fun _ b => supN 8 fun r => f r b) P)) σ := by
  refine wp.bind (wp.ld (wp.st ⟨Same.refl.set (by decide) _, ?_⟩))
  rw [State.set_same, c8_eq]
  refine h.stC j (fun i => ⟨fun _ => ?_, fun hn => absurd ⟨Nat.le_add_right _ _, Nat.add_lt_add_left (lt2_1 i) _⟩ hn⟩)
    (fun a b v hn hv => ⟨fun hc => absurd hc hn, fun _ => hv⟩)
  have hf : ∀ i : Q8.Idx, σ .c ((rC j).emb i) = f (i 0).val (128 * j.val + (i 1).val) := fun i =>
    hr.ldC j i (Nat.le_add_right _ _)
  exact (colSpread_apply _ i).trans (maxCol (m := 8) _ _ (fun a b => f a (128 * j.val + b)) hf (ix1 (i 1)))

theorem redCsum_spec (j : Fin 16) (f : ℕ → ℕ → EReal) (hr : All2 (σ .csum) fun a b v => 128 * j.val ≤ b → v = f a b)
    (h : All2 (σ .csum) P) :
    wp (redCsum (sig := sig) j) (fun _ σ' => Same [.csum] σ σ' ∧ All2 (σ' .csum)
      (InOut (fun _ b => 128 * j.val ≤ b ∧ b < 128 * j.val + 128) (fun _ b => Ideal.div 1 (sumN 8 fun r => f r b)) P)) σ := by
  refine wp.bind (wp.ld (wp.st ⟨Same.refl.set (by decide) _, ?_⟩))
  rw [State.set_same, c8_eq]
  refine h.stC j (fun i => ⟨fun _ => ?_, fun hn => absurd ⟨Nat.le_add_right _ _, Nat.add_lt_add_left (lt2_1 i) _⟩ hn⟩)
    (fun a b v hn hv => ⟨fun hc => absurd hc hn, fun _ => hv⟩)
  have hf : ∀ i : Q8.Idx, σ .csum ((rC j).emb i) = f (i 0).val (128 * j.val + (i 1).val) := fun i =>
    hr.ldC j i (Nat.le_add_right _ _)
  exact congrArg₂ Ideal.div one_eq ((colSpread_apply _ i).trans (sumCol _ (fun a b => f a (128 * j.val + b)) hf (ix1 (i 1))))

/-- Every tile's column maxima, -/
theorem redCs_spec (f : ℕ → ℕ → EReal) (hr : All2 (σ .c) fun a b v => v = f a b) :
    wp (forL (sig := sig) redC T16) (fun _ σ' => Same [.c] σ σ' ∧ All2 (σ' .c) fun _ b v => v = supN 8 fun r => f r b) σ := by
  refine (wp.forL (fun n σ' => Same [.c] σ σ' ∧ All2 (σ' .c) fun a b v => (b < 128 * n → v = supN 8 fun r => f r b) ∧ (128 * n ≤ b → v = f a b))
    T16 (fun k hk σ' hI => ?_) ⟨Same.refl, hr.mono fun a b v _ _ hv => ⟨fun h => by omega, fun _ => hv⟩⟩).mono fun _ σ' h => ?_
  · have e := T16_val k hk
    refine (redC_spec T16[k] f (hI.2.mono fun a b v _ _ hv => by rw [e]; exact hv.2) hI.2).mono fun _ σ'' h => ?_
    rw [e] at h
    refine ⟨hI.1.trans h.1, h.2.mono fun a b v _ _ hv => ⟨fun hb => ?_, fun hb => ?_⟩⟩
    · by_cases hc : 128 * k ≤ b ∧ b < 128 * k + 128
      · exact hv.1 hc
      · exact (hv.2 hc).1 (by omega)
    · exact (hv.2 (by omega)).2 (by omega)
  · refine ⟨h.1, h.2.mono fun a b v _ hb hv => hv.1 hb⟩

/-- and the reciprocals of every tile's column sums. -/
theorem redCsums_spec (f : ℕ → ℕ → EReal) (hr : All2 (σ .csum) fun a b v => v = f a b) :
    wp (forL (sig := sig) redCsum T16) (fun _ σ' => Same [.csum] σ σ' ∧ All2 (σ' .csum) fun _ b v => v = Ideal.div 1 (sumN 8 fun r => f r b)) σ := by
  refine (wp.forL (fun n σ' => Same [.csum] σ σ' ∧ All2 (σ' .csum) fun a b v => (b < 128 * n → v = Ideal.div 1 (sumN 8 fun r => f r b)) ∧ (128 * n ≤ b → v = f a b))
    T16 (fun k hk σ' hI => ?_) ⟨Same.refl, hr.mono fun a b v _ _ hv => ⟨fun h => by omega, fun _ => hv⟩⟩).mono fun _ σ' h => ?_
  · have e := T16_val k hk
    refine (redCsum_spec T16[k] f (hI.2.mono fun a b v _ _ hv => by rw [e]; exact hv.2) hI.2).mono fun _ σ'' h => ?_
    rw [e] at h
    refine ⟨hI.1.trans h.1, h.2.mono fun a b v _ _ hv => ⟨fun hb => ?_, fun hb => ?_⟩⟩
    · by_cases hc : 128 * k ≤ b ∧ b < 128 * k + 128
      · exact hv.1 hc
      · exact (hv.2 hc).1 (by omega)
    · exact (hv.2 (by omega)).2 (by omega)
  · refine ⟨h.1, h.2.mono fun a b v _ hb hv => hv.1 hb⟩

theorem fillC_spec (u : EReal) : wp (fillC (sig := sig) (F := Ideal) u) (fun _ σ' => Same [.c] σ σ' ∧ All2 (σ' .c) fun _ _ v => v = u) σ := by
  refine wp.st ⟨Same.refl.set (by decide) _, ?_⟩
  rw [State.set_same]
  refine box2 (P := fun _ _ v => v = u) _ _ (fun i => ?_) (fun p hp => ?_)
  · rfl
  · have := lt2_0 p; have := lt2_1 p; omega

theorem fillCsum_spec (u : EReal) : wp (fillCsum (sig := sig) (F := Ideal) u) (fun _ σ' => Same [.csum] σ σ' ∧ All2 (σ' .csum) fun _ _ v => v = u) σ := by
  refine wp.st ⟨Same.refl.set (by decide) _, ?_⟩
  rw [State.set_same]
  refine box2 (P := fun _ _ v => v = u) _ _ (fun i => ?_) (fun p hp => ?_)
  · rfl
  · have := lt2_0 p; have := lt2_1 p; omega

/-! ### The products -/

theorem dot_apply {M N : ℕ} (d : DotDims ⟨2, ![M, 256]⟩ ⟨2, ![N, 256]⟩ ⟨2, ![M, N]⟩) (hd : d = DotDims.transposedRhs M 256 N)
    (l : FVec Ideal ⟨2, ![M, 256]⟩ .fp8e4m3) (r : FVec Ideal ⟨2, ![N, 256]⟩ .fp8e4m3) (L R : ℕ → ℕ → EReal)
    (hl : ∀ i, l i = L (i 0).val (i 1).val) (hr : ∀ i, r i = R (i 0).val (i 1).val) (i : (⟨2, ![M, N]⟩ : Shape).Idx) :
    matmul d none l r (constant ⟨2, ![M, N]⟩ .f32 0x00000000#32) i = sumN 256 fun k => L (i 0).val k * R (i 1).val k := by
  subst hd
  have e : i = ValueIdx.ix2 (i 0) (i 1) := by funext a; revert a; exact Fin.forall_fin_two.mpr ⟨rfl, rfl⟩
  rw [e]
  refine (Ideal.matmul_transposedRhs_apply none l r _ (i 0) (i 1)).trans ?_
  have z : constant (F := Ideal) ⟨2, ![M, N]⟩ .f32 0x00000000#32 (ValueIdx.ix2 (i 0) (i 1)) = (0 : EReal) := Ideal.ofBits_zero_f32
  rw [z, zero_add]
  exact fin_sum 256 _ (fun k => L (i 0).val k * R (i 1).val k) fun k => by rw [hl, hr]; rfl

end Cert.Dual
-- ==== Proof.Reds2.lean ====
/- What the products, the scales' layout and the results' rows leave, over the extended reals. -/
module

public import proofs.«01_k».proof.Proof.Reds

@[expose] public section

noncomputable section

namespace Cert.Dual

open Idealize.ShloMosaic Idealize.ShloMosaic.TcCoe

variable {sig : RefSig} {σ : State (Elt Ideal)}

/-- In the box the first, elsewhere the second. -/
abbrev InOut3 {α : Type} (c : ℕ → ℕ → ℕ → Prop) (f : ℕ → ℕ → ℕ → α) (P : ℕ → ℕ → ℕ → α → Prop) (n a b : ℕ) (v : α) : Prop :=
  (c n a b → v = f n a b) ∧ (¬ c n a b → P n a b v)

theorem All3.mono {α : Type} {d : Fin 3 → Nat} {X : (⟨3, d⟩ : Shape).Idx → α} {P P' : ℕ → ℕ → ℕ → α → Prop}
    (h : All3 X P) (hP : ∀ n a b v, n < d 0 → a < d 1 → b < d 2 → P n a b v → P' n a b v) : All3 X P' :=
  fun p => hP _ _ _ _ (p 0).isLt (p 1).isLt (p 2).isLt (h p)

theorem All2.put {α : Type} {d : Fin 2 → Nat} {X : (⟨2, d⟩ : Shape).Idx → α} {P : ℕ → ℕ → α → Prop} (h : All2 X P)
    {o0 o1 n0 n1 : Nat} {h0 h1} {w : (R2 (d := d) o0 o1 n0 n1 h0 h1).shape.Idx → α} (f : ℕ → ℕ → α)
    (hw : ∀ i : (R2 (d := d) o0 o1 n0 n1 h0 h1).shape.Idx, w i = f (o0 + (i 0).val) (o1 + (i 1).val)) :
    All2 ((R2 (d := d) o0 o1 n0 n1 h0 h1).overlay X w)
      (InOut (fun a b => o0 ≤ a ∧ a < o0 + n0 ∧ o1 ≤ b ∧ b < o1 + n1) f P) :=
  box2 X w _ (fun i => ⟨fun _ => hw i, fun hn => absurd ⟨Nat.le_add_right _ _, Nat.add_lt_add_left (i 0).isLt _,
    Nat.le_add_right _ _, Nat.add_lt_add_left (i 1).isLt _⟩ hn⟩) fun p hp => ⟨fun hc => absurd hc hp, fun _ => h p⟩

theorem All3.put {α : Type} {d : Fin 3 → Nat} {X : (⟨3, d⟩ : Shape).Idx → α} {P : ℕ → ℕ → ℕ → α → Prop} (h : All3 X P)
    {o0 o1 o2 n0 n1 n2 : Nat} {h0 h1 h2} {w : (R3 (d := d) o0 o1 o2 n0 n1 n2 h0 h1 h2).shape.Idx → α} (f : ℕ → ℕ → ℕ → α)
    (hw : ∀ i : (R3 (d := d) o0 o1 o2 n0 n1 n2 h0 h1 h2).shape.Idx,
      w i = f (o0 + (i 0).val) (o1 + (i 1).val) (o2 + (i 2).val)) :
    All3 ((R3 (d := d) o0 o1 o2 n0 n1 n2 h0 h1 h2).overlay X w)
      (InOut3 (fun n a b => o0 ≤ n ∧ n < o0 + n0 ∧ o1 ≤ a ∧ a < o1 + n1 ∧ o2 ≤ b ∧ b < o2 + n2) f P) :=
  box3 X w _ (fun i => ⟨fun _ => hw i, fun hn => absurd ⟨Nat.le_add_right _ _, Nat.add_lt_add_left (i 0).isLt _,
    Nat.le_add_right _ _, Nat.add_lt_add_left (i 1).isLt _, Nat.le_add_right _ _, Nat.add_lt_add_left (i 2).isLt _⟩ hn⟩)
    fun p hp => ⟨fun hc => absurd hc hp, fun _ => h p⟩

/-- A row of the left operand by a row of the right. -/
def DD (L R : ℕ → ℕ → EReal) (i j : ℕ) : EReal := sumN 256 fun k => L i k * R j k

theorem T7_val (k : ℕ) (hk : k < T7.length) : T7[k].val = k := by
  have : ∀ k : Fin 7, (T7[k.val]'k.isLt).val = k.val := by decide
  exact this ⟨k, hk⟩

theorem dotStrip_spec (x : Strip) (L R : ℕ → ℕ → EReal) (hL : All3 (σ .f0) fun _ i k v => v = L i k)
    (hR : All3 (σ .f1) fun _ j k v => v = R j k) {P : ℕ → ℕ → EReal → Prop} (h : All2 (σ .d) P) :
    wp (dotStrip (sig := sig) (F := Ideal) x) (fun _ σ' => Same [.d] σ σ' ∧ All2 (σ' .d) fun a b v =>
      (x.1 ≤ a → a < x.1 + 128 → b < 2016 → v = DD L R a b) ∧ (¬ (x.1 ≤ a ∧ a < x.1 + 128) → P a b v)) σ := by
  refine wp.bind (wp.ld ?_)
  have hl := fun (h : (⟨3, ![1, 128, 256]⟩ : Shape).ShapeCasts ⟨2, ![128, 256]⟩) (i : (⟨2, ![128, 256]⟩ : Shape).Idx) =>
    (shapeCast_dropUnit_apply ![128, 256] (fun i => σ .f0 ((R3 (d := ![1, 1920, 256]) 0 x.1 0 1 128 256 (by decide) x.2.1 (by decide)).emb i))
      h i).trans ((hL.ld3 (o0 := 0) (o1 := x.1) (o2 := 0) (n0 := 1) (n1 := 128) (n2 := 256)
      (h0 := by decide) (h1 := x.2.1) (h2 := by decide) (Fin.cons ⟨0, Nat.one_pos⟩ i)).trans (congrArg (L _) (Nat.zero_add _)))
  refine wp.seq (wp.forL (fun n σ' => Same [.d] σ σ' ∧ All2 (σ' .d) fun a b v =>
      (x.1 ≤ a → a < x.1 + 128 → b < 256 * n → v = DD L R a b) ∧ (¬ (x.1 ≤ a ∧ a < x.1 + 128) → P a b v)) T7
    (fun k hk σ' hI => wp.bind (wp.ld (wp.st ⟨hI.1.set (by decide) _, ?_⟩)))
    ⟨Same.refl, h.mono fun a b v _ _ hv => ⟨fun _ _ hb => by omega, fun _ => hv⟩⟩)
    fun _ σ' hI => wp.bind (wp.ld (wp.st ⟨hI.1.set (by decide) _, ?_⟩))
  · have e := T7_val k hk
    rw [State.set_same, hI.1 .f1 (by decide), shapeCast_self]
    refine (hI.2.put (DD L R) (fun i => ?_)).mono fun a b v _ _ hv => ⟨fun h0 h1 h2 => ?_, fun hn => ?_⟩
    · refine (dot_apply (M := 128) (N := 256) _ rfl _ _ (fun a k => L (x.1 + a) k) (fun c k' => R (256 * T7[k].val + c) k') (hl _) (fun i => ?_) i).trans rfl
      exact (shapeCast_dropUnit_apply ![256, 256] _ _ i).trans ((hR.ld3 (o0 := 0) (o1 := 256 * T7[k].val) (o2 := 0) (n0 := 1) (n1 := 256)
        (n2 := 256) (h0 := by decide) (h1 := show _ ≤ 2016 by omega) (h2 := by decide) (Fin.cons ⟨0, Nat.one_pos⟩ i)).trans
        (congrArg (R _) (Nat.zero_add _)))
    · by_cases hc : 256 * T7[k].val ≤ b ∧ b < 256 * T7[k].val + 256
      · exact hv.1 ⟨h0, h1, hc⟩
      · exact (hv.2 fun h => hc h.2.2).1 h0 h1 (by omega)
    · exact (hv.2 fun h => hn ⟨h.1, h.2.1⟩).2 hn
  · rw [State.set_same, hI.1 .f1 (by decide), shapeCast_self]
    refine (hI.2.put (DD L R) (fun i => ?_)).mono fun a b v _ _ hv => ⟨fun h0 h1 h2 => ?_, fun hn => ?_⟩
    · refine (dot_apply (M := 128) (N := 224) _ rfl _ _ (fun a k => L (x.1 + a) k) (fun c k' => R (1792 + c) k') (hl _) (fun i => ?_) i).trans rfl
      exact (shapeCast_dropUnit_apply ![224, 256] _ _ i).trans ((hR.ld3 (o0 := 0) (o1 := 1792) (o2 := 0) (n0 := 1) (n1 := 224)
        (n2 := 256) (h0 := by decide) (h1 := by decide) (h2 := by decide) (Fin.cons ⟨0, Nat.one_pos⟩ i)).trans
        (congrArg (R _) (Nat.zero_add _)))
    · by_cases hc : 1792 ≤ b
      · exact hv.1 ⟨h0, h1, hc, h2⟩
      · exact (hv.2 fun h => hc h.2.2.1).1 h0 h1 (show b < 256 * 7 by omega)
    · exact (hv.2 fun h => hn ⟨h.1, h.2.1⟩).2 hn

theorem scaleStrip_spec (bat : Bat) (x : Strip) (A : ℕ → EReal) (hA : All3 (σ .arow) fun n _ i v => n = bat.1 → v = A i)
    {P : ℕ → ℕ → EReal → Prop} (h : All2 (σ .a) P) :
    wp (scaleStrip (sig := sig) (F := Ideal) bat x) (fun _ σ' => Same [.a] σ σ' ∧ All2 (σ' .a)
      (InOut (fun a _ => x.1 ≤ a ∧ a < x.1 + 128) (fun a _ => A a) P)) σ := by
  refine wp.bind (wp.ld (wp.st ⟨Same.refl.set (by decide) _, ?_⟩))
  rw [State.set_same, c128_eq]
  refine (h.put (fun a _ => A a) fun i => ?_).mono fun a b v _ hb hv => ⟨fun hc => hv.1 ⟨hc.1, hc.2, Nat.zero_le _, by have : b < 128 := hb; omega⟩,
    fun hn => hv.2 fun h => hn ⟨h.1, h.2.1⟩⟩
  refine (transpose_apply (s := Q128) (t := Q128) [1, 0] _ _ i (ix2 (i 1) (i 0)) (Fin.forall_fin_two.mpr ⟨rfl, rfl⟩)).trans ?_
  refine (broadcastTo_apply (s := Q1) _ _ _ (ix2 (0 : Fin 1) (i 0)) (Fin.forall_fin_two.mpr ⟨rfl, rfl⟩)).trans ?_
  rw [shapeCast_self]
  refine (shapeCast_dropUnit_apply ![1, 128] _ _ _).trans ?_
  exact hA.ld3 (o0 := bat.1) (o1 := 0) (o2 := x.1) (n0 := 1) (n1 := 1) (n2 := 128) (h0 := bat.2) (h1 := by decide) (h2 := x.2.1)
    (Fin.cons ⟨0, Nat.one_pos⟩ (ix2 (0 : Fin 1) (i 0))) rfl

theorem rowOut_spec (bat : Bat) (x : Strip) (f : ℕ → ℕ → EReal)
    (hr : All2 (σ .rraw) fun a b v => x.1 ≤ a → a < x.1 + 128 → v = f a b) {P : ℕ → ℕ → ℕ → EReal → Prop}
    (h : All3 (σ .rout) P) :
    wp (rowOut (sig := sig) bat x) (fun _ σ' => Same [.rout] σ σ' ∧ All3 (σ' .rout)
      (InOut3 (fun n _ b => n = bat.1 ∧ x.1 ≤ b ∧ b < x.1 + 128) (fun _ _ b => supN 128 (f b)) P)) σ := by
  refine wp.bind (wp.ld (wp.st ⟨Same.refl.set (by decide) _, ?_⟩))
  rw [State.set_same]
  refine (h.put (fun _ _ b => supN 128 (f b)) fun i => ?_).mono fun n a b v _ ha _ hv => ?_
  · refine (shapeCast_addUnit_apply ![1, 128] _ _ i).trans ?_
    refine (shapeCast_addUnit_apply ![128] _ _ _).trans ?_
    have hf0 := fun i => hr.ld2 (o0 := x.1) (o1 := 0) (n0 := 128) (n1 := 128) (h0 := x.2.1) (h1 := by decide) i
    refine maxCol (m := 128) _ _ (fun l r => f (x.1 + r) l) (fun k => ?_) _
    refine (transpose_apply (s := Q128) (t := Q128) [1, 0] _ _ k (ix2 (k 1) (k 0)) (Fin.forall_fin_two.mpr ⟨rfl, rfl⟩)).trans ?_
    have h1 := lt2_1 k
    refine (hf0 (ix2 (k 1) (k 0)) (Nat.le_add_right _ _) (Nat.add_lt_add_left h1 _)).trans (congrArg (f _) (Nat.zero_add _))
  · have : a < 1 := ha
    refine ⟨fun hc => hv.1 ⟨by omega, by omega, by omega, by omega, hc.2⟩, fun hn => hv.2 fun hc => hn ⟨by omega, hc.2.2.2.2⟩⟩

theorem colOut_spec (bat : Bat) (j : Fin 16) (f : ℕ → ℕ → EReal)
    (hr : All2 (σ .c) fun a b v => v = f a b) {P : ℕ → ℕ → ℕ → EReal → Prop}
    (h : All3 (σ .cout) P) :
    wp (colOut (sig := sig) bat j) (fun _ σ' => Same [.cout] σ σ' ∧ All3 (σ' .cout)
      (InOut3 (fun n _ b => n = bat.1 ∧ 128 * j.val ≤ b ∧ b < 128 * j.val + 128) (fun _ _ b => supN 8 fun r => f r b) P)) σ := by
  refine wp.bind (wp.ld (wp.st ⟨Same.refl.set (by decide) _, ?_⟩))
  rw [State.set_same]
  refine (h.put (fun _ _ b => supN 8 fun r => f r b) fun i => ?_).mono fun n a b v _ ha _ hv => ?_
  · refine (shapeCast_addUnit_apply ![1, 128] _ _ i).trans ?_
    refine (shapeCast_addUnit_apply ![128] _ _ _).trans ?_
    exact maxCol (m := 8) _ _ (fun a b => f a (128 * j.val + b)) (fun k => hr.ldC j k) _
  · have : a < 1 := ha
    refine ⟨fun hc => hv.1 ⟨by omega, by omega, by omega, by omega, hc.2⟩, fun hn => hv.2 fun hc => hn ⟨by omega, hc.2.2.2.2⟩⟩

/-- Every tile's column maxima put in their row of the results. -/
theorem colOuts_spec (bat : Bat) (f : ℕ → ℕ → EReal)
    (hr : All2 (σ .c) fun a b v => v = f a b) {P : ℕ → ℕ → ℕ → EReal → Prop} (h : All3 (σ .cout) P) :
    wp (forL (sig := sig) (colOut bat) T16) (fun _ σ' => Same [.cout] σ σ' ∧ All3 (σ' .cout)
      (InOut3 (fun n _ _ => n = bat.1) (fun _ _ b => supN 8 fun r => f r b) P)) σ := by
  refine (wp.forL (fun k σ' => Same [.cout] σ σ' ∧ All3 (σ' .cout)
      (InOut3 (fun n _ b => n = bat.1 ∧ b < 128 * k) (fun _ _ b => supN 8 fun r => f r b) P)) T16 (fun k hk σ' hI => ?_)
      ⟨Same.refl, h.mono fun n a b v _ _ _ hv => ⟨fun h => by omega, fun _ => hv⟩⟩).mono fun _ σ' h => ?_
  · have e := T16_val k hk
    refine (colOut_spec bat T16[k] f (by rw [hI.1 .c (by decide)]; exact hr) hI.2).mono fun _ σ'' h => ?_
    rw [e] at h
    refine ⟨hI.1.trans h.1, h.2.mono fun n a b v _ _ _ hv => ⟨fun hc => ?_, fun hn => ?_⟩⟩
    · by_cases hb : 128 * k ≤ b
      · exact hv.1 ⟨hc.1, hb, by omega⟩
      · exact (hv.2 fun h => hb h.2.1).1 ⟨hc.1, by omega⟩
    · exact (hv.2 fun h => hn ⟨h.1, by omega⟩).2 fun h => hn ⟨h.1, by omega⟩
  · exact ⟨h.1, h.2.mono fun n a b v _ _ hb hv => ⟨fun hc => hv.1 ⟨hc, hb⟩, fun hn => hv.2 fun h => hn h.1⟩⟩

end Cert.Dual
-- ==== Proof.Reds3.lean ====
/- The first point's layout of the scales and its products, and the last point's writing of the maxima. -/
module

public import proofs.«01_k».proof.Proof.Reds2

@[expose] public section

noncomputable section

namespace Cert.Dual

open Idealize.ShloMosaic Idealize.ShloMosaic.TcCoe

variable {sig : RefSig} {σ : State (Elt Ideal)}

theorem T12_val (k : ℕ) (hk : k < T12.length) : T12[k].val = k := by
  have : ∀ k : Fin 12, (T12[k.val]'k.isLt).val = k.val := by decide
  exact this ⟨k, hk⟩

theorem T15_val (k : ℕ) (hk : k < T15.length) : T15[k].val = k := by
  have : ∀ k : Fin 15, (T15[k.val]'k.isLt).val = k.val := by decide
  exact this ⟨k, hk⟩

theorem initRow_spec (esc : EReal) (n : Fin 12) (S : ℕ → ℕ → EReal) (hS : All2 (σ .f0s) fun a b v => v = S a b)
    {P : ℕ → ℕ → ℕ → EReal → Prop} (h : All3 (σ .arow) P) :
    wp (initRow (sig := sig) (F := Ideal) esc n) (fun _ σ' => Same [.arow] σ σ' ∧ All3 (σ' .arow)
      (InOut3 (fun m _ _ => m = n.val) (fun m _ b => S m b * esc) P)) σ := by
  refine wp.bind (wp.ld (wp.st ⟨Same.refl.set (by decide) _, ?_⟩))
  rw [State.set_same]
  refine (h.put (fun m _ b => S m b * esc) fun i => ?_).mono fun m a b v _ ha hb hv => ?_
  · refine (shapeCast_addUnit_apply ![1, 1920] _ _ i).trans ?_
    have h0 := lt3_0 i
    have e := hS.ld2 (o0 := n.val) (o1 := 0) (n0 := 1) (n1 := 1920) (h0 := show _ ≤ 12 by omega) (h1 := by decide) (fun a => i a.succ)
    have h1 := lt3_1 i
    have e1 : n.val + (i 1).val = n.val + (i 0).val := by omega
    exact congrArg (· * esc) (e.trans (congrArg (fun m => S m _) e1))
  · have : a < 1 := ha
    have : b < 1920 := hb
    exact ⟨fun hc => hv.1 ⟨by omega, by omega, by omega, by omega, by omega, by omega⟩, fun hn => hv.2 fun hc => hn (by omega)⟩

theorem initCol_spec (n : Fin 12) (j : Fin 15) (S : ℕ → ℕ → EReal) (hS : All2 (σ .f1s) fun a b v => v = S a b)
    {P : ℕ → ℕ → ℕ → EReal → Prop} (h : All3 (σ .b) P) :
    wp (initCol (sig := sig) (F := Ideal) n j) (fun _ σ' => Same [.b] σ σ' ∧ All3 (σ' .b)
      (InOut3 (fun m _ b => m = n.val ∧ 128 * j.val ≤ b ∧ b < 128 * j.val + 128) (fun m _ b => S m b) P)) σ := by
  refine wp.bind (wp.ld (wp.st ⟨Same.refl.set (by decide) _, ?_⟩))
  rw [State.set_same]
  refine (h.put (fun m _ b => S m b) fun i => ?_).mono fun m a b v _ ha hb hv => ?_
  · refine (shapeCast_addUnit_apply ![8, 128] _ _ i).trans ?_
    have h0 := lt3_0 i
    refine (broadcastTo_apply (s := Q1) _ _ _ (ix2 (0 : Fin 1) (i 2)) (Fin.forall_fin_two.mpr ⟨rfl, rfl⟩)).trans ?_
    rw [shapeCast_self]
    have e := hS.ld2 (o0 := n.val) (o1 := 128 * j.val) (n0 := 1) (n1 := 128) (h0 := show _ ≤ 12 by omega) (h1 := show _ ≤ 2016 by omega)
      (ix2 (0 : Fin 1) (i 2))
    have e1 : n.val + 0 = n.val + (i 0).val := by omega
    exact e.trans (congrArg (fun m => S m _) e1)
  · have : a < 8 := ha
    exact ⟨fun hc => hv.1 ⟨by omega, by omega, by omega, by omega, hc.2⟩, fun hn => hv.2 fun hc => hn ⟨by omega, hc.2.2.2.2⟩⟩

theorem initColL_spec (n : Fin 12) (S : ℕ → ℕ → EReal) (hS : All2 (σ .f1s) fun a b v => v = S a b)
    {P : ℕ → ℕ → ℕ → EReal → Prop} (h : All3 (σ .b) P) :
    wp (initColL (sig := sig) (F := Ideal) n) (fun _ σ' => Same [.b] σ σ' ∧ All3 (σ' .b)
      (InOut3 (fun m _ b => m = n.val ∧ 1920 ≤ b ∧ b < 2016) (fun m _ b => S m b) P)) σ := by
  refine wp.bind (wp.ld (wp.st ⟨Same.refl.set (by decide) _, ?_⟩))
  rw [State.set_same]
  refine (h.put (fun m _ b => S m b) fun i => ?_).mono fun m a b v _ ha hb hv => ?_
  · refine (shapeCast_addUnit_apply ![8, 96] _ _ i).trans ?_
    have h0 := lt3_0 i
    refine (broadcastTo_apply (s := ⟨2, ![1, 96]⟩) _ _ _ (ix2 (0 : Fin 1) (i 2)) (Fin.forall_fin_two.mpr ⟨rfl, rfl⟩)).trans ?_
    rw [shapeCast_self]
    have e := hS.ld2 (o0 := n.val) (o1 := 1920) (n0 := 1) (n1 := 96) (h0 := show _ ≤ 12 by omega) (h1 := by decide)
      (ix2 (0 : Fin 1) (i 2))
    have e1 : n.val + 0 = n.val + (i 0).val := by omega
    exact e.trans (congrArg (fun m => S m _) e1)
  · have : a < 8 := ha
    exact ⟨fun hc => hv.1 ⟨by omega, by omega, by omega, by omega, by omega, by omega⟩,
      fun hn => hv.2 fun hc => hn ⟨by omega, by omega⟩⟩

/-- The scales laid out: every batch's row scales times the exponent's scale, and its column scales. -/
theorem inits_spec (esc : EReal) (S0 S1 : ℕ → ℕ → EReal) (h0 : All2 (σ .f0s) fun a b v => v = S0 a b)
    (h1 : All2 (σ .f1s) fun a b v => v = S1 a b) :
    wp (forL (sig := sig) (Val := Elt Ideal) (fun n => do initRow esc n; forL (initCol n) T15; initColL n) T12) (fun _ σ' =>
      Same [.arow, .b] σ σ' ∧ All3 (σ' .arow) (fun m _ b v => v = S0 m b * esc)
        ∧ All3 (σ' .b) fun m _ b v => b < 2016 → v = S1 m b) σ := by
  refine (wp.forL (fun k σ' => Same [.arow, .b] σ σ' ∧ All3 (σ' .arow) (fun m _ b v => m < k → v = S0 m b * esc)
        ∧ All3 (σ' .b) fun m _ b v => m < k → b < 2016 → v = S1 m b) T12 (fun k hk σ₁ hI => ?_)
      ⟨Same.refl, fun _ h => absurd h (Nat.not_lt_zero _), fun _ h => absurd h (Nat.not_lt_zero _)⟩).mono fun _ σ' h =>
      ⟨h.1, h.2.1.mono fun m _ _ _ hm _ _ hv => hv hm, h.2.2.mono fun m _ _ _ hm _ _ hv => hv hm⟩
  have e := T12_val k hk
  refine wp.seq (initRow_spec esc T12[k] S0 (by rw [hI.1 .f0s (by decide)]; exact h0) hI.2.1) fun _ σ₂ h2 => ?_
  refine wp.seq (wp.forL (fun j σ' => Same [.b] σ₂ σ' ∧ All3 (σ' .b)
      (InOut3 (fun m _ b => m = k ∧ b < 128 * j) (fun m _ b => S1 m b) (fun m _ b v => m < k → b < 2016 → v = S1 m b)))
      T15 (fun j hj σ₃ hJ => ?_) ⟨Same.refl, ?_⟩) fun _ σ₃ h3 => ?_
  · have e' := T15_val j hj
    refine (initCol_spec T12[k] T15[j] S1 (by rw [hJ.1 .f1s (by decide), h2.1 .f1s (by decide), hI.1 .f1s (by decide)]; exact h1) hJ.2).mono
      fun _ σ₄ h4 => ⟨hJ.1.trans h4.1, h4.2.mono fun m a b v _ _ _ hv => ?_⟩
    rw [e, e'] at hv
    by_cases hc : m = k ∧ 128 * j ≤ b ∧ b < 128 * j + 128
    · exact ⟨fun _ => hv.1 hc, fun hn => absurd ⟨hc.1, by omega⟩ hn⟩
    · have := hv.2 hc
      exact ⟨fun h => this.1 ⟨h.1, by omega⟩, fun hn => this.2 fun h => hn ⟨h.1, by omega⟩⟩
  · rw [h2.1 .b (by decide)]
    exact hI.2.2.mono fun m a b v _ _ _ hv => ⟨fun h => absurd h.2 (Nat.not_lt_zero _), fun _ => hv⟩
  · refine (initColL_spec T12[k] S1 (by rw [h3.1 .f1s (by decide), h2.1 .f1s (by decide), hI.1 .f1s (by decide)]; exact h1) h3.2).mono
      fun _ σ₄ h4 => ⟨((hI.1.trans (h2.1.mono (by decide))).trans (h3.1.mono (by decide))).trans (h4.1.mono (by decide)), ?_, ?_⟩
    · rw [h4.1 .arow (by decide), h3.1 .arow (by decide)]
      refine h2.2.mono fun m a b v _ _ _ hv hm => ?_
      rw [e] at hv
      by_cases hc : m = k
      · exact hv.1 hc
      · exact hv.2 hc (by omega)
    · refine h4.2.mono fun m a b v _ _ _ hv hm hb => ?_
      rw [e] at hv
      by_cases hc : m = k ∧ 1920 ≤ b ∧ b < 2016
      · exact hv.1 hc
      · have := hv.2 hc
        by_cases hc' : m = k ∧ b < 128 * 15
        · exact this.1 hc'
        · exact this.2 hc' (by omega) hb

theorem strip_val (t : Fin lp15.trips) : (strip t).1 = 128 * t.val := stripBV_toNat t
theorem nextStrip_val (t : Fin lp15.trips) : (nextStrip t).1 = 128 * min (t.val + 1) 14 := nextBV_toNat t
theorem trip_lt (t : Fin lp15.trips) : t.val < 15 := by have := t.isLt; simp only [trips15] at this; exact this

/-- After the first point: the scales laid out, the first batch's products and row scales in place. -/
theorem first_spec (esc : EReal) (S0 S1 L R : ℕ → ℕ → EReal) (h0 : All2 (σ .f0s) fun a b v => v = S0 a b)
    (h1 : All2 (σ .f1s) fun a b v => v = S1 a b) (hL : All3 (σ .f0) fun _ i k v => v = L i k)
    (hR : All3 (σ .f1) fun _ j k v => v = R j k) :
    wp (first (sig := sig) (F := Ideal) esc) (fun _ σ' =>
      All3 (σ' .arow) (fun m _ b v => v = S0 m b * esc) ∧ All3 (σ' .b) (fun m _ b v => b < 2016 → v = S1 m b)
        ∧ All2 (σ' .d) (fun a b v => b < 2016 → v = DD L R a b) ∧ All2 (σ' .a) fun a _ v => v = S0 0 a * esc) σ := by
  refine wp.seq (inits_spec esc S0 S1 h0 h1) fun _ σ₁ hi => ?_
  refine (wp.loop15 (fun t σ' => Same [.d, .a] σ₁ σ' ∧ All2 (σ' .d) (fun a b v => a < 128 * t → b < 2016 → v = DD L R a b)
      ∧ All2 (σ' .a) fun a _ v => a < 128 * t → v = S0 0 a * esc) (fun t σ₂ hI => ?_)
      ⟨Same.refl, fun _ h => absurd h (Nat.not_lt_zero _), fun _ h => absurd h (Nat.not_lt_zero _)⟩).mono fun _ σ' h =>
      ⟨by rw [h.1 .arow (by decide)]; exact hi.2.1, by rw [h.1 .b (by decide)]; exact hi.2.2,
        h.2.1.mono fun a b v ha _ hv => hv ha, h.2.2.mono fun a b v ha _ hv => hv ha⟩
  have e := strip_val t
  refine wp.seq (dotStrip_spec (strip t) L R (by rw [hI.1 .f0 (by decide), hi.1 .f0 (by decide)]; exact hL)
    (by rw [hI.1 .f1 (by decide), hi.1 .f1 (by decide)]; exact hR) hI.2.1) fun _ σ₃ h3 => ?_
  refine (scaleStrip_spec bat0 (strip t) (fun i => S0 0 i * esc) (by
    rw [h3.1 .arow (by decide), hI.1 .arow (by decide)]; exact hi.2.1.mono fun m _ b v _ _ _ hv hm => by rw [hv, hm]; rfl)
    (by rw [h3.1 .a (by decide)]; exact hI.2.2)).mono fun _ σ₄ h4 =>
      ⟨(hI.1.trans (h3.1.mono (by decide))).trans (h4.1.mono (by decide)), ?_, ?_⟩
  · rw [h4.1 .d (by decide)]
    refine h3.2.mono fun a b v _ _ hv ha hb => ?_
    rw [e] at hv
    by_cases hc : 128 * t.val ≤ a ∧ a < 128 * t.val + 128
    · exact hv.1 hc.1 hc.2 hb
    · exact hv.2 hc (by omega) hb
  · refine h4.2.mono fun a b v _ _ hv ha => ?_
    rw [e] at hv
    by_cases hc : 128 * t.val ≤ a ∧ a < 128 * t.val + 128
    · exact hv.1 hc
    · exact hv.2 hc (by omega)

theorem outRow_spec (n : Fin 12) (f g : ℕ → ℕ → EReal) (hr : All3 (σ .rout) fun m _ b v => v = f m b)
    (hc : All3 (σ .cout) fun m _ b v => b < 2016 → v = g m b) {P Q : ℕ → ℕ → EReal → Prop} (h : All2 (σ .rmax) P)
    (h' : All2 (σ .cmax) Q) :
    wp (outRow (sig := sig) (F := Ideal) n) (fun _ σ' => Same [.rmax, .cmax] σ σ'
      ∧ All2 (σ' .rmax) (InOut (fun a _ => a = n.val) f P) ∧ All2 (σ' .cmax) (InOut (fun a _ => a = n.val) g Q)) σ := by
  refine wp.bind (wp.ld (wp.seq (P := fun _ σ' => Same [.rmax] σ σ' ∧ All2 (σ' .rmax) (InOut (fun a _ => a = n.val) f P))
    (wp.st ⟨Same.refl.set (by decide) _, ?_⟩) fun _ σ₁ h1 => ?_))
  · rw [State.set_same]
    refine (h.put f fun i => ?_).mono fun a b v _ hb hv => ?_
    · refine (shapeCast_dropUnit_apply ![1, 1920] _ _ i).trans ?_
      have e := hr.ld3 (o0 := n.val) (o1 := 0) (o2 := 0) (n0 := 1) (n1 := 1) (n2 := 1920) (h0 := show _ ≤ 12 by omega) (h1 := by decide)
        (h2 := by decide) (Fin.cons ⟨0, Nat.one_pos⟩ i)
      have h0 := lt2_0 i
      have e1 : n.val + 0 = n.val + (i 0).val := by omega
      exact e.trans (congrArg (fun m => f m _) e1)
    · have : b < 1920 := hb
      exact ⟨fun hc => hv.1 ⟨by omega, by omega, by omega, by omega⟩, fun hn => hv.2 fun hc => hn (by omega)⟩
  · have hc1 : All3 (σ₁ .cout) fun m _ b v => b < 2016 → v = g m b := by rw [h1.1 .cout (by decide)]; exact hc
    have h1' : All2 (σ₁ .cmax) Q := by rw [h1.1 .cmax (by decide)]; exact h'
    refine wp.bind (wp.ld (wp.st ⟨(h1.1.mono (by decide)).set (by decide) _, ?_, ?_⟩))
    · rw [State.set_ne _ _ (by decide)]; exact h1.2
    rw [State.set_same]
    refine (h1'.put g fun i => ?_).mono fun a b v _ hb hv => ?_
    · refine (shapeCast_dropUnit_apply ![1, 2016] _ _ i).trans ?_
      have e := hc1.ld3 (o0 := n.val) (o1 := 0) (o2 := 0) (n0 := 1) (n1 := 1) (n2 := 2016) (h0 := show _ ≤ 12 by omega) (h1 := by decide)
        (h2 := by decide) (Fin.cons ⟨0, Nat.one_pos⟩ i)
      have h0 := lt2_0 i
      have h1 := lt2_1 i
      have e1 : n.val + 0 = n.val + (i 0).val := by omega
      exact (e (show 0 + (i 1).val < 2016 by omega)).trans (congrArg (fun m => g m _) e1)
    · have : b < 2016 := hb
      exact ⟨fun hc => hv.1 ⟨by omega, by omega, by omega, by omega⟩, fun hn => hv.2 fun hc => hn (by omega)⟩

/-- The last point's end: the maxima written out. -/
theorem last_spec (f g : ℕ → ℕ → EReal) (hr : All3 (σ .rout) fun m _ b v => v = f m b)
    (hc : All3 (σ .cout) fun m _ b v => b < 2016 → v = g m b) :
    wp (last (sig := sig) (F := Ideal)) (fun _ σ' => Same [.rmax, .cmax] σ σ'
      ∧ All2 (σ' .rmax) (fun a b v => v = f a b) ∧ All2 (σ' .cmax) fun a b v => v = g a b) σ := by
  refine (wp.forL (fun k σ' => Same [.rmax, .cmax] σ σ'
      ∧ All2 (σ' .rmax) (fun a b v => a < k → v = f a b) ∧ All2 (σ' .cmax) fun a b v => a < k → v = g a b) T12 (fun k hk σ₁ hI => ?_)
      ⟨Same.refl, fun _ h => absurd h (Nat.not_lt_zero _), fun _ h => absurd h (Nat.not_lt_zero _)⟩).mono fun _ σ' h =>
      ⟨h.1, h.2.1.mono fun a b v ha _ hv => hv ha, h.2.2.mono fun a b v ha _ hv => hv ha⟩
  have e := T12_val k hk
  refine (outRow_spec T12[k] f g (by rw [hI.1 .rout (by decide)]; exact hr) (by rw [hI.1 .cout (by decide)]; exact hc) hI.2.1 hI.2.2).mono
    fun _ σ₂ h2 => ⟨hI.1.trans h2.1, h2.2.1.mono fun a b v _ _ hv ha => ?_, h2.2.2.mono fun a b v _ _ hv ha => ?_⟩
  all_goals
    rw [e] at hv
    by_cases hc : a = k
    · exact hv.1 hc
    · exact hv.2 hc (by omega)

end Cert.Dual
-- ==== Proof.Later.lean ====
/- A later point: what it makes of a batch's products, its scales and the maxima so far. -/
module

public import proofs.«01_k».proof.Proof.Reds3

@[expose] public section

noncomputable section

namespace Cert.Dual

open Idealize.ShloMosaic Idealize.ShloMosaic.TcCoe

/-! ### A batch's values, by its scores -/

section Values

variable (mask : EReal) (T : ℕ → ℕ → EReal)

/-- A row's maximum, -/
def rowTop (i : ℕ) : EReal := supN 128 (RM (F := Ideal) T 15 i)
/-- a column's, -/
def colTop (j : ℕ) : EReal := supN 8 fun r => CM (F := Ideal) mask T 240 r j
/-- the product of the two exponentials, -/
def expo (i j : ℕ) : EReal := ER (F := Ideal) T (rowTop T) i j * EC (F := Ideal) T (colTop mask T) i j
/-- the reciprocal of a row's sum, -/
def rowInv (i : ℕ) : EReal := Ideal.div 1 (sumN 128 (RA (F := Ideal) (ER (F := Ideal) T (rowTop T)) 15 i))
/-- and of a column's, -/
def colInv (j : ℕ) : EReal := Ideal.div 1 (sumN 8 fun r => CA (F := Ideal) (EC (F := Ideal) T (colTop mask T)) 240 r j)
/-- the confidence, -/
def confid (i j : ℕ) : EReal := WW (F := Ideal) (expo mask T) (rowInv T) (colInv mask T) i j
/-- its row maxima, -/
def rowConf (i : ℕ) : EReal :=
  supN 128 fun l => RM (F := Ideal) (VV (F := Ideal) (expo mask T) (colInv mask T)) 15 i l * rowInv T i
/-- and its column maxima. -/
def colConf (j : ℕ) : EReal := supN 8 fun r => CM (F := Ideal) (zero (F := Ideal)) (confid mask T) 240 r j

end Values

section Passes

variable {sig : RefSig} {σ : State (Elt Ideal)}
variable (mask : EReal) (T : ℕ → ℕ → EReal) (L R : ℕ → ℕ → EReal) (A : ℕ → EReal) (σ₀ : State (Elt Ideal))

/-- After `t` strips of the exponentials' pass. -/
structure J2 (t : ℕ) (σ : State (Elt Ideal)) : Prop where
  same : Same [.tp, .csum, .rsum, .d, .a, .rred] σ₀ σ
  tp : All2 (σ .tp) fun a b v => (a < 128 * t → v = expo mask T a b) ∧ (128 * t ≤ a → v = T a b)
  csum : All2 (σ .csum) fun a b v => v = CA (F := Ideal) (EC (F := Ideal) T (colTop mask T)) (16 * t) a b
  rsum : All2 (σ .rsum) fun a b v => a < 128 * t → v = RA (F := Ideal) (ER (F := Ideal) T (rowTop T)) 15 a b
  d : All2 (σ .d) fun a b v => a < 128 * t → b < 2016 → v = DD L R a b
  a : All2 (σ .a) fun a _ v => a < 128 * t → v = A a
  rred : All2 (σ .rred) fun a _ v => a < 128 * min (t + 1) 15 → v = rowTop T a

variable {mask T L R A σ₀}

theorem pass2_spec (nbat : Bat) (hL : All3 (σ₀ .f0) fun _ i k v => v = L i k) (hR : All3 (σ₀ .f1) fun _ j k v => v = R j k)
    (hA : All3 (σ₀ .arow) fun n _ i v => n = nbat.1 → v = A i) (hc : All2 (σ₀ .c) fun _ b v => v = colTop mask T b)
    (hrr : All2 (σ₀ .rraw) fun a b v => v = RM (F := Ideal) T 15 a b) (t : Fin lp15.trips)
    (hσ : J2 mask T L R A σ₀ t.val σ) :
    wp (pass2 (sig := sig) nbat (strip t) (nextStrip t)) (fun _ => J2 mask T L R A σ₀ (t.val + 1)) σ := by
  have e := strip_val t
  have e' := nextStrip_val t
  have ht := trip_lt t
  refine wp.seq (dotStrip_spec (strip t) L R (by rw [hσ.same .f0 (by decide)]; exact hL)
    (by rw [hσ.same .f1 (by decide)]; exact hR) hσ.d) fun _ σ₁ h1 => ?_
  refine wp.seq (scaleStrip_spec nbat (strip t) A (by rw [h1.1 .arow (by decide), hσ.same .arow (by decide)]; exact hA)
    (by rw [h1.1 .a (by decide)]; exact hσ.a)) fun _ σ₂ h2 => ?_
  have s2 : Same [.d, .a] σ σ₂ := (h1.1.mono (by decide)).trans (h2.1.mono (by decide))
  have hc2 : All2 (σ₂ .c) fun _ b v => v = colTop mask T b := by
    rw [s2 .c (by decide), hσ.same .c (by decide)]; exact hc
  have p0 : P2 (F := Ideal) T (rowTop T) (colTop mask T) σ₂ (16 * t.val) σ₂ := by
    refine ⟨Same.refl, ?_, ?_, ?_⟩
    · rw [s2 .tp (by decide)]
      exact hσ.tp.mono fun a b v _ _ hv => ⟨fun h => hv.1 (by omega), fun h => hv.2 (by omega)⟩
    · rw [s2 .csum (by decide)]; exact hσ.csum
    · rw [s2 .rsum (by decide)]; exact hσ.rsum.mono fun a b v _ _ hv h => hv (by omega)
  have r2 : All2 (σ₂ .rred) fun a _ v => a < 128 * min (t.val + 1) 15 → v = rowTop T a := by
    rw [s2 .rred (by decide)]; exact hσ.rred
  refine wp.seq (half2_spec (s := 0) ⟨r2.mono fun a _ v _ _ hv _ _ => hv (by omega), hc2⟩ (by show _ + 64 * 0 = _; omega) p0)
    fun _ σ₃ h3 => ?_
  refine wp.seq (half2_spec (s := 1) ⟨r2.mono fun a _ v _ _ hv _ _ => hv (by omega), hc2⟩ (by show _ + 64 * 1 = _; omega) h3)
    fun _ σ₄ h4 => ?_
  refine (redRmax_spec (nextStrip t) (RM (F := Ideal) T 15) (by
      rw [h4.same .rraw (by decide), s2 .rraw (by decide), hσ.same .rraw (by decide)]
      exact hrr.mono fun a b v _ _ hv _ _ => hv) (P := fun a _ v => a < 128 * min (t.val + 1) 15 → v = rowTop T a)
      (P' := fun a _ v => a < 128 * min (t.val + 1 + 1) 15 → v = rowTop T a)
      (by rw [h4.same .rred (by decide)]; exact r2) (fun a b _ _ _ => rfl) (fun a b v hn hv h => hv (by omega))).mono fun _ σ₅ h5 => ?_
  have s5 : Same [.tp, .csum, .rsum, .d, .a, .rred] σ₀ σ₅ :=
    ((hσ.same.trans (s2.mono (by decide))).trans (h4.same.mono (by decide))).trans (h5.1.mono (by decide))
  refine ⟨s5, ?_, ?_, ?_, ?_, ?_, h5.2⟩
  · rw [h5.1 .tp (by decide)]
    exact h4.tp.mono fun a b v _ _ hv => ⟨fun h => hv.1 (by omega), fun h => hv.2 (by omega)⟩
  · rw [h5.1 .csum (by decide)]
    exact h4.csum.mono fun a b v _ _ hv => hv.trans (by rw [show 16 * t.val + 8 + 8 = 16 * (t.val + 1) by omega])
  · rw [h5.1 .rsum (by decide)]; exact h4.rsum.mono fun a b v _ _ hv h => hv (by omega)
  · rw [h5.1 .d (by decide), h4.same .d (by decide), h2.1 .d (by decide)]
    refine h1.2.mono fun a b v _ _ hv ha hb => ?_
    rw [e] at hv
    by_cases hc : 128 * t.val ≤ a ∧ a < 128 * t.val + 128
    · exact hv.1 hc.1 hc.2 hb
    · exact hv.2 hc (by omega) hb
  · rw [h5.1 .a (by decide), h4.same .a (by decide)]
    refine h2.2.mono fun a b v _ _ hv ha => ?_
    rw [e] at hv
    by_cases hc : 128 * t.val ≤ a ∧ a < 128 * t.val + 128
    · exact hv.1 hc
    · exact hv.2 hc (by omega)

variable (mask T σ₀) in
/-- After `t` strips of the results' pass. -/
structure J3 (bat : Bat) (P : ℕ → ℕ → ℕ → EReal → Prop) (t : ℕ) (σ : State (Elt Ideal)) : Prop where
  same : Same [.conf, .c, .rraw, .rinv, .rout] σ₀ σ
  conf : All3 (σ .conf) fun _ a b v => a < 128 * t → v = tr (F := Ideal) (confid mask T a b)
  c : All2 (σ .c) fun a b v => v = CM (F := Ideal) (zero (F := Ideal)) (confid mask T) (16 * t) a b
  rraw : All2 (σ .rraw) fun a b v =>
    a < 128 * t → v = RM (F := Ideal) (VV (F := Ideal) (expo mask T) (colInv mask T)) 15 a b * rowInv T a
  rinv : All2 (σ .rinv) fun a _ v => a < 128 * min (t + 1) 15 → v = rowInv T a
  rout : All3 (σ .rout) (InOut3 (fun n _ b => n = bat.1 ∧ b < 128 * t) (fun _ _ b => rowConf mask T b) P)

theorem pass3_spec (bat : Bat) {P : ℕ → ℕ → ℕ → EReal → Prop} (htp : All2 (σ₀ .tp) fun a b v => v = expo mask T a b)
    (hcs : All2 (σ₀ .csum) fun _ b v => v = colInv mask T b)
    (hrs : All2 (σ₀ .rsum) fun a b v => v = RA (F := Ideal) (ER (F := Ideal) T (rowTop T)) 15 a b) (t : Fin lp15.trips)
    (hσ : J3 mask T σ₀ bat P t.val σ) :
    wp (pass3 (sig := sig) bat (strip t) (nextStrip t)) (fun _ => J3 mask T σ₀ bat P (t.val + 1)) σ := by
  have e := strip_val t
  have e' := nextStrip_val t
  have ht := trip_lt t
  have htp' : All2 (σ .tp) fun a b v => v = expo mask T a b := by rw [hσ.same .tp (by decide)]; exact htp
  have hcs' : All2 (σ .csum) fun _ b v => v = colInv mask T b := by rw [hσ.same .csum (by decide)]; exact hcs
  refine wp.seq (half3_spec (s := 0) (E := expo mask T) (Ri := rowInv T) (Ci := colInv mask T) (G := 16 * t.val) (σ₀ := σ)
    ⟨htp', hσ.rinv.mono fun a _ v _ _ hv _ _ => hv (by omega), hcs'⟩ (by show _ + 64 * 0 = _; omega)
    ⟨Same.refl, hσ.conf.mono fun _ a b v _ _ _ hv h => hv (by omega), hσ.c, hσ.rraw.mono fun a b v _ _ hv h => hv (by omega)⟩)
    fun _ σ₃ h3 => ?_
  refine wp.seq (half3_spec (s := 1) ⟨htp', hσ.rinv.mono fun a _ v _ _ hv _ _ => hv (by omega), hcs'⟩ (by show _ + 64 * 1 = _; omega) h3)
    fun _ σ₄ h4 => ?_
  refine wp.seq (redRsum_spec (nextStrip t) (RA (F := Ideal) (ER (F := Ideal) T (rowTop T)) 15) (by
      rw [h4.same .rsum (by decide), hσ.same .rsum (by decide)]
      exact hrs.mono fun a b v _ _ hv _ _ => hv) (P := fun a _ v => a < 128 * min (t.val + 1) 15 → v = rowInv T a)
      (by rw [h4.same .rinv (by decide)]; exact hσ.rinv)) fun _ σ₅ h5 => ?_
  have hr5 : All2 (σ₅ .rraw) fun a b v =>
      a < 128 * (t.val + 1) → v = RM (F := Ideal) (VV (F := Ideal) (expo mask T) (colInv mask T)) 15 a b * rowInv T a := by
    rw [h5.1 .rraw (by decide)]
    exact h4.rraw.mono fun a b v _ _ hv h => hv (by omega)
  refine (rowOut_spec bat (strip t) (fun a b => RM (F := Ideal) (VV (F := Ideal) (expo mask T) (colInv mask T)) 15 a b * rowInv T a)
    (hr5.mono fun a b v _ _ hv _ h => hv (by omega))
    (by rw [h5.1 .rout (by decide), h4.same .rout (by decide)]; exact hσ.rout)).mono fun _ σ₆ h6 => ?_
  have s6 : Same [.conf, .c, .rraw, .rinv, .rout] σ₀ σ₆ :=
    ((hσ.same.trans (h4.same.mono (by decide))).trans (h5.1.mono (by decide))).trans (h6.1.mono (by decide))
  refine ⟨s6, ?_, ?_, ?_, ?_, ?_⟩
  · rw [h6.1 .conf (by decide), h5.1 .conf (by decide)]
    exact h4.conf.mono fun _ a b v _ _ _ hv h => hv (by omega)
  · rw [h6.1 .c (by decide), h5.1 .c (by decide)]
    exact h4.c.mono fun a b v _ _ hv => hv.trans (by rw [show 16 * t.val + 8 + 8 = 16 * (t.val + 1) by omega]; rfl)
  · rw [h6.1 .rraw (by decide)]; exact hr5
  · rw [h6.1 .rinv (by decide)]
    refine h5.2.mono fun a b v _ _ hv ha => ?_
    rw [e'] at hv
    by_cases hc : 128 * min (t.val + 1) 14 ≤ a ∧ a < 128 * min (t.val + 1) 14 + 128
    · exact hv.1 hc
    · exact hv.2 hc (by omega)
  · refine h6.2.mono fun n a b v _ _ _ hv => ?_
    rw [e] at hv
    by_cases hc : n = bat.1 ∧ 128 * t.val ≤ b ∧ b < 128 * t.val + 128
    · exact ⟨fun _ => hv.1 hc, fun hn => absurd ⟨hc.1, by omega⟩ hn⟩
    · have := hv.2 hc
      exact ⟨fun h => this.1 ⟨h.1, by omega⟩, fun hn => this.2 fun h => hn ⟨h.1, by omega⟩⟩

/-- A later point: the results of the batch whose products and scales are there, and the next batch's in their place. -/
theorem later_spec (bat nbat : Bat) {D : ℕ → ℕ → EReal} {Bc A A' : ℕ → EReal} {L R : ℕ → ℕ → EReal}
    {P Q : ℕ → ℕ → ℕ → EReal → Prop} (hD : All2 (σ .d) fun a b v => b < 2016 → v = D a b) (hA : All2 (σ .a) fun a _ v => v = A a)
    (hb : All3 (σ .b) fun n _ b v => n = bat.1 → b < 2016 → v = Bc b) (hL : All3 (σ .f0) fun _ i k v => v = L i k)
    (hR : All3 (σ .f1) fun _ j k v => v = R j k) (hA' : All3 (σ .arow) fun n _ i v => n = nbat.1 → v = A' i)
    (hP : All3 (σ .rout) P) (hQ : All3 (σ .cout) Q) :
    wp (later (sig := sig) (F := Ideal) mask bat nbat) (fun _ σ' =>
      Same [.tp, .csum, .rsum, .d, .a, .rred, .conf, .c, .rraw, .rinv, .rout, .cout] σ σ'
      ∧ All2 (σ' .d) (fun a b v => b < 2016 → v = DD L R a b) ∧ All2 (σ' .a) (fun a _ v => v = A' a)
      ∧ All3 (σ' .conf) (fun _ a b v => v = tr (F := Ideal) (confid mask (TT (F := Ideal) mask D Bc A) a b))
      ∧ All3 (σ' .rout) (InOut3 (fun n _ _ => n = bat.1) (fun _ _ b => rowConf mask (TT (F := Ideal) mask D Bc A) b) P)
      ∧ All3 (σ' .cout) (InOut3 (fun n _ _ => n = bat.1) (fun _ _ b => colConf mask (TT (F := Ideal) mask D Bc A) b) Q)) σ := by
  generalize hT : TT (F := Ideal) mask D Bc A = T
  refine wp.seq (fillC_spec mask) fun _ σ₁ h1 => ?_
  refine wp.seq (fillCsum_spec (zero (F := Ideal))) fun _ σ₂ h2 => ?_
  have s2 : Same [.c, .csum] σ σ₂ := (h1.1.mono (by decide)).trans (h2.1.mono (by decide))
  have in1 : In1 (F := Ideal) D Bc A σ₂ bat := ⟨by rw [s2 .d (by decide)]; exact hD.mono fun a b v _ _ h => h,
    by rw [s2 .a (by decide)]; exact hA, by rw [s2 .b (by decide)]; exact hb⟩
  refine wp.seq (wp.loop15 (fun t σ' => P1 (F := Ideal) mask D Bc A σ₂ (16 * t) σ') (fun t σ' h => pass1_spec in1 t h)
    ⟨Same.refl, fun _ h => absurd h (Nat.not_lt_zero _), by rw [h2.1 .c (by decide)]; exact h1.2,
      fun _ h => absurd h (Nat.not_lt_zero _)⟩) fun _ σ₃ h3 => ?_
  obtain ⟨hs3, htp3, hc3, hrr3⟩ := h3
  rw [hT] at htp3 hc3 hrr3
  have hrr3 : All2 (σ₃ .rraw) fun a b v => v = RM (F := Ideal) T 15 a b := hrr3.mono fun a b v ha _ hv => hv ha
  refine wp.seq (redRmax_spec strip0 (RM (F := Ideal) T 15) (hrr3.mono fun _ _ _ _ _ hv _ _ => hv) (P := fun _ _ _ => True)
    (P' := fun a _ v => a < 128 * min (0 + 1) 15 → v = rowTop T a) (fun _ => trivial) (fun _ _ _ _ _ => rfl)
    (fun a b v hn _ h => absurd ⟨Nat.zero_le _, h⟩ hn)) fun _ σ₄ h4 => ?_
  refine wp.seq (redCs_spec (CM (F := Ideal) mask T 240) (by rw [h4.1 .c (by decide)]; exact hc3)) fun _ σ₅ h5 => ?_
  have s5 : Same [.tp, .c, .rraw, .csum, .rred] σ σ₅ := ((((s2.mono (by decide)).trans (hs3.mono (by decide))).trans
    (h4.1.mono (by decide))).trans (h5.1.mono (by decide)))
  refine wp.seq (wp.loop15 (fun t σ' => J2 mask T L R A' σ₅ t σ') (fun t σ' h => pass2_spec nbat
      (by rw [s5 .f0 (by decide)]; exact hL) (by rw [s5 .f1 (by decide)]; exact hR) (by rw [s5 .arow (by decide)]; exact hA') h5.2
      (by rw [h5.1 .rraw (by decide), h4.1 .rraw (by decide)]; exact hrr3) t h)
    ⟨Same.refl, ?_, ?_, fun _ h => absurd h (Nat.not_lt_zero _), fun _ h => absurd h (Nat.not_lt_zero _),
      fun _ h => absurd h (Nat.not_lt_zero _), by rw [h5.1 .rred (by decide)]; exact h4.2⟩) fun _ σ₆ h6 => ?_
  · rw [h5.1 .tp (by decide), h4.1 .tp (by decide)]
    exact htp3.mono fun a b v ha hb hv => ⟨fun h => absurd h (Nat.not_lt_zero _), fun _ => hv ha⟩
  · rw [h5.1 .csum (by decide), h4.1 .csum (by decide), hs3 .csum (by decide)]
    exact h2.2
  have hcs6 : All2 (σ₆ .csum) fun a b v => v = CA (F := Ideal) (EC (F := Ideal) T (colTop mask T)) 240 a b := h6.csum
  have hrs6 : All2 (σ₆ .rsum) fun a b v => v = RA (F := Ideal) (ER (F := Ideal) T (rowTop T)) 15 a b :=
    h6.rsum.mono fun a b v ha _ hv => hv ha
  refine wp.seq (redRsum_spec strip0 (RA (F := Ideal) (ER (F := Ideal) T (rowTop T)) 15) (hrs6.mono fun _ _ _ _ _ hv _ _ => hv)
    (P := fun _ _ _ => True) (fun _ => trivial)) fun _ σ₇ h7 => ?_
  refine wp.seq (redCsums_spec (CA (F := Ideal) (EC (F := Ideal) T (colTop mask T)) 240) (by rw [h7.1 .csum (by decide)]; exact hcs6))
    fun _ σ₈ h8 => ?_
  refine wp.seq (fillC_spec (zero (F := Ideal))) fun _ σ₉ h9 => ?_
  have s9 : Same [.rinv, .csum, .c] σ₆ σ₉ := ((h7.1.mono (by decide)).trans (h8.1.mono (by decide))).trans (h9.1.mono (by decide))
  refine wp.seq (wp.loop15 (fun t σ' => J3 mask T σ₉ bat P t σ') (fun t σ' h => pass3_spec bat
      (by rw [s9 .tp (by decide)]; exact h6.tp.mono fun a b v ha _ hv => hv.1 ha)
      (by rw [h9.1 .csum (by decide)]; exact h8.2) (by rw [s9 .rsum (by decide)]; exact hrs6) t h)
    ⟨Same.refl, fun _ h => absurd h (Nat.not_lt_zero _), h9.2, fun _ h => absurd h (Nat.not_lt_zero _), ?_, ?_⟩) fun _ σ₁₀ h10 => ?_
  · rw [h9.1 .rinv (by decide), h8.1 .rinv (by decide)]
    exact h7.2.mono fun a b v _ _ hv h => hv.1 ⟨Nat.zero_le _, h⟩
  · rw [s9 .rout (by decide), h6.same .rout (by decide), s5 .rout (by decide)]
    exact hP.mono fun n a b v _ _ _ hv => ⟨fun h => absurd h.2 (Nat.not_lt_zero _), fun _ => hv⟩
  have s10 : Same [.tp, .csum, .rsum, .d, .a, .rred, .conf, .c, .rraw, .rinv, .rout] σ σ₁₀ :=
    (((s5.mono (by decide)).trans (h6.same.mono (by decide))).trans (s9.mono (by decide))).trans (h10.same.mono (by decide))
  refine (colOuts_spec bat (CM (F := Ideal) (zero (F := Ideal)) (confid mask T) 240) h10.c
    (by rw [s10 .cout (by decide)]; exact hQ)).mono fun _ σ₁₁ h11 =>
    ⟨(s10.mono (by decide)).trans (h11.1.mono (by decide)), ?_, ?_, ?_, ?_, h11.2⟩
  · rw [h11.1 .d (by decide), h10.same .d (by decide), s9 .d (by decide)]
    exact h6.d.mono fun a b v ha _ hv => hv ha
  · rw [h11.1 .a (by decide), h10.same .a (by decide), s9 .a (by decide)]
    exact h6.a.mono fun a b v ha _ hv => hv ha
  · rw [h11.1 .conf (by decide)]
    exact h10.conf.mono fun _ a b v _ ha _ hv => hv ha
  · rw [h11.1 .rout (by decide)]
    exact h10.rout.mono fun n a b v _ _ hb hv => ⟨fun h => hv.1 ⟨h, hb⟩, fun hn => hv.2 fun h => hn h.1⟩

end Passes

end Cert.Dual
-- ==== Proof.Math.lean ====
/- A batch's values as the kernel forms them are the two softmaxes' product and its maxima. -/
module

public import proofs.«01_k».proof.Proof.Later

@[expose] public section

noncomputable section

namespace Cert.Dual

open Idealize.ShloMosaic Idealize.ShloMosaic.TcCoe

/-! ### Sums and maxima taken in pieces -/

theorem supN_add (a b : ℕ) (f : ℕ → EReal) : supN (a + b) f = supN a f ⊔ supN b fun k => f (a + k) := by
  refine le_antisymm (supN_le fun k hk => ?_) (sup_le (supN_le fun k hk => le_supN f (by omega)) (supN_le fun k hk => ?_))
  · by_cases h : k < a
    · exact le_sup_of_le_left (le_supN f h)
    · have := le_supN (fun k => f (a + k)) (show k - a < b by omega)
      rw [show a + (k - a) = k by omega] at this
      exact le_sup_of_le_right this
  · exact le_supN (k := a + k) f (by omega)

theorem supN_sup (n : ℕ) (f g : ℕ → EReal) : (supN n fun k => f k ⊔ g k) = supN n f ⊔ supN n g := Finset.sup_sup

theorem sumN_split (a b : ℕ) (f : ℕ → EReal) : sumN (a + b) f = sumN a f + sumN b fun k => f (a + k) :=
  Finset.sum_range_add f a b

theorem sumN_plus (n : ℕ) (f g : ℕ → EReal) : (sumN n fun k => f k + g k) = sumN n f + sumN n g := Finset.sum_add_distrib

theorem supN_congr {n : ℕ} {f g : ℕ → EReal} (h : ∀ k < n, f k = g k) : supN n f = supN n g :=
  Finset.sup_congr rfl fun k hk => h k (Finset.mem_range.mp hk)

theorem sumN_congr {n : ℕ} {f g : ℕ → EReal} (h : ∀ k < n, f k = g k) : sumN n f = sumN n g :=
  Finset.sum_congr rfl fun k hk => h k (Finset.mem_range.mp hk)

variable (U : ℕ → ℕ → EReal)

theorem sup_RM (i n : ℕ) : supN 128 (RM (F := Ideal) U n i) = supN (128 * (n + 1)) (U i) := by
  induction n with
  | zero => rfl
  | succ n ih =>
    rw [show 128 * (n + 1 + 1) = 128 * (n + 1) + 128 by omega, supN_add, ← ih, ← supN_sup]
    rfl

theorem sum_RA (i n : ℕ) : sumN 128 (RA (F := Ideal) U n i) = sumN (128 * (n + 1)) (U i) := by
  induction n with
  | zero => rfl
  | succ n ih =>
    rw [show 128 * (n + 1 + 1) = 128 * (n + 1) + 128 by omega, sumN_split, ← ih, ← sumN_plus]
    rfl

theorem sup_CM (m : EReal) (j g : ℕ) : (supN 8 fun r => CM (F := Ideal) m U g r j) = m ⊔ supN (8 * g) fun i => U i j := by
  induction g with
  | zero =>
    refine (le_antisymm (supN_le fun k _ => le_rfl) (le_supN (k := 0) (fun r => CM (F := Ideal) m U 0 r j) (by decide))).trans ?_
    exact (sup_eq_left.mpr (supN_le fun k hk => absurd hk (Nat.not_lt_zero _))).symm
  | succ g ih =>
    rw [show 8 * (g + 1) = 8 * g + 8 by omega, supN_add, ← sup_assoc, ← ih, ← supN_sup]
    rfl

theorem sum_CA (j g : ℕ) : (sumN 8 fun r => CA (F := Ideal) U g r j) = sumN (8 * g) fun i => U i j := by
  induction g with
  | zero =>
    refine (Finset.sum_eq_zero fun k _ => ?_).trans (Finset.sum_range_zero _).symm
    exact zero_eq
  | succ g ih =>
    rw [show 8 * (g + 1) = 8 * g + 8 by omega, sumN_split, ← ih, ← sumN_plus]
    rfl

/-! ### The exponentials -/

/-- The exponent's scale: the reciprocal of the logarithm of two. -/
def lam : EReal := ((Real.log 2)⁻¹ : ℝ)

theorem lam_pos : (0 : ℝ) < (Real.log 2)⁻¹ := inv_pos.mpr (Real.log_pos one_lt_two)

theorem lam_nonneg : 0 ≤ lam := EReal.coe_nonneg.mpr lam_pos.le

theorem exp2_lam (z : EReal) : Ideal.exp2 (lam * z) = Ideal.exp z := by
  induction z with
  | bot => rw [lam, EReal.coe_mul_bot_of_pos lam_pos]; rfl
  | top => rw [lam, EReal.coe_mul_top_of_pos lam_pos]; rfl
  | coe r =>
    rw [lam, ← EReal.coe_mul, Ideal.exp2_coe, Ideal.exp_coe]
    congr 1
    show (2 : ℝ) ^ ((Real.log 2)⁻¹ * r) = _
    rw [Real.rpow_def_of_pos two_pos]
    have h : Real.log 2 ≠ 0 := (Real.log_pos one_lt_two).ne'
    rw [← mul_assoc, mul_inv_cancel₀ h, one_mul]

theorem exp2_sub (x y : EReal) : Ideal.exp2 (lam * x - lam * y) = Ideal.exp (x - y) := by
  rw [← exp2_lam (x - y), sub_eq_add_neg, sub_eq_add_neg, EReal.left_distrib_of_nonneg_of_ne_top lam_nonneg (EReal.coe_ne_top _),
    mul_neg]

theorem exp_nonneg (z : EReal) : 0 ≤ Ideal.exp z := by
  induction z with
  | bot => exact le_rfl
  | top => exact le_top
  | coe r => exact EReal.coe_nonneg.mpr (Real.exp_pos r).le

theorem inv_nonneg' {x : EReal} (h : 0 ≤ x) : 0 ≤ Ideal.div 1 x := by
  unfold Ideal.div
  split
  · rw [if_pos zero_lt_one]; exact le_top
  · rw [one_mul]; exact EReal.inv_nonneg_of_nonneg h

theorem sumN_nonneg {n : ℕ} {f : ℕ → EReal} (h : ∀ k < n, 0 ≤ f k) : 0 ≤ sumN n f :=
  Finset.sum_nonneg fun k hk => h k (Finset.mem_range.mp hk)

theorem mul_mono {c : EReal} (h : 0 ≤ c) : Monotone fun x : EReal => x * c := fun _ _ hab => mul_le_mul_of_nonneg_right hab h

theorem supN_map {n : ℕ} (hn : 0 < n) {g : EReal → EReal} (hg : Monotone g) (f : ℕ → EReal) : g (supN n f) = supN n fun k => g (f k) := by
  refine le_antisymm ?_ (supN_le fun k hk => hg (le_supN f hk))
  obtain ⟨k, hk, e⟩ := Finset.exists_mem_eq_sup (Finset.range n) ⟨0, Finset.mem_range.mpr hn⟩ f
  have e : supN n f = f k := e
  rw [e]
  exact le_supN (fun k => g (f k)) (Finset.mem_range.mp hk)

/-! ### The two softmaxes -/

section Soft

variable (S : ℕ → ℕ → EReal)

/-- The exponentials along a row, -/
def er (i j : ℕ) : EReal := Ideal.exp (S i j - supN 2016 (S i))
/-- along a column, -/
def ec (i j : ℕ) : EReal := Ideal.exp (S i j - supN 1920 fun i => S i j)
/-- and the product of the two softmaxes. -/
def dual (i j : ℕ) : EReal :=
  er S i j * Ideal.div 1 (sumN 2016 (er S i)) * (ec S i j * Ideal.div 1 (sumN 1920 fun i => ec S i j))

theorem er_nonneg (i j : ℕ) : 0 ≤ er S i j := exp_nonneg _
theorem ec_nonneg (i j : ℕ) : 0 ≤ ec S i j := exp_nonneg _
theorem dual_nonneg (i j : ℕ) : 0 ≤ dual S i j :=
  mul_nonneg (mul_nonneg (er_nonneg ..) (inv_nonneg' (sumN_nonneg fun _ _ => er_nonneg ..)))
    (mul_nonneg (ec_nonneg ..) (inv_nonneg' (sumN_nonneg fun _ _ => ec_nonneg ..)))

variable {S} {T : ℕ → ℕ → EReal} (hT : ∀ i j, j < 2016 → T i j = lam * S i j) (hpad : ∀ i j, 2016 ≤ j → T i j = ⊥)

include hT hpad

theorem rowTop_eq (i : ℕ) : rowTop T i = lam * supN 2016 (S i) := by
  rw [rowTop, sup_RM, show 128 * (15 + 1) = 2016 + 32 by rfl, supN_add, sup_eq_left.mpr]
  · rw [supN_map (by decide) (g := fun x => lam * x) (fun a b h => mul_le_mul_of_nonneg_left h lam_nonneg)]
    exact supN_congr fun k hk => hT i k hk
  · exact supN_le fun k hk => (hpad i _ (by omega)).le.trans bot_le

theorem ER_eq (i j : ℕ) : ER (F := Ideal) T (rowTop T) i j = if j < 2016 then er S i j else 0 := by
  show Ideal.exp2 (T i j - rowTop T i) = _
  rw [rowTop_eq hT hpad]
  split
  case isTrue h => rw [hT i j h, exp2_sub]; rfl
  case isFalse h => rw [hpad i j (by omega), EReal.bot_sub]; rfl

theorem rowInv_eq (i : ℕ) : rowInv T i = Ideal.div 1 (sumN 2016 (er S i)) := by
  rw [rowInv, sum_RA, show 128 * (15 + 1) = 2016 + 32 by rfl, sumN_split]
  congr 1
  rw [show (sumN 32 fun k => ER (F := Ideal) T (rowTop T) i (2016 + k)) = 0 from
    Finset.sum_eq_zero fun k _ => by rw [ER_eq hT hpad, if_neg (by omega)], add_zero]
  exact sumN_congr fun k hk => by rw [ER_eq hT hpad, if_pos hk]

theorem colTop_eq {j : ℕ} (hj : j < 2016) : colTop ⊥ T j = lam * supN 1920 fun i => S i j := by
  rw [colTop, sup_CM, bot_sup_eq, supN_map (by decide) (g := fun x => lam * x) (fun a b h => mul_le_mul_of_nonneg_left h lam_nonneg)]
  exact supN_congr fun k hk => hT k j hj

theorem EC_eq (i j : ℕ) (hj : j < 2016) : EC (F := Ideal) T (colTop ⊥ T) i j = ec S i j := by
  show Ideal.exp2 (T i j - colTop ⊥ T j) = _
  rw [colTop_eq hT hpad hj, hT i j hj, exp2_sub]; rfl

theorem colInv_eq {j : ℕ} (hj : j < 2016) : colInv ⊥ T j = Ideal.div 1 (sumN 1920 fun i => ec S i j) := by
  rw [colInv, sum_CA]
  congr 1
  exact sumN_congr fun k hk => EC_eq hT hpad k j hj

/-- The confidence the kernel forms is the softmaxes' product; in the pad columns it is zero. -/
theorem confid_eq (i j : ℕ) : confid ⊥ T i j = if j < 2016 then dual S i j else 0 := by
  show ER (F := Ideal) T (rowTop T) i j * EC (F := Ideal) T (colTop ⊥ T) i j * colInv ⊥ T j * rowInv T i = _
  rw [ER_eq hT hpad]
  split
  case isTrue h =>
    rw [EC_eq hT hpad i j h, colInv_eq hT hpad h, rowInv_eq hT hpad, dual]
    ac_rfl
  case isFalse h => rw [zero_mul, zero_mul, zero_mul]

theorem rowInv_nonneg (i : ℕ) : 0 ≤ rowInv T i := by
  rw [rowInv_eq hT hpad]
  exact inv_nonneg' (sumN_nonneg fun _ _ => er_nonneg ..)

theorem rowConf_eq (i : ℕ) : rowConf ⊥ T i = supN 2016 (dual S i) := by
  have h0 := rowInv_nonneg hT hpad i
  rw [rowConf, ← supN_map (by decide) (mul_mono h0), sup_RM, supN_map (by decide) (mul_mono h0),
    show 128 * (15 + 1) = 2016 + 32 by rfl, supN_add, sup_eq_left.mpr]
  · exact supN_congr fun k hk => (confid_eq hT hpad i k).trans (if_pos hk)
  · refine supN_le fun k hk => ?_
    refine ((confid_eq hT hpad i (2016 + k)).trans (if_neg (by omega))).le.trans ?_
    refine ((dual_nonneg S i 0).trans_eq ((confid_eq hT hpad i 0).trans (if_pos (by decide))).symm).trans ?_
    exact le_supN (fun k => VV (F := Ideal) (expo ⊥ T) (colInv ⊥ T) i k * rowInv T i) (by decide)

theorem colConf_eq {j : ℕ} (hj : j < 2016) : colConf ⊥ T j = supN 1920 fun i => dual S i j := by
  rw [colConf, sup_CM, zero_eq]
  have e : (supN (8 * 240) fun i => confid ⊥ T i j) = supN 1920 fun i => dual S i j :=
    supN_congr fun k hk => (confid_eq hT hpad k j).trans (if_pos hj)
  rw [e]
  exact sup_eq_right.mpr ((dual_nonneg S 0 j).trans (le_supN (fun i => dual S i j) (by decide)))

end Soft

end Cert.Dual
-- ==== Proof.Spec.lean ====
/- The mathematics of the problem: the scores of one batch, and arrays read at natural coordinates. -/
module

public import proofs.«01_k».proof.Proof.Math

@[expose] public section

noncomputable section

namespace Cert.Dual

open Idealize.ShloMosaic Idealize.ShloMosaic.TcCoe

/-- A two-axis array at natural coordinates, zero outside it. -/
def at2 {A B : ℕ} (X : (⟨2, ![A, B]⟩ : Shape).Idx → EReal) (a b : ℕ) : EReal :=
  if h : a < A ∧ b < B then X (ValueIdx.ix2 ⟨a, h.1⟩ ⟨b, h.2⟩) else 0

/-- A three-axis array at natural coordinates, zero outside it. -/
def at3 {A B C : ℕ} (X : (⟨3, ![A, B, C]⟩ : Shape).Idx → EReal) (a b c : ℕ) : EReal :=
  if h : a < A ∧ b < B ∧ c < C then X (ValueIdx.ix3 ⟨a, h.1⟩ ⟨b, h.2.1⟩ ⟨c, h.2.2⟩) else 0

theorem at2_of {A B : ℕ} (X : (⟨2, ![A, B]⟩ : Shape).Idx → EReal) {a b : ℕ} (p : (⟨2, ![A, B]⟩ : Shape).Idx)
    (h0 : (p 0).val = a) (h1 : (p 1).val = b) : X p = at2 X a b := by
  subst h0 h1
  have e : p = ValueIdx.ix2 (p 0) (p 1) := by funext a; revert a; exact Fin.forall_fin_two.mpr ⟨rfl, rfl⟩
  refine (congrArg X e).trans ?_
  unfold at2
  rw [dif_pos (c := (p 0).val < A ∧ (p 1).val < B) ⟨(p 0).isLt, (p 1).isLt⟩]
  rfl

theorem at3_of {A B C : ℕ} (X : (⟨3, ![A, B, C]⟩ : Shape).Idx → EReal) {a b c : ℕ} (p : (⟨3, ![A, B, C]⟩ : Shape).Idx)
    (h0 : (p 0).val = a) (h1 : (p 1).val = b) (h2 : (p 2).val = c) : X p = at3 X a b c := by
  subst h0 h1 h2
  have e : p = ValueIdx.ix3 (p 0) (p 1) (p 2) := by
    funext a; revert a; exact Fin.forall_fin_succ.mpr ⟨rfl, Fin.forall_fin_two.mpr ⟨rfl, rfl⟩⟩
  refine (congrArg X e).trans ?_
  unfold at3
  rw [dif_pos (c := (p 0).val < A ∧ (p 1).val < B ∧ (p 2).val < C) ⟨(p 0).isLt, (p 1).isLt, (p 2).isLt⟩]
  rfl

section Scores

variable (X0 : (⟨3, ![12, 1920, 256]⟩ : Shape).Idx → EReal) (S0 : (⟨2, ![12, 1920]⟩ : Shape).Idx → EReal)
  (X1 : (⟨3, ![12, 2016, 256]⟩ : Shape).Idx → EReal) (S1 : (⟨2, ![12, 2016]⟩ : Shape).Idx → EReal)

/-- The scores: the products of the features, scaled by both sides' scales and the temperature. -/
def score (n i j : ℕ) : EReal :=
  DD (at3 X0 n) (at3 X1 n) i j * at2 S0 n i * at2 S1 n j * ((5 / 128 : ℝ) : EReal)

/-- The confidences, and their greatest in each row and in each column. -/
def confOf (p : (⟨3, ![12, 1920, 2016]⟩ : Shape).Idx) : EReal := dual (score X0 S0 X1 S1 (p 0).val) (p 1).val (p 2).val
def rmaxOf (p : (⟨2, ![12, 1920]⟩ : Shape).Idx) : EReal := supN 2016 (dual (score X0 S0 X1 S1 (p 0).val) (p 1).val)
def cmaxOf (p : (⟨2, ![12, 2016]⟩ : Shape).Idx) : EReal :=
  supN 1920 fun i => dual (score X0 S0 X1 S1 (p 0).val) i (p 1).val

end Scores

end Cert.Dual
-- ==== Proof.ValI.lean ====
/- What the kernel leaves: the invariant of its scratch at each point, and the results' arrays after the run. -/
module

public import proofs.«01_k».proof.Proof.PipeI
public import proofs.«01_k».proof.Proof.Later
public import proofs.«01_k».proof.Proof.Spec
public import Idealize.ShloMosaic.Lib.Pipeline.ArrRel

@[expose] public section

set_option maxRecDepth 16384

noncomputable section

namespace Cert.KernelIdeal.Gen

open Idealize.ShloMosaic Idealize.ShloMosaic.TcCoe Idealize.SL.Sem
open Idealize.ShloMosaic.Pipeline (Dat RDat)
open Cert.Dual

variable (m : (ℓ : Loc nD τ sig) → Buf (Elt Ideal) ℓ) (ρ : Dev nD → PrngReg) (c : Dev nD)

/-! ### The arguments -/

def M0 : (⟨3, ![12, 1920, 256]⟩ : Shape).Idx → EReal := m ((c : Thread nD τ).loc main_arg0)
def M1 : (⟨2, ![12, 1920]⟩ : Shape).Idx → EReal := m ((c : Thread nD τ).loc main_arg1)
def M2 : (⟨3, ![12, 2016, 256]⟩ : Shape).Idx → EReal := m ((c : Thread nD τ).loc main_arg2)
def M3 : (⟨2, ![12, 2016]⟩ : Shape).Idx → EReal := m ((c : Thread nD τ).loc main_arg3)

/-- The scores of the arguments. -/
def Sc (n i j : ℕ) : EReal := score (M0 m c) (M1 m c) (M2 m c) (M3 m c) n i j

theorem idx0 (t : Fin cfg0.N) : win0_0.index t (0 : Fin 3) = min t.val 11 ∧ win0_0.index t (1 : Fin 3) = 0 ∧ win0_0.index t (2 : Fin 3) = 0 :=
  (by decide +kernel : ∀ t : Fin grid0.N, win0_0.index t (0 : Fin 3) = min t.val 11 ∧ win0_0.index t (1 : Fin 3) = 0
    ∧ win0_0.index t (2 : Fin 3) = 0) t
theorem idx1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem idx2 (t : Fin cfg0.N) : win0_2.index t (0 : Fin 3) = min t.val 11 ∧ win0_2.index t (1 : Fin 3) = 0 ∧ win0_2.index t (2 : Fin 3) = 0 :=
  (by decide +kernel : ∀ t : Fin grid0.N, win0_2.index t (0 : Fin 3) = min t.val 11 ∧ win0_2.index t (1 : Fin 3) = 0
    ∧ win0_2.index t (2 : Fin 3) = 0) t
theorem idx3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem in0 (t : Fin cfg0.N) : All3 (iblk m c 0 t) fun _ i k v => v = at3 (M0 m c) (min t.val 11) i k := fun p => by
  obtain ⟨e0, e1, e2⟩ := idx0 t
  have hp : (p 0).val < 1 := (p 0).isLt
  show V m c main_arg0 (((cfg0.win 0).blk t).view.emb p) = _
  rw [V_main_arg0]
  refine at3_of (M0 m c) _ ?_ ?_ ?_
  · show win0_0.index t (0 : Fin 3) * 1 + 1 * (p 0).val = _; omega
  · show win0_0.index t (1 : Fin 3) * 1920 + 1 * (p 1).val = _; omega
  · show win0_0.index t (2 : Fin 3) * 256 + 1 * (p 2).val = _; omega

theorem in1 (t : Fin cfg0.N) : All2 (iblk m c 1 t) fun n i v => v = at2 (M1 m c) n i := fun p => by
  obtain ⟨e0, e1⟩ := idx1 t
  show V m c main_arg1 (((cfg0.win 1).blk t).view.emb p) = _
  rw [V_main_arg1]
  refine at2_of (M1 m c) _ ?_ ?_
  · show win0_1.index t (0 : Fin 2) * 12 + 1 * (p 0).val = _; omega
  · show win0_1.index t (1 : Fin 2) * 1920 + 1 * (p 1).val = _; omega

theorem in2 (t : Fin cfg0.N) : All3 (iblk m c 2 t) fun _ i k v => v = at3 (M2 m c) (min t.val 11) i k := fun p => by
  obtain ⟨e0, e1, e2⟩ := idx2 t
  have hp : (p 0).val < 1 := (p 0).isLt
  show V m c main_arg2 (((cfg0.win 2).blk t).view.emb p) = _
  rw [V_main_arg2]
  refine at3_of (M2 m c) _ ?_ ?_ ?_
  · show win0_2.index t (0 : Fin 3) * 1 + 1 * (p 0).val = _; omega
  · show win0_2.index t (1 : Fin 3) * 2016 + 1 * (p 1).val = _; omega
  · show win0_2.index t (2 : Fin 3) * 256 + 1 * (p 2).val = _; omega

theorem in3 (t : Fin cfg0.N) : All2 (iblk m c 3 t) fun n i v => v = at2 (M3 m c) n i := fun p => by
  obtain ⟨e0, e1⟩ := idx3 t
  show V m c main_arg3 (((cfg0.win 3).blk t).view.emb p) = _
  rw [V_main_arg3]
  refine at2_of (M3 m c) _ ?_ ?_
  · show win0_3.index t (0 : Fin 2) * 12 + 1 * (p 0).val = _; omega
  · show win0_3.index t (1 : Fin 2) * 2016 + 1 * (p 1).val = _; omega

/-! ### The constants -/

theorem mask_eq : maskV (F := Ideal) = (⊥ : EReal) := IdealRules.named_const.ideal_named_scalar _ _ _ _ rfl

theorem esc_eq : escV (F := Ideal) = lam * ((5 / 128 : ℝ) : EReal) := by
  have e : escV (F := Ideal) = (((Real.log 2)⁻¹ * (5 / 128) : ℝ) : EReal) := IdealRules.named_const.ideal_named_scalar _ _ _ _ rfl
  rw [e, EReal.coe_mul]; rfl

/-- The kernel's scores of batch `n`, in the exponential's base. -/
def Tn (n : ℕ) : ℕ → ℕ → EReal :=
  TT (F := Ideal) ⊥ (DD (at3 (M0 m c) n) (at3 (M2 m c) n)) (at2 (M3 m c) n) fun i => at2 (M1 m c) n i * escV (F := Ideal)

theorem Tn_in (n i j : ℕ) (hj : j < 2016) : Tn m c n i j = lam * Sc m c n i j := by
  unfold Tn TT Sc score
  rw [if_pos hj, esc_eq]
  show DD (at3 (M0 m c) n) (at3 (M2 m c) n) i j * at2 (M3 m c) n j * (at2 (M1 m c) n i * (lam * ((5 / 128 : ℝ) : EReal))) = _
  ac_rfl

theorem Tn_out (n i j : ℕ) (hj : 2016 ≤ j) : Tn m c n i j = ⊥ := by
  unfold Tn TT
  rw [if_neg (by omega)]

/-! ### The points -/

/-- What the scratch holds before point `t`: the products and the row scales of the batch that the point finishes, both
    scales of every batch, and the greatest confidences of the batches finished. -/
def Inv (t : ℕ) (σ : State (Elt Ideal)) : Prop := t ≠ 0 →
  All2 (σ .d) (fun a b v => b < 2016 → v = DD (at3 (M0 m c) (min (t - 1) 11)) (at3 (M2 m c) (min (t - 1) 11)) a b)
  ∧ All2 (σ .a) (fun a _ v => v = at2 (M1 m c) (min (t - 1) 11) a * escV (F := Ideal))
  ∧ All3 (σ .arow) (fun n _ b v => v = at2 (M1 m c) n b * escV (F := Ideal))
  ∧ All3 (σ .b) (fun n _ b v => b < 2016 → v = at2 (M3 m c) n b)
  ∧ All3 (σ .rout) (fun n _ b v => n + 1 < t → v = supN 2016 (dual (Sc m c n) b))
  ∧ All3 (σ .cout) (fun n _ b v => n + 1 < t → b < 2016 → v = supN 1920 fun i => dual (Sc m c n) i b)

/-- What a point leaves in the confidences' block, -/
def Rk (t : ℕ) (X : B.conf.sh.Idx → Elt Ideal B.conf.el) : Prop := t ≠ 0 → All3 X fun _ a b v => v = dual (Sc m c (t - 1)) a b
/-- and the last point in the other results. -/
def Rr (t : ℕ) (X : B.rmax.sh.Idx → Elt Ideal B.rmax.el) : Prop := t = 12 → All2 X fun n b v => v = supN 2016 (dual (Sc m c n) b)
def Rc (t : ℕ) (X : B.cmax.sh.Idx → Elt Ideal B.cmax.el) : Prop :=
  t = 12 → All2 X fun n b v => v = supN 1920 fun i => dual (Sc m c n) i b

theorem later_step (t : ℕ) (h0 : t ≠ 0) (h12 : t ≤ 12) {σ : State (Elt Ideal)} (h : Inv m c t σ)
    (hL : All3 (σ .f0) fun _ i k v => v = at3 (M0 m c) (min t 11) i k)
    (hR : All3 (σ .f1) fun _ i k v => v = at3 (M2 m c) (min t 11) i k) :
    wp (later (sig := sig) (F := Ideal) maskV (batOf t) (nbatOf t)) (fun _ σ' => Inv m c (t + 1) σ' ∧ Rk m c t (σ' .conf)) σ := by
  obtain ⟨hD, hA, har, hb, hP, hQ⟩ := h h0
  have hbat : (batOf t).1 = t - 1 := by show min (t - 1) 11 = _; omega
  have hmin : min (t - 1) 11 = t - 1 := by omega
  rw [mask_eq]
  refine (later_spec (sig := sig) (mask := ⊥) (batOf t) (nbatOf t) (A' := fun i => at2 (M1 m c) (min t 11) i * escV (F := Ideal)) hD hA
    (hb.mono fun n a b v _ _ _ hv hn hb => (hv hb).trans (by rw [hn])) hL hR
    (har.mono fun n a b v _ _ _ hv hn => hv.trans (by rw [hn]; rfl)) hP hQ).mono fun _ σ' h' => ?_
  obtain ⟨hs, hd, ha, hc, hr, hq⟩ := h'
  have hT : ∀ i j, j < 2016 → Tn m c (t - 1) i j = lam * Sc m c (t - 1) i j := Tn_in m c (t - 1)
  have hpad : ∀ i j, 2016 ≤ j → Tn m c (t - 1) i j = ⊥ := Tn_out m c (t - 1)
  have eT : TT (F := Ideal) ⊥ (DD (at3 (M0 m c) (min (t - 1) 11)) (at3 (M2 m c) (min (t - 1) 11)))
      (at2 (M3 m c) (min (t - 1) 11)) (fun a => at2 (M1 m c) (min (t - 1) 11) a * escV (F := Ideal)) = Tn m c (t - 1) := by
    rw [hmin]; rfl
  refine ⟨fun _ => ⟨hd, ha, ?_, ?_, ?_, ?_⟩, fun _ => ?_⟩
  · rw [hs .arow (by decide)]; exact har
  · rw [hs .b (by decide)]; exact hb
  · refine hr.mono fun n a b v _ _ _ hv hn => ?_
    by_cases hnb : n = (batOf t).1
    · refine (hv.1 hnb).trans ((congrArg (fun T => rowConf ⊥ T b) eT).trans ?_)
      rw [hnb, hbat]
      exact rowConf_eq hT hpad b
    · exact hv.2 hnb (by omega)
  · refine hq.mono fun n a b v _ _ _ hv hn hb => ?_
    by_cases hnb : n = (batOf t).1
    · refine (hv.1 hnb).trans ((congrArg (fun T => colConf ⊥ T b) eT).trans ?_)
      rw [hnb, hbat]
      exact colConf_eq hT hpad hb
    · exact hv.2 hnb (by omega) hb
  · refine hc.mono fun n a b v _ _ hb hv => ?_
    refine hv.trans ((congrArg (fun T => confid ⊥ T a b) eT).trans ?_)
    rw [confid_eq hT hpad a b]
    exact if_pos hb

theorem step : StepOK m (Inv m c) (Rk m c) (Rr m c) (Rc m c) c := fun t σ x4 x5 x6 hI => by
  have ht : t.val < 13 := t.isLt
  have i0 := in0 m c t
  have i1 := in1 m c t
  have i2 := in2 m c t
  have i3 := in3 m c t
  show Inv m c (t.val + 1) (point t.val _) ∧ Rk m c t.val (point t.val _ .conf) ∧ Rr m c t.val (point t.val _ .rmax)
    ∧ Rc m c t.val (point t.val _ .cmax)
  unfold point
  by_cases h0 : t.val = 0
  · rw [h0] at i0 i2 ⊢
    rw [prog_zero]
    refine wp.run (Q := fun _ σ' => Inv m c (0 + 1) σ' ∧ Rk m c 0 (σ' .conf) ∧ Rr m c 0 (σ' .rmax) ∧ Rc m c 0 (σ' .cmax)) ?_
    refine (first_spec (sig := sig) (escV (F := Ideal)) (at2 (M1 m c)) (at2 (M3 m c)) (at3 (M0 m c) 0) (at3 (M2 m c) 0) i1 i3 i0 i2).mono
      fun _ σ' h => ?_
    obtain ⟨har, hb, hd, ha⟩ := h
    exact ⟨fun _ => ⟨hd, ha, har, hb, fun p hp => absurd hp (by omega), fun p hp => absurd hp (by omega)⟩,
      fun h => absurd rfl h, fun h => absurd h (by decide), fun h => absurd h (by decide)⟩
  · have hI' : Inv m c t.val (mix σ (iblk m c 0 t) (iblk m c 1 t) (iblk m c 2 t) (iblk m c 3 t) x4 x5 x6) := hI
    have hl := later_step m c t.val h0 (by omega) hI' i0 i2
    by_cases h12 : t.val = 12
    · rw [h12] at hl ⊢
      rw [prog_last]
      refine wp.run (Q := fun _ σ' => Inv m c (12 + 1) σ' ∧ Rk m c 12 (σ' .conf) ∧ Rr m c 12 (σ' .rmax) ∧ Rc m c 12 (σ' .cmax)) ?_
      refine wp.seq hl fun _ σ' h => ?_
      obtain ⟨hd, ha, har, hb, hr, hq⟩ := h.1 (by decide)
      refine (last_spec (sig := sig) (fun n b => supN 2016 (dual (Sc m c n) b)) (fun n b => supN 1920 fun i => dual (Sc m c n) i b)
        (hr.mono fun n a b v hn _ _ hv => hv (Nat.succ_lt_succ hn)) (hq.mono fun n a b v hn _ _ hv => hv (Nat.succ_lt_succ hn))).mono
        fun _ σ'' h'' => ?_
      obtain ⟨hs, h1, h2⟩ := h''
      refine ⟨fun _ => ?_, ?_, fun _ => h1, fun _ => h2⟩
      · rw [hs .d (by decide), hs .a (by decide), hs .arow (by decide), hs .b (by decide), hs .rout (by decide), hs .cout (by decide)]
        exact ⟨hd, ha, har, hb, hr, hq⟩
      · rw [hs .conf (by decide)]; exact h.2
    · rw [prog_mid h0 h12]
      refine wp.run (Q := fun _ σ' => Inv m c (t.val + 1) σ' ∧ Rk m c t.val (σ' .conf) ∧ Rr m c t.val (σ' .rmax) ∧ Rc m c t.val (σ' .cmax)) ?_
      exact hl.mono fun _ σ' h => ⟨h.1, h.2, fun h => absurd h h12, fun h => absurd h h12⟩

/-! ### The results -/

theorem idx4 (t : Fin cfg0.N) : win0_4.index t (0 : Fin 3) = t.val - 1 ∧ win0_4.index t (1 : Fin 3) = 0 ∧ win0_4.index t (2 : Fin 3) = 0 :=
  (by decide +kernel : ∀ t : Fin grid0.N, win0_4.index t (0 : Fin 3) = t.val - 1 ∧ win0_4.index t (1 : Fin 3) = 0
    ∧ win0_4.index t (2 : Fin 3) = 0) t
theorem idx5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t
theorem idx6 (t : Fin cfg0.N) : win0_6.index t (0 : Fin 2) = 0 ∧ win0_6.index t (1 : Fin 2) = 0 :=
  (by decide +kernel : ∀ t : Fin grid0.N, win0_6.index t (0 : Fin 2) = 0 ∧ win0_6.index t (1 : Fin 2) = 0) t

/-- The confidences are written back after every point but the first. -/
theorem flush4 (t : Fin cfg0.N) (h : (cfg0.win 4).flush t = true) : t.val ≠ 0 :=
  (by decide +kernel : ∀ t : Fin grid0.N, win0_4.flush t = true → t.val ≠ 0) t h
theorem flush5 (t : Fin cfg0.N) (h : (cfg0.win 5).flush t = true) : t.val = 12 := by
  have := (flush0_5 t).mp h
  have : t.val < 13 := t.isLt
  omega
theorem flush6 (t : Fin cfg0.N) (h : (cfg0.win 6).flush t = true) : t.val = 12 := by
  have := (flush0_6 t).mp h
  have : t.val < 13 := t.isLt
  omega

/-- What each array holds after the run. -/
theorem values : θ_run defs (onTc (τ := τ) (main (F := Ideal))) ⟨m, fun _ => 0, ρ⟩ (fun r => ∀ c : Dev nD,
      r.2.mem ((c : Thread nD τ).loc main_v0_0) = confOf (M0 m c) (M1 m c) (M2 m c) (M3 m c)
      ∧ r.2.mem ((c : Thread nD τ).loc main_v0_1) = rmaxOf (M0 m c) (M1 m c) (M2 m c) (M3 m c)
      ∧ r.2.mem ((c : Thread nD τ).loc main_v0_2) = cmaxOf (M0 m c) (M1 m c) (M2 m c) (M3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ?_) (run_rel m ρ (Inv m 0) (Rk m 0) (Rr m 0) (Rc m 0) (fun _ h => absurd rfl h)
    fun c => by obtain rfl : c = 0 := Subsingleton.elim _ _; exact step m 0)
  obtain rfl : c = 0 := Subsingleton.elim _ _
  obtain ⟨after, hL, hA⟩ := RDat.FramePost.exists_exact h.1 0
  refine ⟨(hA 4).trans (Dat.arrAt_eq_of_covers (((dat m (Inv m 0) 0).toRRel fgt (Rl (Rk m 0) (Rr m 0) (Rc m 0))).withAfter after) 4 (confOf (M0 m 0) (M1 m 0) (M2 m 0) (M3 m 0)) (by decide +kernel) fun t hf y => ?_),
    (hA 5).trans (Dat.arrAt_eq_of_covers (((dat m (Inv m 0) 0).toRRel fgt (Rl (Rk m 0) (Rr m 0) (Rc m 0))).withAfter after) 5 (rmaxOf (M0 m 0) (M1 m 0) (M2 m 0) (M3 m 0)) (by decide +kernel) fun t hf y => ?_),
    (hA 6).trans (Dat.arrAt_eq_of_covers (((dat m (Inv m 0) 0).toRRel fgt (Rl (Rk m 0) (Rr m 0) (Rc m 0))).withAfter after) 6 (cmaxOf (M0 m 0) (M1 m 0) (M2 m 0) (M3 m 0)) (by decide +kernel) fun t hf y => ?_),
    (RDat.FramePost.arr_in h.1 0 0 rfl).trans ((dat_A m (Inv m 0) 0 0).trans (V_main_arg0 m 0)),
    (RDat.FramePost.arr_in h.1 0 1 rfl).trans ((dat_A m (Inv m 0) 0 1).trans (V_main_arg1 m 0)),
    (RDat.FramePost.arr_in h.1 0 2 rfl).trans ((dat_A m (Inv m 0) 0 2).trans (V_main_arg2 m 0)),
    (RDat.FramePost.arr_in h.1 0 3 rfl).trans ((dat_A m (Inv m 0) 0 3).trans (V_main_arg3 m 0))⟩
  · have hl : Rk m 0 t.val (after 4 t) := (dat m (Inv m 0) 0).toRRel_leaves (fgt := fgt) (Rl := Rl (Rk m 0) (Rr m 0) (Rc m 0)) rfl (hL 4 t hf)
    obtain ⟨e0, e1, e2⟩ := idx4 t
    have h0 := flush4 t hf
    have hy : (y 0).val < 1 := (y 0).isLt
    refine (hl h0 y).trans ?_
    have q0 : (((cfg0.win 4).blk t).view.emb y 0).val = t.val - 1 := by
      show win0_4.index t (0 : Fin 3) * 1 + 1 * (y 0).val = _; omega
    have q1 : (((cfg0.win 4).blk t).view.emb y 1).val = (y 1).val := by
      show win0_4.index t (1 : Fin 3) * 1920 + 1 * (y 1).val = _; omega
    have q2 : (((cfg0.win 4).blk t).view.emb y 2).val = (y 2).val := by
      show win0_4.index t (2 : Fin 3) * 2016 + 1 * (y 2).val = _; omega
    unfold confOf
    rw [q0, q1, q2]; rfl
  · have hl : Rr m 0 t.val (after 5 t) := (dat m (Inv m 0) 0).toRRel_leaves (fgt := fgt) (Rl := Rl (Rk m 0) (Rr m 0) (Rc m 0)) rfl (hL 5 t hf)
    obtain ⟨e0, e1⟩ := idx5 t
    refine (hl (flush5 t hf) y).trans ?_
    have q0 : (((cfg0.win 5).blk t).view.emb y 0).val = (y 0).val := by
      show win0_5.index t (0 : Fin 2) * 12 + 1 * (y 0).val = _; omega
    have q1 : (((cfg0.win 5).blk t).view.emb y 1).val = (y 1).val := by
      show win0_5.index t (1 : Fin 2) * 1920 + 1 * (y 1).val = _; omega
    unfold rmaxOf
    rw [q0, q1]; rfl
  · have hl : Rc m 0 t.val (after 6 t) := (dat m (Inv m 0) 0).toRRel_leaves (fgt := fgt) (Rl := Rl (Rk m 0) (Rr m 0) (Rc m 0)) rfl (hL 6 t hf)
    obtain ⟨e0, e1⟩ := idx6 t
    refine (hl (flush6 t hf) y).trans ?_
    have q0 : (((cfg0.win 6).blk t).view.emb y 0).val = (y 0).val := by
      show win0_6.index t (0 : Fin 2) * 12 + 1 * (y 0).val = _; omega
    have q1 : (((cfg0.win 6).blk t).view.emb y 1).val = (y 1).val := by
      show win0_6.index t (1 : Fin 2) * 2016 + 1 * (y 1).val = _; omega
    unfold cmaxOf
    rw [q0, q1]; rfl

end Cert.KernelIdeal.Gen
-- ==== Proof.ValR.lean ====
/- What the reference's payloads are, element by element. -/
module

public import proofs.«01_k».proof.Proof.Spec
public import proofs.«01_k».proof.Proof.Gen.ReferenceIdeal.Value
public import Idealize.ShloMosaic.Lib.Pointwise

@[expose] public section

noncomputable section

namespace Cert.ReferenceIdeal.Gen

open Idealize.ShloMosaic Idealize.ShloMosaic.TcCoe
open Cert.Dual Cert.ReferenceIdeal

theorem rowB_apply {α : Type} (v : S12x1920x1.Idx → α) (p : S12x1920x2016.Idx) :
    broadcastTo S12x1920x2016 v broadcasts_S12x1920x1_S12x1920x2016 p = v (ValueIdx.ix3 (p 0) (p 1) (0 : Fin 1)) :=
  broadcastTo_apply _ _ p _ (Fin.forall_fin_succ.mpr ⟨rfl, Fin.forall_fin_two.mpr ⟨rfl, rfl⟩⟩)

theorem colB_apply {α : Type} (v : S12x1x2016.Idx → α) (p : S12x1920x2016.Idx) :
    broadcastTo S12x1920x2016 v broadcasts_S12x1x2016_S12x1920x2016 p = v (ValueIdx.ix3 (p 0) (0 : Fin 1) (p 2)) :=
  broadcastTo_apply _ _ p _ (Fin.forall_fin_succ.mpr ⟨rfl, Fin.forall_fin_two.mpr ⟨rfl, rfl⟩⟩)

theorem rowC_apply {α : Type} (v : S12x1920.Idx → α) (n : Fin 12) (i : Fin 1920) :
    shapeCast S12x1920x1 v shapeCasts_S12x1920_S12x1920x1 (ValueIdx.ix3 n i (0 : Fin 1)) = v (ValueIdx.ix2 n i) := by
  refine shapeCast_apply _ _ _ _ ?_
  refine (Shape.rowMajor_val_two (d := ![12, 1920]) (ValueIdx.ix2 n i)).trans
    (Eq.trans ?_ (Shape.rowMajor_val_three (d := ![12, 1920, 1]) (ValueIdx.ix3 n i (0 : Fin 1))).symm)
  show n.val * 1920 + i.val = (n.val * 1920 + i.val) * 1 + 0
  omega

theorem colC_apply {α : Type} (v : S12x2016.Idx → α) (n : Fin 12) (j : Fin 2016) :
    shapeCast S12x1x2016 v shapeCasts_S12x2016_S12x1x2016 (ValueIdx.ix3 n (0 : Fin 1) j) = v (ValueIdx.ix2 n j) := by
  refine shapeCast_apply _ _ _ _ ?_
  refine (Shape.rowMajor_val_two (d := ![12, 2016]) (ValueIdx.ix2 n j)).trans
    (Eq.trans ?_ (Shape.rowMajor_val_three (d := ![12, 1, 2016]) (ValueIdx.ix3 n (0 : Fin 1) j)).symm)
  show n.val * 2016 + j.val = (n.val * 1 + 0) * 2016 + j.val
  omega

variable (v : FVec Ideal S12x1920x2016 .f32) (f : ℕ → ℕ → ℕ → EReal) (hv : ∀ p, v p = f (p 0).val (p 1).val (p 2).val)
include hv

theorem maxR (p : S12x1920.Idx) :
    multiReduction .maximumf [2] S12x1920 v 0xFF800000#32 reduces_S12x1920x2016_S12x1920 (.inl rfl) rfl p
      = supN 2016 (f (p 0).val (p 1).val) := by
  refine (Ideal.multiReduction_maximumf_single v _ _ _ _ p).trans ?_
  rw [ofBits_ninf]
  exact fold_max 2016 _ _ fun k => hv _

theorem sumR (p : S12x1920.Idx) :
    multiReduction .add [2] S12x1920 v 0x00000000#32 reduces_S12x1920x2016_S12x1920 (.inl rfl) rfl p
      = sumN 2016 (f (p 0).val (p 1).val) := by
  refine (Ideal.multiReduction_add_single v _ _ _ _ p).trans ?_
  exact fin_sum 2016 _ _ fun k => hv _

theorem maxC (p : S12x2016.Idx) :
    multiReduction .maximumf [1] S12x2016 v 0xFF800000#32 reduces_S12x1920x2016_S12x2016 (.inl rfl) rfl p
      = supN 1920 fun i => f (p 0).val i (p 1).val := by
  refine (Ideal.multiReduction_maximumf_single v _ _ _ _ p).trans ?_
  rw [ofBits_ninf]
  exact fold_max 1920 _ _ fun k => hv _

theorem sumC (p : S12x2016.Idx) :
    multiReduction .add [1] S12x2016 v 0x00000000#32 reduces_S12x1920x2016_S12x2016 (.inl rfl) rfl p
      = sumN 1920 fun i => f (p 0).val i (p 1).val := by
  refine (Ideal.multiReduction_add_single v _ _ _ _ p).trans ?_
  exact fin_sum 1920 _ _ fun k => hv _

omit hv

/-- The temperature. -/
theorem temp_eq : Scalar.ofBits (F := Ideal) .f32 0x3D200000#32 = ((5 / 128 : ℝ) : EReal) := by
  show Ideal.ofBits .f32 0x3D200000#32 = _
  simp [Ideal.ofBits, Ideal.ieee]
  rw [← EReal.coe_mul]
  norm_num

theorem mm_apply (l : FVec Ideal S12x1920x256 .fp8e4m3) (r : FVec Ideal S12x2016x256 .fp8e4m3) (p : S12x1920x2016.Idx) :
    matmul dot_S12x1920x256_S12x2016x256_S12x1920x2016_2_2_1_1_0_0 none l r (constant S12x1920x2016 .f32 0x00000000#32) p
      = DD (at3 l (p 0).val) (at3 r (p 0).val) (p 1).val (p 2).val := by
  refine (Ideal.matmul_apply₁_of dot_S12x1920x256_S12x2016x256_S12x1920x2016_2_2_1_1_0_0 rfl rfl l r _ p
    (fun k => ix3 (p 0) (p 1) k) (fun k => ix3 (p 0) (p 2) k) (fun k => by pointwise) (fun k => by pointwise)).trans ?_
  have z : constant (F := Ideal) S12x1920x2016 .f32 0x00000000#32 p = (0 : EReal) := Ideal.ofBits_zero_f32
  rw [z, zero_add]
  exact fin_sum 256 _ (fun k => at3 l (p 0).val (p 1).val k * at3 r (p 0).val (p 2).val k) fun k => by
    rw [at3_of l (a := (p 0).val) (b := (p 1).val) (c := k.val) _ rfl rfl rfl,
      at3_of r (a := (p 0).val) (b := (p 2).val) (c := k.val) _ rfl rfl rfl]

/-- The loads are of the whole arrays. -/
theorem pay5_eq {F : FTy → Type} [FloatOps F] (a0 : Vec F S12x1920x256 .fp8e4m3) (a1 : Vec F S12x1920 .f32)
    (a2 : Vec F S12x2016x256 .fp8e4m3) (a3 : Vec F S12x2016 .f32) : k0_pay5 a0 a1 a2 a3 = k0_pay3 a0 a2 a1 a3 := by
  unfold k0_pay5
  rw [View.ld_unit_zero (S := S12x1920x256) Value.hz0 _ a0, View.ld_unit_zero (S := S12x2016x256) Value.hz2 _ a2,
    View.ld_unit_zero (S := S12x1920) Value.hz1 _ a1, View.ld_unit_zero (S := S12x2016) Value.hz3 _ a3]

/-! ### The stages of the payload -/

section Stages

variable (a0 : FVec Ideal S12x1920x256 .fp8e4m3) (a1 : FVec Ideal S12x1920 .f32) (a2 : FVec Ideal S12x2016x256 .fp8e4m3)
  (a3 : FVec Ideal S12x2016 .f32)

/-- The scores, -/
def scR : FVec Ideal S12x1920x2016 .f32 :=
  mulf (mulf (mulf (matmul dot_S12x1920x256_S12x2016x256_S12x1920x2016_2_2_1_1_0_0 none a0 a2
      (constant S12x1920x2016 .f32 0x00000000#32))
    (broadcastTo S12x1920x2016 (shapeCast S12x1920x1 a1 shapeCasts_S12x1920_S12x1920x1) broadcasts_S12x1920x1_S12x1920x2016))
    (broadcastTo S12x1920x2016 (shapeCast S12x1x2016 a3 shapeCasts_S12x2016_S12x1x2016) broadcasts_S12x1x2016_S12x1920x2016))
    (broadcast S12x1920x2016 (Scalar.ofBits .f32 0x3D200000#32))

/-- their exponentials under each row's greatest, -/
def exR (s : FVec Ideal S12x1920x2016 .f32) : FVec Ideal S12x1920x2016 .f32 :=
  exp (subf s (broadcastTo S12x1920x2016 (shapeCast S12x1920x1
    (multiReduction .maximumf [2] S12x1920 s 0xFF800000#32 reduces_S12x1920x2016_S12x1920 (.inl rfl) rfl)
    shapeCasts_S12x1920_S12x1920x1) broadcasts_S12x1920x1_S12x1920x2016))

/-- and under each column's, -/
def exC (s : FVec Ideal S12x1920x2016 .f32) : FVec Ideal S12x1920x2016 .f32 :=
  exp (subf s (broadcastTo S12x1920x2016 (shapeCast S12x1x2016
    (multiReduction .maximumf [1] S12x2016 s 0xFF800000#32 reduces_S12x1920x2016_S12x2016 (.inl rfl) rfl)
    shapeCasts_S12x2016_S12x1x2016) broadcasts_S12x1x2016_S12x1920x2016))

/-- each over its sum. -/
def nmR (e : FVec Ideal S12x1920x2016 .f32) : FVec Ideal S12x1920x2016 .f32 :=
  mulf e (broadcastTo S12x1920x2016 (divf (broadcast S12x1920x1 (Scalar.ofBits .f32 0x3F800000#32)) (shapeCast S12x1920x1
    (multiReduction .add [2] S12x1920 e 0x00000000#32 reduces_S12x1920x2016_S12x1920 (.inl rfl) rfl)
    shapeCasts_S12x1920_S12x1920x1)) broadcasts_S12x1920x1_S12x1920x2016)

def nmC (e : FVec Ideal S12x1920x2016 .f32) : FVec Ideal S12x1920x2016 .f32 :=
  mulf e (broadcastTo S12x1920x2016 (divf (broadcast S12x1x2016 (Scalar.ofBits .f32 0x3F800000#32)) (shapeCast S12x1x2016
    (multiReduction .add [1] S12x2016 e 0x00000000#32 reduces_S12x1920x2016_S12x2016 (.inl rfl) rfl)
    shapeCasts_S12x2016_S12x1x2016)) broadcasts_S12x1x2016_S12x1920x2016)

theorem pay3_stages : k0_pay3 a0 a2 a1 a3 = mulf (nmR (exR (scR a0 a1 a2 a3))) (nmC (exC (scR a0 a1 a2 a3))) := rfl

theorem scR_apply (p : S12x1920x2016.Idx) : scR a0 a1 a2 a3 p = score a0 a1 a2 a3 (p 0).val (p 1).val (p 2).val := by
  have h1 := (rowB_apply _ p).trans ((rowC_apply a1 (p 0) (p 1)).trans (at2_of a1 (a := (p 0).val) (b := (p 1).val) (ValueIdx.ix2 (p 0) (p 1)) rfl rfl))
  have h3 := (colB_apply _ p).trans ((colC_apply a3 (p 0) (p 2)).trans (at2_of a3 (a := (p 0).val) (b := (p 2).val) (ValueIdx.ix2 (p 0) (p 2)) rfl rfl))
  exact congrArg₂ (fun a b : EReal => a * b) (congrArg₂ (fun a b : EReal => a * b)
    (congrArg₂ (fun a b : EReal => a * b) (mm_apply a0 a2 p) h1) h3) temp_eq

variable {s : FVec Ideal S12x1920x2016 .f32} {S : ℕ → ℕ → ℕ → EReal} (hs : ∀ p, s p = S (p 0).val (p 1).val (p 2).val)
include hs

theorem exR_apply (p : S12x1920x2016.Idx) : exR s p = er (S (p 0).val) (p 1).val (p 2).val := by
  exact congrArg₂ (fun a b : EReal => Ideal.exp (a - b)) (hs p)
    ((rowB_apply _ p).trans ((rowC_apply _ (p 0) (p 1)).trans (maxR s S hs _)))

theorem exC_apply (p : S12x1920x2016.Idx) : exC s p = ec (S (p 0).val) (p 1).val (p 2).val := by
  exact congrArg₂ (fun a b : EReal => Ideal.exp (a - b)) (hs p)
    ((colB_apply _ p).trans ((colC_apply _ (p 0) (p 2)).trans (maxC s S hs _)))

theorem nmR_apply (p : S12x1920x2016.Idx) :
    nmR s p = S (p 0).val (p 1).val (p 2).val * Ideal.div 1 (sumN 2016 (S (p 0).val (p 1).val)) := by
  exact congrArg₂ (fun a b : EReal => a * b) (hs p)
    ((rowB_apply _ p).trans (congrArg₂ Ideal.div one_eq ((rowC_apply _ (p 0) (p 1)).trans (sumR s S hs _))))

theorem nmC_apply (p : S12x1920x2016.Idx) :
    nmC s p = S (p 0).val (p 1).val (p 2).val * Ideal.div 1 (sumN 1920 fun i => S (p 0).val i (p 2).val) := by
  exact congrArg₂ (fun a b : EReal => a * b) (hs p)
    ((colB_apply _ p).trans (congrArg₂ Ideal.div one_eq ((colC_apply _ (p 0) (p 2)).trans (sumC s S hs _))))

omit hs

theorem pay3_apply (p : S12x1920x2016.Idx) :
    k0_pay3 (F := Ideal) a0 a2 a1 a3 p = dual (score a0 a1 a2 a3 (p 0).val) (p 1).val (p 2).val := by
  rw [pay3_stages]
  have hs := scR_apply a0 a1 a2 a3
  exact congrArg₂ (fun a b : EReal => a * b)
    (nmR_apply (S := fun n => er (score a0 a1 a2 a3 n)) (exR_apply (S := score a0 a1 a2 a3) hs) p)
    (nmC_apply (S := fun n => ec (score a0 a1 a2 a3 n)) (exC_apply (S := score a0 a1 a2 a3) hs) p)

theorem G4_eq : Value.G4 (F := Ideal) a0 a1 a2 a3 = confOf a0 a1 a2 a3 := by
  funext p
  unfold Value.G4
  rw [pay5_eq]
  exact pay3_apply a0 a1 a2 a3 p

theorem G5_eq : Value.G5 (F := Ideal) a0 a1 a2 a3 = rmaxOf a0 a1 a2 a3 :=
  funext fun p => maxR _ (fun n => dual (score a0 a1 a2 a3 n)) (pay3_apply a0 a1 a2 a3) p

theorem G6_eq : Value.G6 (F := Ideal) a0 a1 a2 a3 = cmaxOf a0 a1 a2 a3 := by
  funext p
  refine maxC _ (fun n => dual (score a0 a1 a2 a3 n)) (fun q => ?_) p
  exact congrFun (G4_eq a0 a1 a2 a3) q

end Stages

end Cert.ReferenceIdeal.Gen
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.PipeK
public import proofs.«01_k».proof.Proof.PipeI
public import proofs.«01_k».proof.Proof.ValI
public import proofs.«01_k».proof.Proof.ValR

@[expose] public section

namespace Cert.Proof

open Idealize.ShloMosaic Idealize.SL.Sem

/-- The named constants: the table has each name, at its value. -/
theorem preserves : Cert.preserves_Kernel_KernelIdeal :=
  ⟨IdealRules.named_const.statement _ _ _ _ _ rfl, IdealRules.named_const.statement _ _ _ _ _ rfl⟩

/-- The kernel and the reference end with the same confidences and the same greatest ones: both are the problem's, of the
    arguments. -/
theorem algebraic : Cert.algebraic_KernelIdeal_ReferenceIdeal (hKernelIdeal := Cert.KernelIdeal.Gen.facts)
    (hReferenceIdeal := Cert.ReferenceIdeal.Gen.facts) := fun m g m' g' _ hm => by
  refine ⟨fun c => Cert.Dual.confOf (Cert.KernelIdeal.Gen.M0 m c) (Cert.KernelIdeal.Gen.M1 m c) (Cert.KernelIdeal.Gen.M2 m c)
      (Cert.KernelIdeal.Gen.M3 m c),
    fun c => Cert.Dual.rmaxOf (Cert.KernelIdeal.Gen.M0 m c) (Cert.KernelIdeal.Gen.M1 m c) (Cert.KernelIdeal.Gen.M2 m c)
      (Cert.KernelIdeal.Gen.M3 m c),
    fun c => Cert.Dual.cmaxOf (Cert.KernelIdeal.Gen.M0 m c) (Cert.KernelIdeal.Gen.M1 m c) (Cert.KernelIdeal.Gen.M2 m c)
      (Cert.KernelIdeal.Gen.M3 m c), Cert.KernelIdeal.Gen.values m g, ?_⟩
  refine (θ_run _ _ _).mono (fun r h c => ?_) (Cert.ReferenceIdeal.Value.run m' g')
  obtain ⟨e0, e1, e2, e3⟩ := hm c
  obtain ⟨h0, h1, h2, h3⟩ := h c
  refine ⟨h0.trans ((Cert.ReferenceIdeal.Gen.G4_eq _ _ _ _).trans ?_), h1.trans ((Cert.ReferenceIdeal.Gen.G5_eq _ _ _ _).trans ?_),
    h2.trans ((Cert.ReferenceIdeal.Gen.G6_eq _ _ _ _).trans ?_), h3⟩ <;>
  · rw [e0, e1, e2, e3]; rfl

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof
